-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_tokens_and_weights [hPre_finite_tokens_and_weights : Cert.Pre_finite_tokens_and_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_tokens_and_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_tokens_and_weights [hPre_finite_tokens_and_weights : Cert.Pre_finite_tokens_and_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_tokens_and_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sample_tokens_and_weights [hPre_finite_sample_tokens_and_weights : Cert.Pre_finite_sample_tokens_and_weights.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sample_tokens_and_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sample_tokens_and_weights [hPre_finite_sample_tokens_and_weights : Cert.Pre_finite_sample_tokens_and_weights.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sample_tokens_and_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_tokens_and_weights [hKernel2Ideal : Cert.Kernel2Ideal.Facts] [hPre_finite_tokens_and_weights : Cert.Pre_finite_tokens_and_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_tokens_and_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_tokens_and_weights [hReference2Ideal : Cert.Reference2Ideal.Facts] [hPre_finite_tokens_and_weights : Cert.Pre_finite_tokens_and_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_tokens_and_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_sample_tokens_and_weights [hKernel5Ideal : Cert.Kernel5Ideal.Facts] [hPre_finite_sample_tokens_and_weights : Cert.Pre_finite_sample_tokens_and_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sample_tokens_and_weights m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_sample_tokens_and_weights [hReference5Ideal : Cert.Reference5Ideal.Facts] [hPre_finite_sample_tokens_and_weights : Cert.Pre_finite_sample_tokens_and_weights.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sample_tokens_and_weights m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "exp_underflow" .f32 0xC2D00000#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_tokens_and_weights [hKernel2Ideal : Cert.Kernel2Ideal.Facts] [hReference2Ideal : Cert.Reference2Ideal.Facts] [hPre_finite_tokens_and_weights : Cert.Pre_finite_tokens_and_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_tokens_and_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)) (v4 : (c : Dev Cert.Kernel2Ideal.nD) → Buf (Elt Ideal) ((c.tc : Thread Cert.Kernel2Ideal.nD Cert.Kernel2Ideal.τ).loc Cert.Kernel2Ideal.main_v30_4)) (v5 : (c : Dev Cert.Kernel2Ideal.nD) → Buf (Elt Ideal) ((c.tc : Thread Cert.Kernel2Ideal.nD Cert.Kernel2Ideal.τ).loc Cert.Kernel2Ideal.main_v30_5)) (v6 : (c : Dev Cert.Kernel2Ideal.nD) → Buf (Elt Ideal) ((c.tc : Thread Cert.Kernel2Ideal.nD Cert.Kernel2Ideal.τ).loc Cert.Kernel2Ideal.main_v30_6)) (v7 : (c : Dev Cert.Kernel2Ideal.nD) → Buf (Elt Ideal) ((c.tc : Thread Cert.Kernel2Ideal.nD Cert.Kernel2Ideal.τ).loc Cert.Kernel2Ideal.main_v30_7)) (v8 : (c : Dev Cert.Kernel2Ideal.nD) → Buf (Elt Ideal) ((c.tc : Thread Cert.Kernel2Ideal.nD Cert.Kernel2Ideal.τ).loc Cert.Kernel2Ideal.main_v30_8)) (v9 : (c : Dev Cert.Kernel2Ideal.nD) → Buf (Elt Ideal) ((c.tc : Thread Cert.Kernel2Ideal.nD Cert.Kernel2Ideal.τ).loc Cert.Kernel2Ideal.main_v30_9)) (v10 : (c : Dev Cert.Kernel2Ideal.nD) → Buf (Elt Ideal) ((c.tc : Thread Cert.Kernel2Ideal.nD Cert.Kernel2Ideal.τ).loc Cert.Kernel2Ideal.main_v30_10)) (v11 : (c : Dev Cert.Kernel2Ideal.nD) → Buf (Elt Ideal) ((c.tc : Thread Cert.Kernel2Ideal.nD Cert.Kernel2Ideal.τ).loc Cert.Kernel2Ideal.main_v30_11)) (v12 : (c : Dev Cert.Kernel2Ideal.nD) → Buf (Elt Ideal) ((c.tc : Thread Cert.Kernel2Ideal.nD Cert.Kernel2Ideal.τ).loc Cert.Kernel2Ideal.main_v30_12)) (v13 : (c : Dev Cert.Kernel2Ideal.nD) → Buf (Elt Ideal) ((c.tc : Thread Cert.Kernel2Ideal.nD Cert.Kernel2Ideal.τ).loc Cert.Kernel2Ideal.main_v30_13)) (v14 : (c : Dev Cert.Kernel2Ideal.nD) → Buf (Elt Ideal) ((c.tc : Thread Cert.Kernel2Ideal.nD Cert.Kernel2Ideal.τ).loc Cert.Kernel2Ideal.main_v30_14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_v30_4) = v4 c
          ∧ r.2.mem ((c.tc : Thread Cert.Kernel2Ideal.nD Cert.Kernel2Ideal.τ).loc Cert.Kernel2Ideal.main_v30_5) = v5 c
          ∧ r.2.mem ((c.tc : Thread Cert.Kernel2Ideal.nD Cert.Kernel2Ideal.τ).loc Cert.Kernel2Ideal.main_v30_6) = v6 c
          ∧ r.2.mem ((c.tc : Thread Cert.Kernel2Ideal.nD Cert.Kernel2Ideal.τ).loc Cert.Kernel2Ideal.main_v30_7) = v7 c
          ∧ r.2.mem ((c.tc : Thread Cert.Kernel2Ideal.nD Cert.Kernel2Ideal.τ).loc Cert.Kernel2Ideal.main_v30_8) = v8 c
          ∧ r.2.mem ((c.tc : Thread Cert.Kernel2Ideal.nD Cert.Kernel2Ideal.τ).loc Cert.Kernel2Ideal.main_v30_9) = v9 c
          ∧ r.2.mem ((c.tc : Thread Cert.Kernel2Ideal.nD Cert.Kernel2Ideal.τ).loc Cert.Kernel2Ideal.main_v30_10) = v10 c
          ∧ r.2.mem ((c.tc : Thread Cert.Kernel2Ideal.nD Cert.Kernel2Ideal.τ).loc Cert.Kernel2Ideal.main_v30_11) = v11 c
          ∧ r.2.mem ((c.tc : Thread Cert.Kernel2Ideal.nD Cert.Kernel2Ideal.τ).loc Cert.Kernel2Ideal.main_v30_12) = v12 c
          ∧ r.2.mem ((c.tc : Thread Cert.Kernel2Ideal.nD Cert.Kernel2Ideal.τ).loc Cert.Kernel2Ideal.main_v30_13) = v13 c
          ∧ r.2.mem ((c.tc : Thread Cert.Kernel2Ideal.nD Cert.Kernel2Ideal.τ).loc Cert.Kernel2Ideal.main_v30_14) = v14 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_v89) = v1 c
          ∧ r.2.mem ((c.tc : Thread Cert.Reference2Ideal.nD Cert.Reference2Ideal.τ).loc Cert.Reference2Ideal.main_v90) = v2 c
          ∧ r.2.mem ((c.tc : Thread Cert.Reference2Ideal.nD Cert.Reference2Ideal.τ).loc Cert.Reference2Ideal.main_v91) = v3 c
          ∧ r.2.mem ((c.tc : Thread Cert.Reference2Ideal.nD Cert.Reference2Ideal.τ).loc Cert.Reference2Ideal.main_v92) = v4 c
          ∧ r.2.mem ((c.tc : Thread Cert.Reference2Ideal.nD Cert.Reference2Ideal.τ).loc Cert.Reference2Ideal.main_v96) = v5 c
          ∧ r.2.mem ((c.tc : Thread Cert.Reference2Ideal.nD Cert.Reference2Ideal.τ).loc Cert.Reference2Ideal.main_v97) = v6 c
          ∧ r.2.mem ((c.tc : Thread Cert.Reference2Ideal.nD Cert.Reference2Ideal.τ).loc Cert.Reference2Ideal.main_v101) = v7 c
          ∧ r.2.mem ((c.tc : Thread Cert.Reference2Ideal.nD Cert.Reference2Ideal.τ).loc Cert.Reference2Ideal.main_v107) = v8 c
          ∧ r.2.mem ((c.tc : Thread Cert.Reference2Ideal.nD Cert.Reference2Ideal.τ).loc Cert.Reference2Ideal.main_v108) = v9 c
          ∧ r.2.mem ((c.tc : Thread Cert.Reference2Ideal.nD Cert.Reference2Ideal.τ).loc Cert.Reference2Ideal.main_v111) = v10 c
          ∧ r.2.mem ((c.tc : Thread Cert.Reference2Ideal.nD Cert.Reference2Ideal.τ).loc Cert.Reference2Ideal.main_v112) = v11 c
          ∧ r.2.mem ((c.tc : Thread Cert.Reference2Ideal.nD Cert.Reference2Ideal.τ).loc Cert.Reference2Ideal.main_v113) = v12 c
          ∧ r.2.mem ((c.tc : Thread Cert.Reference2Ideal.nD Cert.Reference2Ideal.τ).loc Cert.Reference2Ideal.main_v114) = v13 c
          ∧ r.2.mem ((c.tc : Thread Cert.Reference2Ideal.nD Cert.Reference2Ideal.τ).loc Cert.Reference2Ideal.main_v115) = v14 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_sample_tokens_and_weights [hKernel5Ideal : Cert.Kernel5Ideal.Facts] [hReference5Ideal : Cert.Reference5Ideal.Facts] [hPre_finite_sample_tokens_and_weights : Cert.Pre_finite_sample_tokens_and_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sample_tokens_and_weights m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v30_0)) (v1 : (c : Dev Cert.Kernel5Ideal.nD) → Buf (Elt Ideal) ((c.tc : Thread Cert.Kernel5Ideal.nD Cert.Kernel5Ideal.τ).loc Cert.Kernel5Ideal.main_v30_1)) (v2 : (c : Dev Cert.Kernel5Ideal.nD) → Buf (Elt Ideal) ((c.tc : Thread Cert.Kernel5Ideal.nD Cert.Kernel5Ideal.τ).loc Cert.Kernel5Ideal.main_v30_2)) (v3 : (c : Dev Cert.Kernel5Ideal.nD) → Buf (Elt Ideal) ((c.tc : Thread Cert.Kernel5Ideal.nD Cert.Kernel5Ideal.τ).loc Cert.Kernel5Ideal.main_v30_3)) (v4 : (c : Dev Cert.Kernel5Ideal.nD) → Buf (Elt Ideal) ((c.tc : Thread Cert.Kernel5Ideal.nD Cert.Kernel5Ideal.τ).loc Cert.Kernel5Ideal.main_v30_4)) (v5 : (c : Dev Cert.Kernel5Ideal.nD) → Buf (Elt Ideal) ((c.tc : Thread Cert.Kernel5Ideal.nD Cert.Kernel5Ideal.τ).loc Cert.Kernel5Ideal.main_v30_5)) (v6 : (c : Dev Cert.Kernel5Ideal.nD) → Buf (Elt Ideal) ((c.tc : Thread Cert.Kernel5Ideal.nD Cert.Kernel5Ideal.τ).loc Cert.Kernel5Ideal.main_v30_6)) (v7 : (c : Dev Cert.Kernel5Ideal.nD) → Buf (Elt Ideal) ((c.tc : Thread Cert.Kernel5Ideal.nD Cert.Kernel5Ideal.τ).loc Cert.Kernel5Ideal.main_v30_7)) (v8 : (c : Dev Cert.Kernel5Ideal.nD) → Buf (Elt Ideal) ((c.tc : Thread Cert.Kernel5Ideal.nD Cert.Kernel5Ideal.τ).loc Cert.Kernel5Ideal.main_v30_8)) (v9 : (c : Dev Cert.Kernel5Ideal.nD) → Buf (Elt Ideal) ((c.tc : Thread Cert.Kernel5Ideal.nD Cert.Kernel5Ideal.τ).loc Cert.Kernel5Ideal.main_v30_9)) (v10 : (c : Dev Cert.Kernel5Ideal.nD) → Buf (Elt Ideal) ((c.tc : Thread Cert.Kernel5Ideal.nD Cert.Kernel5Ideal.τ).loc Cert.Kernel5Ideal.main_v30_10)) (v11 : (c : Dev Cert.Kernel5Ideal.nD) → Buf (Elt Ideal) ((c.tc : Thread Cert.Kernel5Ideal.nD Cert.Kernel5Ideal.τ).loc Cert.Kernel5Ideal.main_v30_11)) (v12 : (c : Dev Cert.Kernel5Ideal.nD) → Buf (Elt Ideal) ((c.tc : Thread Cert.Kernel5Ideal.nD Cert.Kernel5Ideal.τ).loc Cert.Kernel5Ideal.main_v30_12)) (v13 : (c : Dev Cert.Kernel5Ideal.nD) → Buf (Elt Ideal) ((c.tc : Thread Cert.Kernel5Ideal.nD Cert.Kernel5Ideal.τ).loc Cert.Kernel5Ideal.main_v30_13)) (v14 : (c : Dev Cert.Kernel5Ideal.nD) → Buf (Elt Ideal) ((c.tc : Thread Cert.Kernel5Ideal.nD Cert.Kernel5Ideal.τ).loc Cert.Kernel5Ideal.main_v30_14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30_0) = v0 c
          ∧ r.2.mem ((c.tc : Thread Cert.Kernel5Ideal.nD Cert.Kernel5Ideal.τ).loc Cert.Kernel5Ideal.main_v30_1) = v1 c
          ∧ r.2.mem ((c.tc : Thread Cert.Kernel5Ideal.nD Cert.Kernel5Ideal.τ).loc Cert.Kernel5Ideal.main_v30_2) = v2 c
          ∧ r.2.mem ((c.tc : Thread Cert.Kernel5Ideal.nD Cert.Kernel5Ideal.τ).loc Cert.Kernel5Ideal.main_v30_3) = v3 c
          ∧ r.2.mem ((c.tc : Thread Cert.Kernel5Ideal.nD Cert.Kernel5Ideal.τ).loc Cert.Kernel5Ideal.main_v30_4) = v4 c
          ∧ r.2.mem ((c.tc : Thread Cert.Kernel5Ideal.nD Cert.Kernel5Ideal.τ).loc Cert.Kernel5Ideal.main_v30_5) = v5 c
          ∧ r.2.mem ((c.tc : Thread Cert.Kernel5Ideal.nD Cert.Kernel5Ideal.τ).loc Cert.Kernel5Ideal.main_v30_6) = v6 c
          ∧ r.2.mem ((c.tc : Thread Cert.Kernel5Ideal.nD Cert.Kernel5Ideal.τ).loc Cert.Kernel5Ideal.main_v30_7) = v7 c
          ∧ r.2.mem ((c.tc : Thread Cert.Kernel5Ideal.nD Cert.Kernel5Ideal.τ).loc Cert.Kernel5Ideal.main_v30_8) = v8 c
          ∧ r.2.mem ((c.tc : Thread Cert.Kernel5Ideal.nD Cert.Kernel5Ideal.τ).loc Cert.Kernel5Ideal.main_v30_9) = v9 c
          ∧ r.2.mem ((c.tc : Thread Cert.Kernel5Ideal.nD Cert.Kernel5Ideal.τ).loc Cert.Kernel5Ideal.main_v30_10) = v10 c
          ∧ r.2.mem ((c.tc : Thread Cert.Kernel5Ideal.nD Cert.Kernel5Ideal.τ).loc Cert.Kernel5Ideal.main_v30_11) = v11 c
          ∧ r.2.mem ((c.tc : Thread Cert.Kernel5Ideal.nD Cert.Kernel5Ideal.τ).loc Cert.Kernel5Ideal.main_v30_12) = v12 c
          ∧ r.2.mem ((c.tc : Thread Cert.Kernel5Ideal.nD Cert.Kernel5Ideal.τ).loc Cert.Kernel5Ideal.main_v30_13) = v13 c
          ∧ r.2.mem ((c.tc : Thread Cert.Kernel5Ideal.nD Cert.Kernel5Ideal.τ).loc Cert.Kernel5Ideal.main_v30_14) = v14 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_v90) = v2 c
          ∧ r.2.mem ((c.tc : Thread Cert.Reference5Ideal.nD Cert.Reference5Ideal.τ).loc Cert.Reference5Ideal.main_v91) = v3 c
          ∧ r.2.mem ((c.tc : Thread Cert.Reference5Ideal.nD Cert.Reference5Ideal.τ).loc Cert.Reference5Ideal.main_v92) = v4 c
          ∧ r.2.mem ((c.tc : Thread Cert.Reference5Ideal.nD Cert.Reference5Ideal.τ).loc Cert.Reference5Ideal.main_v96) = v5 c
          ∧ r.2.mem ((c.tc : Thread Cert.Reference5Ideal.nD Cert.Reference5Ideal.τ).loc Cert.Reference5Ideal.main_v97) = v6 c
          ∧ r.2.mem ((c.tc : Thread Cert.Reference5Ideal.nD Cert.Reference5Ideal.τ).loc Cert.Reference5Ideal.main_v101) = v7 c
          ∧ r.2.mem ((c.tc : Thread Cert.Reference5Ideal.nD Cert.Reference5Ideal.τ).loc Cert.Reference5Ideal.main_v107) = v8 c
          ∧ r.2.mem ((c.tc : Thread Cert.Reference5Ideal.nD Cert.Reference5Ideal.τ).loc Cert.Reference5Ideal.main_v108) = v9 c
          ∧ r.2.mem ((c.tc : Thread Cert.Reference5Ideal.nD Cert.Reference5Ideal.τ).loc Cert.Reference5Ideal.main_v111) = v10 c
          ∧ r.2.mem ((c.tc : Thread Cert.Reference5Ideal.nD Cert.Reference5Ideal.τ).loc Cert.Reference5Ideal.main_v112) = v11 c
          ∧ r.2.mem ((c.tc : Thread Cert.Reference5Ideal.nD Cert.Reference5Ideal.τ).loc Cert.Reference5Ideal.main_v113) = v12 c
          ∧ r.2.mem ((c.tc : Thread Cert.Reference5Ideal.nD Cert.Reference5Ideal.τ).loc Cert.Reference5Ideal.main_v114) = v13 c
          ∧ r.2.mem ((c.tc : Thread Cert.Reference5Ideal.nD Cert.Reference5Ideal.τ).loc Cert.Reference5Ideal.main_v115) = v14 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_queries_and_keys : Cert.Pre_finite_queries_and_keys.Facts) (hPre_finite_tokens_and_weights : Cert.Pre_finite_tokens_and_weights.Facts) (hPre_finite_sample_tokens_and_weights : Cert.Pre_finite_sample_tokens_and_weights.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Kernel2Ideal_pre_finite_tokens_and_weights (hKernel2Ideal := hKernel2Ideal) (hPre_finite_tokens_and_weights := hPre_finite_tokens_and_weights)
    ∧ quiescent_Reference2Ideal (hReference2Ideal := hReference2Ideal)
    ∧ quiescent_Reference2Ideal_pre_finite_tokens_and_weights (hReference2Ideal := hReference2Ideal) (hPre_finite_tokens_and_weights := hPre_finite_tokens_and_weights)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_sample_tokens_and_weights (hKernel5Ideal := hKernel5Ideal) (hPre_finite_sample_tokens_and_weights := hPre_finite_sample_tokens_and_weights)
    ∧ quiescent_Reference5Ideal (hReference5Ideal := hReference5Ideal)
    ∧ quiescent_Reference5Ideal_pre_finite_sample_tokens_and_weights (hReference5Ideal := hReference5Ideal) (hPre_finite_sample_tokens_and_weights := hPre_finite_sample_tokens_and_weights)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal_pre_finite_tokens_and_weights (hKernel2Ideal := hKernel2Ideal) (hReference2Ideal := hReference2Ideal) (hPre_finite_tokens_and_weights := hPre_finite_tokens_and_weights)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_sample_tokens_and_weights (hKernel5Ideal := hKernel5Ideal) (hReference5Ideal := hReference5Ideal) (hPre_finite_sample_tokens_and_weights := hPre_finite_sample_tokens_and_weights)
-- ==== Pre_finite_queries_and_keys.lean ====
abbrev S2x8192x512 : Shape := ⟨3, ![2, 8192, 512]⟩
abbrev S2x8192x256 : Shape := ⟨3, ![2, 8192, 256]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8192x256 : S_.BroadcastsInDim S2x8192x256 (![] : Fin 0 → Fin S2x8192x256.rank)
  reducesTo_S2x8192x256_S_d0_1_2 : S2x8192x256.ReducesTo [0, 1, 2] S_

variable [Facts]

def fn {F : FTy → Type} [FloatOps F] (main_arg0 : FVec F S2x8192x512 .bf16) (main_arg1 : FVec F S2x8192x256 .bf16) (main_arg2 : FVec F S2x8192x256 .bf16) : IVec S_ 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x8192x256 .f32 := (extf .f32 · bitsLt_bf16_f32) main_arg1
  let main_v6 : FVec F S2x8192x256 .f32 := Host.absf main_v5
  let main_cst_0 : FVec F S_ .f32 := constant S_ .f32 0x7F800000#32
  let main_v7 : FVec F S2x8192x256 .f32 := broadcastInDim S2x8192x256 ![] bcast_S_S2x8192x256 main_cst_0
  let main_v8 : IVec S2x8192x256 1 := cmpf .olt main_v6 main_v7
  let main_c_1 : IVec S_ 1 := constantI S_ 1 1#1
  let main_v9 : IVec S_ 1 := (fun x v => Host.reduce IntOp.andi x v reducesTo_S2x8192x256_S_d0_1_2 h_S_) main_v8 main_c_1
  let main_v10 : IVec S_ 1 := andi main_v4 main_v9
  main_v10
-- ==== Pre_finite_sample_tokens_and_weights.lean ====
abbrev S512x1024 : Shape := ⟨2, ![512, 1024]⟩
abbrev S1024 : Shape := ⟨1, ![1024]⟩
abbrev S1024x3352 : Shape := ⟨2, ![1024, 3352]⟩
abbrev S64 : Shape := ⟨1, ![64]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3352 : S_.BroadcastsInDim S1024x3352 (![] : Fin 0 → Fin S1024x3352.rank)
  reducesTo_S1024x3352_S_d0_1 : S1024x3352.ReducesTo [0, 1] S_

variable [Facts]

def fn {F : FTy → Type} [FloatOps F] (main_arg0 : FVec F S512x1024 .f32) (main_arg1 : FVec F S1024 .f32) (main_arg2 : FVec F S1024x3352 .f32) (main_arg3 : FVec F S64 .f32) (main_arg4 : FVec F S64 .f32) (main_arg5 : FVec F S64 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3352 .f32 := Host.absf main_arg2
  let main_cst_2 : FVec F S_ .f32 := constant S_ .f32 0x7F800000#32
  let main_v10 : FVec F S1024x3352 .f32 := broadcastInDim S1024x3352 ![] bcast_S_S1024x3352 main_cst_2
  let main_v11 : IVec S1024x3352 1 := cmpf .olt main_v9 main_v10
  let main_c_3 : IVec S_ 1 := constantI S_ 1 1#1
  let main_v12 : IVec S_ 1 := (fun x v => Host.reduce IntOp.andi x v reducesTo_S1024x3352_S_d0_1 h_S_) main_v11 main_c_3
  let main_v13 : IVec S_ 1 := andi main_v8 main_v12
  main_v13
-- ==== Pre_finite_tokens_and_weights.lean ====
abbrev S16384x1024 : Shape := ⟨2, ![16384, 1024]⟩
abbrev S1024 : Shape := ⟨1, ![1024]⟩
abbrev S1024x3352 : Shape := ⟨2, ![1024, 3352]⟩
abbrev S64 : Shape := ⟨1, ![64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3352 : S_.BroadcastsInDim S1024x3352 (![] : Fin 0 → Fin S1024x3352.rank)
  reducesTo_S1024x3352_S_d0_1 : S1024x3352.ReducesTo [0, 1] S_

variable [Facts]

def fn {F : FTy → Type} [FloatOps F] (main_arg0 : FVec F S16384x1024 .f32) (main_arg1 : FVec F S1024 .f32) (main_arg2 : FVec F S1024x3352 .f32) (main_arg3 : FVec F S64 .f32) (main_arg4 : FVec F S64 .f32) (main_arg5 : FVec F S64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3352 .f32 := Host.absf main_arg2
  let main_cst_2 : FVec F S_ .f32 := constant S_ .f32 0x7F800000#32
  let main_v10 : FVec F S1024x3352 .f32 := broadcastInDim S1024x3352 ![] bcast_S_S1024x3352 main_cst_2
  let main_v11 : IVec S1024x3352 1 := cmpf .olt main_v9 main_v10
  let main_c_3 : IVec S_ 1 := constantI S_ 1 1#1
  let main_v12 : IVec S_ 1 := (fun x v => Host.reduce IntOp.andi x v reducesTo_S1024x3352_S_d0_1 h_S_) main_v11 main_c_3
  let main_v13 : IVec S_ 1 := andi main_v8 main_v12
  main_v13
-- ==== Kernel.lean ====
abbrev S2x8192x512 : Shape := ⟨3, ![2, 8192, 512]⟩
abbrev S2x8192x256 : Shape := ⟨3, ![2, 8192, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x512 : Shape := ⟨3, ![1, 128, 512]⟩
abbrev S1x8192x256 : Shape := ⟨3, ![1, 8192, 256]⟩
abbrev S2x512x128 : Shape := ⟨3, ![2, 512, 128]⟩
abbrev S512x128 : Shape := ⟨2, ![512, 128]⟩
abbrev S1x128x128 : Shape := ⟨3, ![1, 128, 128]⟩
abbrev S1x512x128 : Shape := ⟨3, ![1, 512, 128]⟩
abbrev S512 : Shape := ⟨1, ![512]⟩
abbrev S512x1 : Shape := ⟨2, ![512, 1]⟩
abbrev S1 : Shape := ⟨1, ![1]⟩
abbrev S1x1x1 : Shape := ⟨3, ![1, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x512, .bf16⟩
  | .hbm, ⟨1, _⟩ => ⟨S2x8192x256, .bf16⟩
  | .hbm, ⟨2, _⟩ => ⟨S2x8192x256, .bf16⟩
  | .hbm, ⟨3, _⟩ => ⟨S128, .i32⟩
  | .hbm, ⟨4, _⟩ => ⟨S128x1, .i32⟩
  | .hbm, ⟨5, _⟩ => ⟨S128, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .f32⟩
  | .hbm, ⟨11, _⟩ => ⟨S128x128, .bf16⟩
  | .hbm, ⟨12, _⟩ => ⟨S2x8192x512, .f32⟩
  | .local _ .vmem, ⟨0, _⟩ => ⟨S1x128x512, .bf16⟩
  | .local _ .vmem, ⟨1, _⟩ => ⟨S1x128x512, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S128x128, .bf16⟩
  | .local _ .vmem, ⟨7, _⟩ => ⟨S1x128x512, .f32⟩
  | .local _ .vmem, ⟨8, _⟩ => ⟨S1x128x512, .f32⟩
  | .local _ .vmem, ⟨9, _⟩ => ⟨S2x512x128, .bf16⟩
  | .local _ .vmem, ⟨10, _⟩ => ⟨S2x512x128, .f32⟩
  | .local _ .vmem, ⟨11, _⟩ => ⟨S2x512x128, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c0_i32 : BitVec 32 := 0#32
  let v65 : BitVec 32 := Scalar.subi arg1 c0_i32
  let c128_i32_44 : BitVec 32 := 128#32
  let v66 : BitVec 32 := Scalar.muli v65 c128_i32_44
  v66
def k0_off1 (i : grid0.Coords) : Fin 3 → Nat :=
  let c0_45 : Index := 0#32
  let arg1 : BitVec 32 := BitVec.ofNat 32 (i 1).val
  let c0_i32 : BitVec 32 := 0#32
  let v65 : BitVec 32 := Scalar.subi arg1 c0_i32
  let c128_i32_44 : BitVec 32 := 128#32
  let v66 : BitVec 32 := Scalar.muli v65 c128_i32_44
  let v67 : BitVec 32 := v66
  let v71 : Index := Scalar.indexCast v67
  let c0_46 : Index := 0#32
  ![0, v71.toNat, 0]
def k0_off2 (i : grid0.Coords) : Fin 3 → Nat :=
  let c0_78 : Index := 0#32
  let arg1 : BitVec 32 := BitVec.ofNat 32 (i 1).val
  let c0_i32 : BitVec 32 := 0#32
  let v65 : BitVec 32 := Scalar.subi arg1 c0_i32
  let c128_i32_44 : BitVec 32 := 128#32
  let v66 : BitVec 32 := Scalar.muli v65 c128_i32_44
  let v67 : BitVec 32 := v66
  let v126 : Index := Scalar.indexCast v67
  let c128_79 : Index := 128#32
  ![0, v126.toNat, 128]
def k0_cond1 (i : grid0.Coords) : BitVec 1 :=
  let arg1 : BitVec 32 := BitVec.ofNat 32 (i 1).val
  let c1_i32 : BitVec 32 := 1#32
  let v64 : BitVec 32 := Scalar.addi arg1 c1_i32
  let c1_i32_111 : BitVec 32 := 1#32
  let v181 : BitVec 32 := Scalar.subi v64 c1_i32_111
  let c1_i32_112 : BitVec 32 := 1#32
  let v182 : BitVec 32 := Scalar.andi v181 c1_i32_112
  let c1_i32_113 : BitVec 32 := 1#32
  let v183 : BitVec 1 := Scalar.cmpi .eq v182 c1_i32_113
  let v184 : BitVec 32 := Scalar.extui v183
  let c0_i32_114 : BitVec 32 := 0#32
  let v185 : BitVec 1 := Scalar.cmpi .ne v184 c0_i32_114
  v185

def k0_mult2 (i : grid0.Coords) : BitVec 32 :=
  let arg1 : BitVec 32 := BitVec.ofNat 32 (i 1).val
  let c1_i32_162 : BitVec 32 := 1#32
  let v231 : BitVec 32 := Scalar.subi arg1 c1_i32_162
  let c128_i32_163 : BitVec 32 := 128#32
  let v232 : BitVec 32 := Scalar.muli v231 c128_i32_163
  v232
def k0_off3 (i : grid0.Coords) : Fin 3 → Nat :=
  let c0_164 : Index := 0#32
  let arg1 : BitVec 32 := BitVec.ofNat 32 (i 1).val
  let c1_i32_162 : BitVec 32 := 1#32
  let v231 : BitVec 32 := Scalar.subi arg1 c1_i32_162
  let c128_i32_163 : BitVec 32 := 128#32
  let v232 : BitVec 32 := Scalar.muli v231 c128_i32_163
  let v233 : BitVec 32 := v232
  let v234 : Index := Scalar.indexCast v233
  let c0_165 : Index := 0#32
  ![0, v234.toNat, 0]
def k0_off4 (i : grid0.Coords) : Fin 3 → Nat :=
  let c0_195 : Index := 0#32
  let arg1 : BitVec 32 := BitVec.ofNat 32 (i 1).val
  let c1_i32_162 : BitVec 32 := 1#32
  let v231 : BitVec 32 := Scalar.subi arg1 c1_i32_162
  let c128_i32_163 : BitVec 32 := 128#32
  let v232 : BitVec 32 := Scalar.muli v231 c128_i32_163
  let v233 : BitVec 32 := v232
  let v285 : Index := Scalar.indexCast v233
  let c128_196 : Index := 128#32
  ![0, v285.toNat, 128]
def k0_mult3 (i : grid0.Coords) (arg10 : BitVec 32) : BitVec 32 :=
  let arg1 : BitVec 32 := BitVec.ofNat 32 (i 1).val
  let c1_i32_115 : BitVec 32 := 1#32
  let c1_i32 : BitVec 32 := 1#32
  let v64 : BitVec 32 := Scalar.addi arg1 c1_i32
  let c1_i32_111 : BitVec 32 := 1#32
  let v181 : BitVec 32 := Scalar.subi v64 c1_i32_111
  let c1_i32_112 : BitVec 32 := 1#32
  let v182 : BitVec 32 := Scalar.andi v181 c1_i32_112
  let v186 : BitVec 32 := Scalar.addi c1_i32_115 v182
  let c2_i32 : BitVec 32 := 2#32
  let v231 : BitVec 32 := Scalar.muli c2_i32 arg10
  let v232 : BitVec 32 := Scalar.addi v186 v231
  let v233 : BitVec 32 := Scalar.subi arg1 v232
  let c128_i32_162 : BitVec 32 := 128#32
  let v234 : BitVec 32 := Scalar.muli v233 c128_i32_162
  v234

def k0_off5 (i : grid0.Coords) (arg10 : BitVec 32) : Fin 3 → Nat :=
  let c0_163 : Index := 0#32
  let arg1 : BitVec 32 := BitVec.ofNat 32 (i 1).val
  let c1_i32_115 : BitVec 32 := 1#32
  let c1_i32 : BitVec 32 := 1#32
  let v64 : BitVec 32 := Scalar.addi arg1 c1_i32
  let c1_i32_111 : BitVec 32 := 1#32
  let v181 : BitVec 32 := Scalar.subi v64 c1_i32_111
  let c1_i32_112 : BitVec 32 := 1#32
  let v182 : BitVec 32 := Scalar.andi v181 c1_i32_112
  let v186 : BitVec 32 := Scalar.addi c1_i32_115 v182
  let c2_i32 : BitVec 32 := 2#32
  let v231 : BitVec 32 := Scalar.muli c2_i32 arg10
  let v232 : BitVec 32 := Scalar.addi v186 v231
  let v233 : BitVec 32 := Scalar.subi arg1 v232
  let c128_i32_162 : BitVec 32 := 128#32
  let v234 : BitVec 32 := Scalar.muli v233 c128_i32_162
  let v235 : BitVec 32 := v234
  let v236 : Index := Scalar.indexCast v235
  let c0_164 : Index := 0#32
  ![0, v236.toNat, 0]
def k0_off6 (i : grid0.Coords) (arg10 : BitVec 32) : Fin 3 → Nat :=
  let c0_194 : Index := 0#32
  let arg1 : BitVec 32 := BitVec.ofNat 32 (i 1).val
  let c1_i32_115 : BitVec 32 := 1#32
  let c1_i32 : BitVec 32 := 1#32
  let v64 : BitVec 32 := Scalar.addi arg1 c1_i32
  let c1_i32_111 : BitVec 32 := 1#32
  let v181 : BitVec 32 := Scalar.subi v64 c1_i32_111
  let c1_i32_112 : BitVec 32 := 1#32
  let v182 : BitVec 32 := Scalar.andi v181 c1_i32_112
  let v186 : BitVec 32 := Scalar.addi c1_i32_115 v182
  let c2_i32 : BitVec 32 := 2#32
  let v231 : BitVec 32 := Scalar.muli c2_i32 arg10
  let v232 : BitVec 32 := Scalar.addi v186 v231
  let v233 : BitVec 32 := Scalar.subi arg1 v232
  let c128_i32_162 : BitVec 32 := 128#32
  let v234 : BitVec 32 := Scalar.muli v233 c128_i32_162
  let v235 : BitVec 32 := v234
  let v287 : Index := Scalar.indexCast v235
  let c128_195 : Index := 128#32
  ![0, v287.toNat, 128]
def k0_mult4 (i : grid0.Coords) (arg10 : BitVec 32) : BitVec 32 :=
  let arg1 : BitVec 32 := BitVec.ofNat 32 (i 1).val
  let c1_i32_115 : BitVec 32 := 1#32
  let c1_i32 : BitVec 32 := 1#32
  let v64 : BitVec 32 := Scalar.addi arg1 c1_i32
  let c1_i32_111 : BitVec 32 := 1#32
  let v181 : BitVec 32 := Scalar.subi v64 c1_i32_111
  let c1_i32_112 : BitVec 32 := 1#32
  let v182 : BitVec 32 := Scalar.andi v181 c1_i32_112
  let v186 : BitVec 32 := Scalar.addi c1_i32_115 v182
  let c2_i32_225 : BitVec 32 := 2#32
  let v338 : BitVec 32 := Scalar.muli c2_i32_225 arg10
  let v339 : BitVec 32 := Scalar.addi v186 v338
  let c1_i32_226 : BitVec 32 := 1#32
  let v340 : BitVec 32 := Scalar.addi v339 c1_i32_226
  let v341 : BitVec 32 := Scalar.subi arg1 v340
  let c128_i32_227 : BitVec 32 := 128#32
  let v342 : BitVec 32 := Scalar.muli v341 c128_i32_227
  v342
def k0_off7 (i : grid0.Coords) (arg10 : BitVec 32) : Fin 3 → Nat :=
  let c0_228 : Index := 0#32
  let arg1 : BitVec 32 := BitVec.ofNat 32 (i 1).val
  let c1_i32_115 : BitVec 32 := 1#32
  let c1_i32 : BitVec 32 := 1#32
  let v64 : BitVec 32 := Scalar.addi arg1 c1_i32
  let c1_i32_111 : BitVec 32 := 1#32
  let v181 : BitVec 32 := Scalar.subi v64 c1_i32_111
  let c1_i32_112 : BitVec 32 := 1#32
  let v182 : BitVec 32 := Scalar.andi v181 c1_i32_112
  let v186 : BitVec 32 := Scalar.addi c1_i32_115 v182
  let c2_i32_225 : BitVec 32 := 2#32
  let v338 : BitVec 32 := Scalar.muli c2_i32_225 arg10
  let v339 : BitVec 32 := Scalar.addi v186 v338
  let c1_i32_226 : BitVec 32 := 1#32
  let v340 : BitVec 32 := Scalar.addi v339 c1_i32_226
  let v341 : BitVec 32 := Scalar.subi arg1 v340
  let c128_i32_227 : BitVec 32 := 128#32
  let v342 : BitVec 32 := Scalar.muli v341 c128_i32_227
  let v343 : BitVec 32 := v342
  let v344 : Index := Scalar.indexCast v343
  let c0_229 : Index := 0#32
  ![0, v344.toNat, 0]
def k0_off8 (i : grid0.Coords) (arg10 : BitVec 32) : Fin 3 → Nat :=
  let c0_259 : Index := 0#32
  let arg1 : BitVec 32 := BitVec.ofNat 32 (i 1).val
  let c1_i32_115 : BitVec 32 := 1#32
  let c1_i32 : BitVec 32 := 1#32
  let v64 : BitVec 32 := Scalar.addi arg1 c1_i32
  let c1_i32_111 : BitVec 32 := 1#32
  let v181 : BitVec 32 := Scalar.subi v64 c1_i32_111
  let c1_i32_112 : BitVec 32 := 1#32
  let v182 : BitVec 32 := Scalar.andi v181 c1_i32_112
  let v186 : BitVec 32 := Scalar.addi c1_i32_115 v182
  let c2_i32_225 : BitVec 32 := 2#32
  let v338 : BitVec 32 := Scalar.muli c2_i32_225 arg10
  let v339 : BitVec 32 := Scalar.addi v186 v338
  let c1_i32_226 : BitVec 32 := 1#32
  let v340 : BitVec 32 := Scalar.addi v339 c1_i32_226
  let v341 : BitVec 32 := Scalar.subi arg1 v340
  let c128_i32_227 : BitVec 32 := 128#32
  let v342 : BitVec 32 := Scalar.muli v341 c128_i32_227
  let v343 : BitVec 32 := v342
  let v395 : Index := Scalar.indexCast v343
  let c128_260 : Index := 128#32
  ![0, v395.toNat, 128]

def k0_chk1 (i : grid0.Coords) (arg10 : BitVec 32) : Prop :=
  (128 ∣ (k0_mult3 i arg10).toNat) ∧
  (∀ a, (k0_off5 i arg10) a + S1x128x128.size a ≤ S1x8192x256.size a) ∧
  (∀ a, (k0_off6 i arg10) a + S1x128x128.size a ≤ S1x8192x256.size a) ∧
  (128 ∣ (k0_mult4 i arg10).toNat) ∧
  (∀ a, (k0_off7 i arg10) a + S1x128x128.size a ≤ S1x8192x256.size a) ∧
  (∀ a, (k0_off8 i arg10) a + S1x128x128.size a ≤ S1x8192x256.size a)
theorem k0_mult3_dvd : ∀ (i : grid0.Coords) (arg10 : BitVec 32) (k0_hw1 : k0_chk1 i arg10), 128 ∣ (k0_mult3 i arg10).toNat := fun i arg10 k0_hw1 => k0_hw1.1
theorem k0_off5_inb : ∀ (i : grid0.Coords) (arg10 : BitVec 32) (k0_hw1 : k0_chk1 i arg10), ∀ a, (k0_off5 i arg10) a + S1x128x128.size a ≤ S1x8192x256.size a := fun i arg10 k0_hw1 => k0_hw1.2.1
theorem k0_off6_inb : ∀ (i : grid0.Coords) (arg10 : BitVec 32) (k0_hw1 : k0_chk1 i arg10), ∀ a, (k0_off6 i arg10) a + S1x128x128.size a ≤ S1x8192x256.size a := fun i arg10 k0_hw1 => k0_hw1.2.2.1
theorem k0_mult4_dvd : ∀ (i : grid0.Coords) (arg10 : BitVec 32) (k0_hw1 : k0_chk1 i arg10), 128 ∣ (k0_mult4 i arg10).toNat := fun i arg10 k0_hw1 => k0_hw1.2.2.2.1
theorem k0_off7_inb : ∀ (i : grid0.Coords) (arg10 : BitVec 32) (k0_hw1 : k0_chk1 i arg10), ∀ a, (k0_off7 i arg10) a + S1x128x128.size a ≤ S1x8192x256.size a := fun i arg10 k0_hw1 => k0_hw1.2.2.2.2.1
theorem k0_off8_inb : ∀ (i : grid0.Coords) (arg10 : BitVec 32) (k0_hw1 : k0_chk1 i arg10), ∀ a, (k0_off8 i arg10) a + S1x128x128.size a ≤ S1x8192x256.size a := fun i arg10 k0_hw1 => k0_hw1.2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "exp_underflow" => some ⊥
  | _ => none
-- ==== ReferenceIdeal.lean ====
abbrev S2x8192x512 : Shape := ⟨3, ![2, 8192, 512]⟩
abbrev S2x8192x256 : Shape := ⟨3, ![2, 8192, 256]⟩
abbrev S2x8192x2x2x2x64 : Shape := ⟨6, ![2, 8192, 2, 2, 2, 64]⟩
abbrev S2x8192x4x2x64 : Shape := ⟨5, ![2, 8192, 4, 2, 64]⟩
abbrev S2x8192x4x64 : Shape := ⟨4, ![2, 8192, 4, 64]⟩
abbrev S2x4x8192x8192x2 : Shape := ⟨5, ![2, 4, 8192, 8192, 2]⟩
abbrev S2x4x2x8192x8192 : Shape := ⟨5, ![2, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x4x64x2x8192 : Shape := ⟨5, ![2, 4, 64, 2, 8192]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x256, .bf16⟩
  | .hbm, ⟨2, _⟩ => ⟨S2x8192x256, .bf16⟩
  | .hbm, ⟨3, _⟩ => ⟨S2x8192x512, .f32⟩
  | .hbm, ⟨4, _⟩ => ⟨S2x8192x2x2x2x64, .f32⟩
  | .hbm, ⟨5, _⟩ => ⟨S2x8192x2x2x2x64, .f32⟩
  | .hbm, ⟨6, _⟩ => ⟨S2x8192x4x2x64, .f32⟩
  | .hbm, ⟨7, _⟩ => ⟨S2x8192x256, .f32⟩
  | .hbm, ⟨8, _⟩ => ⟨S2x8192x4x64, .f32⟩
  | .hbm, ⟨9, _⟩ => ⟨S2x8192x256, .f32⟩
  | .hbm, ⟨10, _⟩ => ⟨S2x8192x4x64, .f32⟩
  | .hbm, ⟨11, _⟩ => ⟨S2x4x8192x8192x2, .f32⟩
  | .hbm, ⟨12, _⟩ => ⟨S2x4x2x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S2x4x2x8192x8192, .f32⟩
  | .hbm, ⟨21, _⟩ => ⟨S2x4x2x8192x8192, .f32⟩
  | .hbm, ⟨22, _⟩ => ⟨S_, .f32⟩
  | .hbm, ⟨23, _⟩ => ⟨S2x4x2x8192x8192, .f32⟩
  | .hbm, ⟨24, _⟩ => ⟨S2x4x2x8192x8192, .f32⟩
  | .hbm, ⟨25, _⟩ => ⟨S2x4x2x8192x8192, .f32⟩
  | .hbm, ⟨26, _⟩ => ⟨S2x4x2x8192x8192, .f32⟩
  | .hbm, ⟨27, _⟩ => ⟨S2x4x2x8192x8192, .i1⟩
  | .hbm, ⟨28, _⟩ => ⟨S2x4x2x8192x8192, .f32⟩
  | .hbm, ⟨29, _⟩ => ⟨S2x4x2x8192x8192, .f32⟩
  | .hbm, ⟨30, _⟩ => ⟨S2x4x2x8192x8192, .f32⟩
  | .hbm, ⟨31, _⟩ => ⟨S2x4x2x8192x8192, .f32⟩
  | .hbm, ⟨32, _⟩ => ⟨S2x4x2x8192x8192, .f32⟩
  | .hbm, ⟨33, _⟩ => ⟨S2x4x2x8192x8192, .f32⟩
  | .hbm, ⟨34, _⟩ => ⟨S2x4x2x8192x8192, .f32⟩
  | .hbm, ⟨35, _⟩ => ⟨S2x4x2x8192x8192, .f32⟩
  | .hbm, ⟨36, _⟩ => ⟨S2x4x2x8192x8192, .f32⟩
  | .hbm, ⟨37, _⟩ => ⟨S_, .f32⟩
  | .hbm, ⟨38, _⟩ => ⟨S_, .f32⟩
  | .hbm, ⟨39, _⟩ => ⟨S2x4x2x8192x8192, .i1⟩
  | .hbm, ⟨40, _⟩ => ⟨S2x4x2x8192x8192, .f32⟩
  | .hbm, ⟨41, _⟩ => ⟨S2x4x2x8192x8192, .f32⟩
  | .hbm, ⟨42, _⟩ => ⟨S_, .f32⟩
  | .hbm, ⟨43, _⟩ => ⟨S_, .f32⟩
  | .hbm, ⟨44, _⟩ => ⟨S2x4x2x8192x8192, .f32⟩
  | .hbm, ⟨45, _⟩ => ⟨S2x4x2x8192x8192, .f32⟩
  | .hbm, ⟨46, _⟩ => ⟨S2x4x2x8192x8192, .f32⟩
  | .hbm, ⟨47, _⟩ => ⟨S_, .f32⟩
  | .hbm, ⟨48, _⟩ => ⟨S2x4x2x8192x8192, .f32⟩
  | .hbm, ⟨49, _⟩ => ⟨S2x4x2x8192x8192, .f32⟩
  | .hbm, ⟨50, _⟩ => ⟨S2x4x2x8192x8192, .f32⟩
  | .hbm, ⟨51, _⟩ => ⟨S2x4x2x8192x8192, .f32⟩
  | .hbm, ⟨52, _⟩ => ⟨S2x4x2x8192x8192, .i1⟩
  | .hbm, ⟨53, _⟩ => ⟨S2x4x2x8192x8192, .f32⟩
  | .hbm, ⟨54, _⟩ => ⟨S2x4x2x8192x8192, .f32⟩
  | .hbm, ⟨55, _⟩ => ⟨S2x4x2x8192x8192, .f32⟩
  | .hbm, ⟨56, _⟩ => ⟨S2x4x2x8192x8192, .f32⟩
  | .hbm, ⟨57, _⟩ => ⟨S2x4x2x8192x8192, .f32⟩
  | .hbm, ⟨58, _⟩ => ⟨S2x4x2x8192x8192, .f32⟩
  | .hbm, ⟨59, _⟩ => ⟨S2x4x2x8192x8192, .f32⟩
  | .hbm, ⟨60, _⟩ => ⟨S2x4x2x8192x8192, .f32⟩
  | .hbm, ⟨61, _⟩ => ⟨S2x4x2x8192x8192, .f32⟩
  | .hbm, ⟨62, _⟩ => ⟨S2x4x2x8192x8192, .f32⟩
  | .hbm, ⟨63, _⟩ => ⟨S2x4x2x8192x8192, .f32⟩
  | .hbm, ⟨64, _⟩ => ⟨S_, .f32⟩
  | .hbm, ⟨65, _⟩ => ⟨S_, .f32⟩
  | .hbm, ⟨66, _⟩ => ⟨S2x4x2x8192x8192, .i1⟩
  | .hbm, ⟨67, _⟩ => ⟨S2x4x2x8192x8192, .f32⟩
  | .hbm, ⟨68, _⟩ => ⟨S2x4x2x8192x8192, .f32⟩
  | .hbm, ⟨69, _⟩ => ⟨S2x4x64x2x8192, .f32⟩
  | .hbm, ⟨70, _⟩ => ⟨S2x8192x4x2x64, .f32⟩
  | .hbm, ⟨71, _⟩ => ⟨S2x8192x2x2x2x64, .f32⟩
  | .hbm, ⟨72, _⟩ => ⟨S2x8192x2x2x2x64, .f32⟩
  | .hbm, ⟨73, _⟩ => ⟨S2x8192x512, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x3352 : Shape := ⟨2, ![1024, 3352]⟩
abbrev S64 : Shape := ⟨1, ![64]⟩
abbrev S3352 : Shape := ⟨1, ![3352]⟩
abbrev S_ : Shape := ⟨0, ![]⟩
abbrev S3352x1 : Shape := ⟨2, ![3352, 1]⟩
abbrev S1024x3456 : Shape := ⟨2, ![1024, 3456]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S1x64 : Shape := ⟨2, ![1, 64]⟩
abbrev S2x64 : Shape := ⟨2, ![2, 64]⟩
abbrev S16384x512 : Shape := ⟨2, ![16384, 512]⟩
abbrev S16384x256 : Shape := ⟨2, ![16384, 256]⟩
abbrev S16384x128 : Shape := ⟨2, ![16384, 128]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x128 : Shape := ⟨2, ![1024, 128]⟩

abbrev nBuf : Space → Nat
  | .hbm => 57
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3352, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S3352, .i32⟩
  | .hbm, ⟨7, _⟩ => ⟨S3352, .i1⟩
  | .hbm, ⟨8, _⟩ => ⟨S_, .i32⟩
  | .hbm, ⟨9, _⟩ => ⟨S3352, .i32⟩
  | .hbm, ⟨10, _⟩ => ⟨S3352, .i32⟩
  | .hbm, ⟨11, _⟩ => ⟨S3352, .i32⟩
  | .hbm, ⟨12, _⟩ => ⟨S3352x1, .i32⟩
  | .hbm, ⟨13, _⟩ => ⟨S1024x3352, .f32⟩
  | .hbm, ⟨14, _⟩ => ⟨S_, .i32⟩
  | .hbm, ⟨15, _⟩ => ⟨S_, .f32⟩
  | .hbm, ⟨16, _⟩ => ⟨S1024x3456, .f32⟩
  | .hbm, ⟨17, _⟩ => ⟨S1024x3456, .bf16⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128x1, .i1⟩
  | .hbm, ⟨23, _⟩ => ⟨S1x128, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .f32⟩
  | .hbm, ⟨28, _⟩ => ⟨S128x128, .bf16⟩
  | .hbm, ⟨29, _⟩ => ⟨S1x1024, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S16384x512, .bf16⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x128, .bf16⟩
  | .hbm, ⟨47, _⟩ => ⟨S16384x256, .bf16⟩
  | .hbm, ⟨48, _⟩ => ⟨S16384x128, .bf16⟩
  | .hbm, ⟨49, _⟩ => ⟨S16384x256, .bf16⟩
  | .hbm, ⟨50, _⟩ => ⟨S16384x128, .f32⟩
  | .hbm, ⟨51, _⟩ => ⟨S16384x512, .f32⟩
  | .hbm, ⟨52, _⟩ => ⟨S16384x512, .bf16⟩
  | .hbm, ⟨53, _⟩ => ⟨S16384x512, .f32⟩
  | .hbm, ⟨54, _⟩ => ⟨S16384x256, .bf16⟩
  | .hbm, ⟨55, _⟩ => ⟨S16384x256, .bf16⟩
  | .hbm, ⟨56, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S256x512, .bf16⟩
  | .local _ .vmem, ⟨9, _⟩ => ⟨S256x512, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x128, .bf16⟩
  | .local _ .vmem, ⟨17, _⟩ => ⟨S256x128, .bf16⟩
  | .local _ .vmem, ⟨18, _⟩ => ⟨S256x256, .bf16⟩
  | .local _ .vmem, ⟨19, _⟩ => ⟨S256x256, .bf16⟩
  | .local _ .vmem, ⟨20, _⟩ => ⟨S256x128, .bf16⟩
  | .local _ .vmem, ⟨21, _⟩ => ⟨S256x128, .bf16⟩
  | .local _ .vmem, ⟨22, _⟩ => ⟨S256x256, .bf16⟩
  | .local _ .vmem, ⟨23, _⟩ => ⟨S256x256, .bf16⟩
  | .local _ .vmem, ⟨24, _⟩ => ⟨S256x128, .f32⟩
  | .local _ .vmem, ⟨25, _⟩ => ⟨S256x128, .f32⟩
  | .local _ .vmem, ⟨26, _⟩ => ⟨S256x512, .f32⟩
  | .local _ .vmem, ⟨27, _⟩ => ⟨S256x512, .f32⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S256x256, .bf16⟩
  | .local _ .vmem, ⟨33, _⟩ => ⟨S256x256, .bf16⟩
  | .local _ .vmem, ⟨34, _⟩ => ⟨S256x256, .bf16⟩
  | .local _ .vmem, ⟨35, _⟩ => ⟨S256x256, .bf16⟩
  | .local _ .vmem, ⟨36, _⟩ => ⟨S256x512, .f32⟩
  | .local _ .vmem, ⟨37, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev main_v30_7 : Ref sig .tc := ⟨.hbm, 49, rfl⟩
abbrev main_v30_8 : Ref sig .tc := ⟨.hbm, 50, rfl⟩
abbrev main_v30_9 : Ref sig .tc := ⟨.hbm, 51, rfl⟩
abbrev main_v30_10 : Ref sig .tc := ⟨.hbm, 52, rfl⟩
abbrev main_v30_11 : Ref sig .tc := ⟨.hbm, 53, rfl⟩
abbrev main_v30_12 : Ref sig .tc := ⟨.hbm, 54, rfl⟩
abbrev main_v30_13 : Ref sig .tc := ⟨.hbm, 55, rfl⟩
abbrev main_v30_14 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel2Ideal.lean ====
abbrev S16384x1024 : Shape := ⟨2, ![16384, 1024]⟩
abbrev S1024 : Shape := ⟨1, ![1024]⟩
abbrev S1024x3352 : Shape := ⟨2, ![1024, 3352]⟩
abbrev S64 : Shape := ⟨1, ![64]⟩
abbrev S3352 : Shape := ⟨1, ![3352]⟩
abbrev S_ : Shape := ⟨0, ![]⟩
abbrev S3352x1 : Shape := ⟨2, ![3352, 1]⟩
abbrev S1024x3456 : Shape := ⟨2, ![1024, 3456]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S1x64 : Shape := ⟨2, ![1, 64]⟩
abbrev S2x64 : Shape := ⟨2, ![2, 64]⟩
abbrev S16384x512 : Shape := ⟨2, ![16384, 512]⟩
abbrev S16384x256 : Shape := ⟨2, ![16384, 256]⟩
abbrev S16384x128 : Shape := ⟨2, ![16384, 128]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x128 : Shape := ⟨2, ![1024, 128]⟩

abbrev nBuf : Space → Nat
  | .hbm => 57
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3352, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S3352, .i32⟩
  | .hbm, ⟨7, _⟩ => ⟨S3352, .i1⟩
  | .hbm, ⟨8, _⟩ => ⟨S_, .i32⟩
  | .hbm, ⟨9, _⟩ => ⟨S3352, .i32⟩
  | .hbm, ⟨10, _⟩ => ⟨S3352, .i32⟩
  | .hbm, ⟨11, _⟩ => ⟨S3352, .i32⟩
  | .hbm, ⟨12, _⟩ => ⟨S3352x1, .i32⟩
  | .hbm, ⟨13, _⟩ => ⟨S1024x3352, .f32⟩
  | .hbm, ⟨14, _⟩ => ⟨S_, .i32⟩
  | .hbm, ⟨15, _⟩ => ⟨S_, .f32⟩
  | .hbm, ⟨16, _⟩ => ⟨S1024x3456, .f32⟩
  | .hbm, ⟨17, _⟩ => ⟨S1024x3456, .bf16⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128x1, .i1⟩
  | .hbm, ⟨23, _⟩ => ⟨S1x128, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .f32⟩
  | .hbm, ⟨28, _⟩ => ⟨S128x128, .bf16⟩
  | .hbm, ⟨29, _⟩ => ⟨S1x1024, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S16384x512, .bf16⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x128, .bf16⟩
  | .hbm, ⟨47, _⟩ => ⟨S16384x256, .bf16⟩
  | .hbm, ⟨48, _⟩ => ⟨S16384x128, .bf16⟩
  | .hbm, ⟨49, _⟩ => ⟨S16384x256, .bf16⟩
  | .hbm, ⟨50, _⟩ => ⟨S16384x128, .f32⟩
  | .hbm, ⟨51, _⟩ => ⟨S16384x512, .f32⟩
  | .hbm, ⟨52, _⟩ => ⟨S16384x512, .bf16⟩
  | .hbm, ⟨53, _⟩ => ⟨S16384x512, .f32⟩
  | .hbm, ⟨54, _⟩ => ⟨S16384x256, .bf16⟩
  | .hbm, ⟨55, _⟩ => ⟨S16384x256, .bf16⟩
  | .hbm, ⟨56, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S256x512, .bf16⟩
  | .local _ .vmem, ⟨9, _⟩ => ⟨S256x512, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x128, .bf16⟩
  | .local _ .vmem, ⟨17, _⟩ => ⟨S256x128, .bf16⟩
  | .local _ .vmem, ⟨18, _⟩ => ⟨S256x256, .bf16⟩
  | .local _ .vmem, ⟨19, _⟩ => ⟨S256x256, .bf16⟩
  | .local _ .vmem, ⟨20, _⟩ => ⟨S256x128, .bf16⟩
  | .local _ .vmem, ⟨21, _⟩ => ⟨S256x128, .bf16⟩
  | .local _ .vmem, ⟨22, _⟩ => ⟨S256x256, .bf16⟩
  | .local _ .vmem, ⟨23, _⟩ => ⟨S256x256, .bf16⟩
  | .local _ .vmem, ⟨24, _⟩ => ⟨S256x128, .f32⟩
  | .local _ .vmem, ⟨25, _⟩ => ⟨S256x128, .f32⟩
  | .local _ .vmem, ⟨26, _⟩ => ⟨S256x512, .f32⟩
  | .local _ .vmem, ⟨27, _⟩ => ⟨S256x512, .f32⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S256x256, .bf16⟩
  | .local _ .vmem, ⟨33, _⟩ => ⟨S256x256, .bf16⟩
  | .local _ .vmem, ⟨34, _⟩ => ⟨S256x256, .bf16⟩
  | .local _ .vmem, ⟨35, _⟩ => ⟨S256x256, .bf16⟩
  | .local _ .vmem, ⟨36, _⟩ => ⟨S256x512, .f32⟩
  | .local _ .vmem, ⟨37, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev main_v30_7 : Ref sig .tc := ⟨.hbm, 49, rfl⟩
abbrev main_v30_8 : Ref sig .tc := ⟨.hbm, 50, rfl⟩
abbrev main_v30_9 : Ref sig .tc := ⟨.hbm, 51, rfl⟩
abbrev main_v30_10 : Ref sig .tc := ⟨.hbm, 52, rfl⟩
abbrev main_v30_11 : Ref sig .tc := ⟨.hbm, 53, rfl⟩
abbrev main_v30_12 : Ref sig .tc := ⟨.hbm, 54, rfl⟩
abbrev main_v30_13 : Ref sig .tc := ⟨.hbm, 55, rfl⟩
abbrev main_v30_14 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S16384x1024 : Shape := ⟨2, ![16384, 1024]⟩
abbrev S1024 : Shape := ⟨1, ![1024]⟩
abbrev S1024x3352 : Shape := ⟨2, ![1024, 3352]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3352 : Shape := ⟨2, ![16384, 3352]⟩
abbrev S16384x512 : Shape := ⟨2, ![16384, 512]⟩
abbrev S16384x128 : Shape := ⟨2, ![16384, 128]⟩
abbrev S16384x24 : Shape := ⟨2, ![16384, 24]⟩
abbrev S16384x256 : Shape := ⟨2, ![16384, 256]⟩
abbrev S16384x2x4x64 : Shape := ⟨4, ![16384, 2, 4, 64]⟩
abbrev S16384x4x2x64 : Shape := ⟨4, ![16384, 4, 2, 64]⟩
abbrev S16384x2x2x2x64 : Shape := ⟨5, ![16384, 2, 2, 2, 64]⟩
abbrev S16384x64 : Shape := ⟨2, ![16384, 64]⟩
abbrev S16384x2x64 : Shape := ⟨3, ![16384, 2, 64]⟩
abbrev S16384x2 : Shape := ⟨2, ![16384, 2]⟩
abbrev S16384x2x1 : Shape := ⟨3, ![16384, 2, 1]⟩
abbrev S1x1x64 : Shape := ⟨3, ![1, 1, 64]⟩
abbrev S16384x8x64 : Shape := ⟨3, ![16384, 8, 64]⟩
abbrev S16384x8 : Shape := ⟨2, ![16384, 8]⟩
abbrev S16384x8x1 : Shape := ⟨3, ![16384, 8, 1]⟩

abbrev nBuf : Space → Nat
  | .hbm => 157
  | .vmem => 0
  | .smem => 0
  | _ => 0

abbrev hbmTy0_0 (i : Nat) : BufTy := match i % 128 with
  | 0 => ⟨S16384x1024, .f32⟩
  | 1 => ⟨S1024, .f32⟩
  | 2 => ⟨S1024x3352, .f32⟩
  | 3 => ⟨S64, .f32⟩
  | 4 => ⟨S64, .f32⟩
  | 5 => ⟨S64, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x3352, .f32⟩
  | 23 => ⟨S16384x512, .f32⟩
  | 24 => ⟨S16384x128, .f32⟩
  | 25 => ⟨S16384x128, .f32⟩
  | 26 => ⟨S16384x128, .f32⟩
  | 27 => ⟨S16384x128, .f32⟩
  | 28 => ⟨S16384x128, .f32⟩
  | 29 => ⟨S16384x128, .f32⟩
  | 30 => ⟨S16384x24, .f32⟩
  | 31 => ⟨S16384x512, .f32⟩
  | 32 => ⟨S16384x512, .f32⟩
  | 33 => ⟨S16384x256, .f32⟩
  | 34 => ⟨S16384x256, .f32⟩
  | 35 => ⟨S16384x512, .f32⟩
  | 36 => ⟨S16384x2x4x64, .f32⟩
  | 37 => ⟨S16384x4x2x64, .f32⟩
  | 38 => ⟨S16384x512, .f32⟩
  | 39 => ⟨S16384x2x4x64, .f32⟩
  | 40 => ⟨S16384x4x2x64, .f32⟩
  | 41 => ⟨S16384x512, .f32⟩
  | 42 => ⟨S16384x2x2x2x64, .f32⟩
  | 43 => ⟨S16384x2x2x2x64, .f32⟩
  | 44 => ⟨S16384x512, .f32⟩
  | 45 => ⟨S16384x2x2x2x64, .f32⟩
  | 46 => ⟨S16384x2x2x2x64, .f32⟩
  | 47 => ⟨S16384x512, .f32⟩
  | 48 => ⟨S_, .i32⟩
  | 49 => ⟨S_, .f32⟩
  | 50 => ⟨S16384x128, .f32⟩
  | 51 => ⟨S_, .f32⟩
  | 52 => ⟨S16384x64, .f32⟩
  | 53 => ⟨S16384x2x64, .f32⟩
  | 54 => ⟨S16384x2x64, .f32⟩
  | 55 => ⟨S_, .f32⟩
  | 56 => ⟨S16384x2, .f32⟩
  | 57 => ⟨S16384x2x1, .f32⟩
  | 58 => ⟨S_, .f32⟩
  | 59 => ⟨S16384x2x1, .f32⟩
  | 60 => ⟨S16384x2x1, .f32⟩
  | 61 => ⟨S_, .f32⟩
  | 62 => ⟨S16384x2x1, .f32⟩
  | 63 => ⟨S16384x2x1, .f32⟩
  | 64 => ⟨S16384x2x1, .f32⟩
  | 65 => ⟨S16384x2x64, .f32⟩
  | 66 => ⟨S16384x2x64, .f32⟩
  | 67 => ⟨S1x1x64, .f32⟩
  | 68 => ⟨S16384x2x64, .f32⟩
  | 69 => ⟨S16384x2x64, .f32⟩
  | 70 => ⟨S16384x128, .f32⟩
  | 71 => ⟨S16384x2x64, .f32⟩
  | 72 => ⟨S16384x2x64, .f32⟩
  | 73 => ⟨S_, .f32⟩
  | 74 => ⟨S16384x2, .f32⟩
  | 75 => ⟨S16384x2x1, .f32⟩
  | 76 => ⟨S_, .f32⟩
  | 77 => ⟨S16384x2x1, .f32⟩
  | 78 => ⟨S16384x2x1, .f32⟩
  | 79 => ⟨S_, .f32⟩
  | 80 => ⟨S16384x2x1, .f32⟩
  | 81 => ⟨S16384x2x1, .f32⟩
  | 82 => ⟨S16384x2x1, .f32⟩
  | 83 => ⟨S16384x2x64, .f32⟩
  | 84 => ⟨S16384x2x64, .f32⟩
  | 85 => ⟨S1x1x64, .f32⟩
  | 86 => ⟨S16384x2x64, .f32⟩
  | 87 => ⟨S16384x2x64, .f32⟩
  | 88 => ⟨S16384x128, .f32⟩
  | 89 => ⟨S16384x8x64, .f32⟩
  | 90 => ⟨S16384x8x64, .f32⟩
  | 91 => ⟨S_, .f32⟩
  | 92 => ⟨S16384x8, .f32⟩
  | 93 => ⟨S16384x8x1, .f32⟩
  | 94 => ⟨S_, .f32⟩
  | 95 => ⟨S16384x8x1, .f32⟩
  | 96 => ⟨S16384x8x1, .f32⟩
  | 97 => ⟨S_, .f32⟩
  | 98 => ⟨S16384x8x1, .f32⟩
  | 99 => ⟨S16384x8x1, .f32⟩
  | 100 => ⟨S16384x8x1, .f32⟩
  | 101 => ⟨S16384x8x64, .f32⟩
  | 102 => ⟨S16384x8x64, .f32⟩
  | 103 => ⟨S1x1x64, .f32⟩
  | 104 => ⟨S16384x8x64, .f32⟩
  | 105 => ⟨S16384x8x64, .f32⟩
  | 106 => ⟨S16384x512, .f32⟩
  | 107 => ⟨S_, .f32⟩
  | 108 => ⟨S16384x512, .f32⟩
  | 109 => ⟨S16384x512, .f32⟩
  | 110 => ⟨S16384x512, .bf16⟩
  | 111 => ⟨S16384x256, .f32⟩
  | 112 => ⟨S16384x256, .f32⟩
  | 113 => ⟨S16384x256, .f32⟩
  | 114 => ⟨S16384x128, .bf16⟩
  | 115 => ⟨S16384x64, .f32⟩
  | 116 => ⟨S16384x64, .f32⟩
  | 117 => ⟨S16384x256, .f32⟩
  | 118 => ⟨S16384x256, .bf16⟩
  | 119 => ⟨S16384x128, .bf16⟩
  | 120 => ⟨S16384x64, .f32⟩
  | 121 => ⟨S16384x64, .f32⟩
  | 122 => ⟨S16384x256, .f32⟩
  | 123 => ⟨S16384x256, .bf16⟩
  | 124 => ⟨S16384x128, .f32⟩
  | 125 => ⟨S16384x128, .f32⟩
  | 126 => ⟨S_, .f32⟩
  | 127 => ⟨S16384x128, .f32⟩
  | _ => ⟨S16384x1024, .f32⟩

abbrev hbmTy0_1 (i : Nat) : BufTy := match i % 128 with
  | 0 => ⟨S16384x128, .f32⟩
  | 1 => ⟨S_, .f32⟩
  | 2 => ⟨S16384x128, .f32⟩
  | 3 => ⟨S16384x128, .f32⟩
  | 4 => ⟨S16384x512, .f32⟩
  | 5 => ⟨S16384x512, .f32⟩
  | 6 => ⟨S_, .f32⟩
  | 7 => ⟨S16384x512, .f32⟩
  | 8 => ⟨S16384x512, .f32⟩
  | 9 => ⟨S_, .f32⟩
  | 10 => ⟨S16384x512, .f32⟩
  | 11 => ⟨S16384x512, .f32⟩
  | 12 => ⟨S16384x512, .f32⟩
  | 13 => ⟨S_, .f32⟩
  | 14 => ⟨S16384x512, .f32⟩
  | 15 => ⟨S16384x512, .f32⟩
  | 16 => ⟨S16384x512, .bf16⟩
  | 17 => ⟨S16384x512, .f32⟩
  | 18 => ⟨S16384x256, .bf16⟩
  | 19 => ⟨S16384x256, .bf16⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S_, .f32⟩
  | 26 => ⟨S16384x512, .f32⟩
  | 27 => ⟨S16384x512, .f32⟩
  | 28 => ⟨S16384x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c : Ref sig .tc := ⟨.hbm, 48, rfl⟩
abbrev main_call0_v0 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_cst_10 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_13 : Ref sig .tc := ⟨.hbm, 126, rfl⟩
abbrev main_v104 : Ref sig .tc := ⟨.hbm, 127, rfl⟩
abbrev main_v105 : Ref sig .tc := ⟨.hbm, 128, rfl⟩
abbrev main_cst_14 : Ref sig .tc := ⟨.hbm, 129, rfl⟩
abbrev main_v106 : Ref sig .tc := ⟨.hbm, 130, rfl⟩
abbrev main_v107 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v108 : Ref sig .tc := ⟨.hbm, 140, rfl⟩
abbrev main_cst_15 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_call2_v0 : Ref sig .tc := ⟨.hbm, 148, rfl⟩
abbrev main_call2_v1 : Ref sig .tc := ⟨.hbm, 149, rfl⟩
abbrev main_call2_cst : Ref sig .tc := ⟨.hbm, 150, rfl⟩
abbrev main_call2_v2 : Ref sig .tc := ⟨.hbm, 151, rfl⟩
abbrev main_call2_v3 : Ref sig .tc := ⟨.hbm, 152, rfl⟩
abbrev main_call2_cst_0 : Ref sig .tc := ⟨.hbm, 153, rfl⟩
abbrev main_call2_v4 : Ref sig .tc := ⟨.hbm, 154, rfl⟩
abbrev main_call2_v5 : Ref sig .tc := ⟨.hbm, 155, rfl⟩
abbrev main_v115 : Ref sig .tc := ⟨.hbm, 156, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1024x1024 : Shape := ⟨2, ![1024, 1024]⟩
abbrev S256x1024 : Shape := ⟨2, ![256, 1024]⟩
abbrev S256x512 : Shape := ⟨2, ![256, 512]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1024x1024, .bf16⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
abbrev S16384x1024 : Shape := ⟨2, ![16384, 1024]⟩
abbrev S16384x512 : Shape := ⟨2, ![16384, 512]⟩
abbrev S1024x1024 : Shape := ⟨2, ![1024, 1024]⟩
abbrev S256x1024 : Shape := ⟨2, ![256, 1024]⟩
abbrev S256x512 : Shape := ⟨2, ![256, 512]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1024x1024, .bf16⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S16384x512 : Shape := ⟨2, ![16384, 512]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1024x1024, .bf16⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel4.lean ====
abbrev S512x1024 : Shape := ⟨2, ![512, 1024]⟩
abbrev S512x512 : Shape := ⟨2, ![512, 512]⟩
abbrev S1024x1024 : Shape := ⟨2, ![1024, 1024]⟩
abbrev S256x1024 : Shape := ⟨2, ![256, 1024]⟩
abbrev S256x512 : Shape := ⟨2, ![256, 512]⟩

abbrev nBuf : Space → Nat
  | .hbm => 7
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S1024x1024, .bf16⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S512x1024 : Shape := ⟨2, ![512, 1024]⟩
abbrev S512x512 : Shape := ⟨2, ![512, 512]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S1024x1024, .bf16⟩
  | .hbm, ⟨6, _⟩ => ⟨S512x512, .f32⟩
  | .hbm, ⟨7, _⟩ => ⟨S512x512, .f32⟩
  | .hbm, ⟨8, _⟩ => ⟨S512x1024, .f32⟩
  | .hbm, ⟨9, _⟩ => ⟨S1024x1024, .f32⟩
  | .hbm, ⟨10, _⟩ => ⟨S512x1024, .f32⟩
  | .hbm, ⟨11, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel5.lean ====
abbrev S512x1024 : Shape := ⟨2, ![512, 1024]⟩
abbrev S1024 : Shape := ⟨1, ![1024]⟩
abbrev S1024x3352 : Shape := ⟨2, ![1024, 3352]⟩
abbrev S64 : Shape := ⟨1, ![64]⟩
abbrev S3352 : Shape := ⟨1, ![3352]⟩
abbrev S_ : Shape := ⟨0, ![]⟩
abbrev S3352x1 : Shape := ⟨2, ![3352, 1]⟩
abbrev S1024x3456 : Shape := ⟨2, ![1024, 3456]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S1x64 : Shape := ⟨2, ![1, 64]⟩
abbrev S2x64 : Shape := ⟨2, ![2, 64]⟩
abbrev S512x512 : Shape := ⟨2, ![512, 512]⟩
abbrev S512x256 : Shape := ⟨2, ![512, 256]⟩
abbrev S512x128 : Shape := ⟨2, ![512, 128]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x128 : Shape := ⟨2, ![1024, 128]⟩

abbrev nBuf : Space → Nat
  | .hbm => 57
  | .vmem => 38
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3352, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S3352, .i32⟩
  | .hbm, ⟨7, _⟩ => ⟨S3352, .i1⟩
  | .hbm, ⟨8, _⟩ => ⟨S_, .i32⟩
  | .hbm, ⟨9, _⟩ => ⟨S3352, .i32⟩
  | .hbm, ⟨10, _⟩ => ⟨S3352, .i32⟩
  | .hbm, ⟨11, _⟩ => ⟨S3352, .i32⟩
  | .hbm, ⟨12, _⟩ => ⟨S3352x1, .i32⟩
  | .hbm, ⟨13, _⟩ => ⟨S1024x3352, .f32⟩
  | .hbm, ⟨14, _⟩ => ⟨S_, .i32⟩
  | .hbm, ⟨15, _⟩ => ⟨S_, .f32⟩
  | .hbm, ⟨16, _⟩ => ⟨S1024x3456, .f32⟩
  | .hbm, ⟨17, _⟩ => ⟨S1024x3456, .bf16⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128x1, .i1⟩
  | .hbm, ⟨23, _⟩ => ⟨S1x128, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .f32⟩
  | .hbm, ⟨28, _⟩ => ⟨S128x128, .bf16⟩
  | .hbm, ⟨29, _⟩ => ⟨S1x1024, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S512x512, .bf16⟩
  | .hbm, ⟨43, _⟩ => ⟨S512x256, .f32⟩
  | .hbm, ⟨44, _⟩ => ⟨S512x256, .f32⟩
  | .hbm, ⟨45, _⟩ => ⟨S512x256, .f32⟩
  | .hbm, ⟨46, _⟩ => ⟨S512x128, .bf16⟩
  | .hbm, ⟨47, _⟩ => ⟨S512x256, .bf16⟩
  | .hbm, ⟨48, _⟩ => ⟨S512x128, .bf16⟩
  | .hbm, ⟨49, _⟩ => ⟨S512x256, .bf16⟩
  | .hbm, ⟨50, _⟩ => ⟨S512x128, .f32⟩
  | .hbm, ⟨51, _⟩ => ⟨S512x512, .f32⟩
  | .hbm, ⟨52, _⟩ => ⟨S512x512, .bf16⟩
  | .hbm, ⟨53, _⟩ => ⟨S512x512, .f32⟩
  | .hbm, ⟨54, _⟩ => ⟨S512x256, .bf16⟩
  | .hbm, ⟨55, _⟩ => ⟨S512x256, .bf16⟩
  | .hbm, ⟨56, _⟩ => ⟨S512x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S256x512, .bf16⟩
  | .local _ .vmem, ⟨9, _⟩ => ⟨S256x512, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x128, .bf16⟩
  | .local _ .vmem, ⟨17, _⟩ => ⟨S256x128, .bf16⟩
  | .local _ .vmem, ⟨18, _⟩ => ⟨S256x256, .bf16⟩
  | .local _ .vmem, ⟨19, _⟩ => ⟨S256x256, .bf16⟩
  | .local _ .vmem, ⟨20, _⟩ => ⟨S256x128, .bf16⟩
  | .local _ .vmem, ⟨21, _⟩ => ⟨S256x128, .bf16⟩
  | .local _ .vmem, ⟨22, _⟩ => ⟨S256x256, .bf16⟩
  | .local _ .vmem, ⟨23, _⟩ => ⟨S256x256, .bf16⟩
  | .local _ .vmem, ⟨24, _⟩ => ⟨S256x128, .f32⟩
  | .local _ .vmem, ⟨25, _⟩ => ⟨S256x128, .f32⟩
  | .local _ .vmem, ⟨26, _⟩ => ⟨S256x512, .f32⟩
  | .local _ .vmem, ⟨27, _⟩ => ⟨S256x512, .f32⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S256x256, .bf16⟩
  | .local _ .vmem, ⟨33, _⟩ => ⟨S256x256, .bf16⟩
  | .local _ .vmem, ⟨34, _⟩ => ⟨S256x256, .bf16⟩
  | .local _ .vmem, ⟨35, _⟩ => ⟨S256x256, .bf16⟩
  | .local _ .vmem, ⟨36, _⟩ => ⟨S256x512, .f32⟩
  | .local _ .vmem, ⟨37, _⟩ => ⟨S256x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev main_v30_7 : Ref sig .tc := ⟨.hbm, 49, rfl⟩
abbrev main_v30_8 : Ref sig .tc := ⟨.hbm, 50, rfl⟩
abbrev main_v30_9 : Ref sig .tc := ⟨.hbm, 51, rfl⟩
abbrev main_v30_10 : Ref sig .tc := ⟨.hbm, 52, rfl⟩
abbrev main_v30_11 : Ref sig .tc := ⟨.hbm, 53, rfl⟩
abbrev main_v30_12 : Ref sig .tc := ⟨.hbm, 54, rfl⟩
abbrev main_v30_13 : Ref sig .tc := ⟨.hbm, 55, rfl⟩
abbrev main_v30_14 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference5Ideal.lean ====
abbrev S512x1024 : Shape := ⟨2, ![512, 1024]⟩
abbrev S1024 : Shape := ⟨1, ![1024]⟩
abbrev S1024x3352 : Shape := ⟨2, ![1024, 3352]⟩
abbrev S64 : Shape := ⟨1, ![64]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x3352 : Shape := ⟨2, ![512, 3352]⟩
abbrev S512x512 : Shape := ⟨2, ![512, 512]⟩
abbrev S512x128 : Shape := ⟨2, ![512, 128]⟩
abbrev S512x24 : Shape := ⟨2, ![512, 24]⟩
abbrev S512x256 : Shape := ⟨2, ![512, 256]⟩
abbrev S512x2x4x64 : Shape := ⟨4, ![512, 2, 4, 64]⟩
abbrev S512x4x2x64 : Shape := ⟨4, ![512, 4, 2, 64]⟩
abbrev S512x2x2x2x64 : Shape := ⟨5, ![512, 2, 2, 2, 64]⟩
abbrev S512x64 : Shape := ⟨2, ![512, 64]⟩
abbrev S512x2x64 : Shape := ⟨3, ![512, 2, 64]⟩
abbrev S512x2 : Shape := ⟨2, ![512, 2]⟩
abbrev S512x2x1 : Shape := ⟨3, ![512, 2, 1]⟩
abbrev S1x1x64 : Shape := ⟨3, ![1, 1, 64]⟩
abbrev S512x8x64 : Shape := ⟨3, ![512, 8, 64]⟩
abbrev S512x8 : Shape := ⟨2, ![512, 8]⟩
abbrev S512x8x1 : Shape := ⟨3, ![512, 8, 1]⟩

abbrev nBuf : Space → Nat
  | .hbm => 157
  | .vmem => 0
  | .smem => 0
  | _ => 0

abbrev hbmTy0_0 (i : Nat) : BufTy := match i % 128 with
  | 0 => ⟨S512x1024, .f32⟩
  | 1 => ⟨S1024, .f32⟩
  | 2 => ⟨S1024x3352, .f32⟩
  | 3 => ⟨S64, .f32⟩
  | 4 => ⟨S64, .f32⟩
  | 5 => ⟨S64, .f32⟩
  | 6 => ⟨S512x1024, .f32⟩
  | 7 => ⟨S_, .f32⟩
  | 8 => ⟨S512, .f32⟩
  | 9 => ⟨S512x1, .f32⟩
  | 10 => ⟨S_, .f32⟩
  | 11 => ⟨S512x1, .f32⟩
  | 12 => ⟨S512x1, .f32⟩
  | 13 => ⟨S_, .f32⟩
  | 14 => ⟨S512x1, .f32⟩
  | 15 => ⟨S512x1, .f32⟩
  | 16 => ⟨S512x1, .f32⟩
  | 17 => ⟨S512x1024, .f32⟩
  | 18 => ⟨S512x1024, .f32⟩
  | 19 => ⟨S1x1024, .f32⟩
  | 20 => ⟨S512x1024, .f32⟩
  | 21 => ⟨S512x1024, .f32⟩
  | 22 => ⟨S512x3352, .f32⟩
  | 23 => ⟨S512x512, .f32⟩
  | 24 => ⟨S512x128, .f32⟩
  | 25 => ⟨S512x128, .f32⟩
  | 26 => ⟨S512x128, .f32⟩
  | 27 => ⟨S512x128, .f32⟩
  | 28 => ⟨S512x128, .f32⟩
  | 29 => ⟨S512x128, .f32⟩
  | 30 => ⟨S512x24, .f32⟩
  | 31 => ⟨S512x512, .f32⟩
  | 32 => ⟨S512x512, .f32⟩
  | 33 => ⟨S512x256, .f32⟩
  | 34 => ⟨S512x256, .f32⟩
  | 35 => ⟨S512x512, .f32⟩
  | 36 => ⟨S512x2x4x64, .f32⟩
  | 37 => ⟨S512x4x2x64, .f32⟩
  | 38 => ⟨S512x512, .f32⟩
  | 39 => ⟨S512x2x4x64, .f32⟩
  | 40 => ⟨S512x4x2x64, .f32⟩
  | 41 => ⟨S512x512, .f32⟩
  | 42 => ⟨S512x2x2x2x64, .f32⟩
  | 43 => ⟨S512x2x2x2x64, .f32⟩
  | 44 => ⟨S512x512, .f32⟩
  | 45 => ⟨S512x2x2x2x64, .f32⟩
  | 46 => ⟨S512x2x2x2x64, .f32⟩
  | 47 => ⟨S512x512, .f32⟩
  | 48 => ⟨S_, .i32⟩
  | 49 => ⟨S_, .f32⟩
  | 50 => ⟨S512x128, .f32⟩
  | 51 => ⟨S_, .f32⟩
  | 52 => ⟨S512x64, .f32⟩
  | 53 => ⟨S512x2x64, .f32⟩
  | 54 => ⟨S512x2x64, .f32⟩
  | 55 => ⟨S_, .f32⟩
  | 56 => ⟨S512x2, .f32⟩
  | 57 => ⟨S512x2x1, .f32⟩
  | 58 => ⟨S_, .f32⟩
  | 59 => ⟨S512x2x1, .f32⟩
  | 60 => ⟨S512x2x1, .f32⟩
  | 61 => ⟨S_, .f32⟩
  | 62 => ⟨S512x2x1, .f32⟩
  | 63 => ⟨S512x2x1, .f32⟩
  | 64 => ⟨S512x2x1, .f32⟩
  | 65 => ⟨S512x2x64, .f32⟩
  | 66 => ⟨S512x2x64, .f32⟩
  | 67 => ⟨S1x1x64, .f32⟩
  | 68 => ⟨S512x2x64, .f32⟩
  | 69 => ⟨S512x2x64, .f32⟩
  | 70 => ⟨S512x128, .f32⟩
  | 71 => ⟨S512x2x64, .f32⟩
  | 72 => ⟨S512x2x64, .f32⟩
  | 73 => ⟨S_, .f32⟩
  | 74 => ⟨S512x2, .f32⟩
  | 75 => ⟨S512x2x1, .f32⟩
  | 76 => ⟨S_, .f32⟩
  | 77 => ⟨S512x2x1, .f32⟩
  | 78 => ⟨S512x2x1, .f32⟩
  | 79 => ⟨S_, .f32⟩
  | 80 => ⟨S512x2x1, .f32⟩
  | 81 => ⟨S512x2x1, .f32⟩
  | 82 => ⟨S512x2x1, .f32⟩
  | 83 => ⟨S512x2x64, .f32⟩
  | 84 => ⟨S512x2x64, .f32⟩
  | 85 => ⟨S1x1x64, .f32⟩
  | 86 => ⟨S512x2x64, .f32⟩
  | 87 => ⟨S512x2x64, .f32⟩
  | 88 => ⟨S512x128, .f32⟩
  | 89 => ⟨S512x8x64, .f32⟩
  | 90 => ⟨S512x8x64, .f32⟩
  | 91 => ⟨S_, .f32⟩
  | 92 => ⟨S512x8, .f32⟩
  | 93 => ⟨S512x8x1, .f32⟩
  | 94 => ⟨S_, .f32⟩
  | 95 => ⟨S512x8x1, .f32⟩
  | 96 => ⟨S512x8x1, .f32⟩
  | 97 => ⟨S_, .f32⟩
  | 98 => ⟨S512x8x1, .f32⟩
  | 99 => ⟨S512x8x1, .f32⟩
  | 100 => ⟨S512x8x1, .f32⟩
  | 101 => ⟨S512x8x64, .f32⟩
  | 102 => ⟨S512x8x64, .f32⟩
  | 103 => ⟨S1x1x64, .f32⟩
  | 104 => ⟨S512x8x64, .f32⟩
  | 105 => ⟨S512x8x64, .f32⟩
  | 106 => ⟨S512x512, .f32⟩
  | 107 => ⟨S_, .f32⟩
  | 108 => ⟨S512x512, .f32⟩
  | 109 => ⟨S512x512, .f32⟩
  | 110 => ⟨S512x512, .bf16⟩
  | 111 => ⟨S512x256, .f32⟩
  | 112 => ⟨S512x256, .f32⟩
  | 113 => ⟨S512x256, .f32⟩
  | 114 => ⟨S512x128, .bf16⟩
  | 115 => ⟨S512x64, .f32⟩
  | 116 => ⟨S512x64, .f32⟩
  | 117 => ⟨S512x256, .f32⟩
  | 118 => ⟨S512x256, .bf16⟩
  | 119 => ⟨S512x128, .bf16⟩
  | 120 => ⟨S512x64, .f32⟩
  | 121 => ⟨S512x64, .f32⟩
  | 122 => ⟨S512x256, .f32⟩
  | 123 => ⟨S512x256, .bf16⟩
  | 124 => ⟨S512x128, .f32⟩
  | 125 => ⟨S512x128, .f32⟩
  | 126 => ⟨S_, .f32⟩
  | 127 => ⟨S512x128, .f32⟩
  | _ => ⟨S512x1024, .f32⟩

abbrev hbmTy0_1 (i : Nat) : BufTy := match i % 128 with
  | 0 => ⟨S512x128, .f32⟩
  | 1 => ⟨S_, .f32⟩
  | 2 => ⟨S512x128, .f32⟩
  | 3 => ⟨S512x128, .f32⟩
  | 4 => ⟨S512x512, .f32⟩
  | 5 => ⟨S512x512, .f32⟩
  | 6 => ⟨S_, .f32⟩
  | 7 => ⟨S512x512, .f32⟩
  | 8 => ⟨S512x512, .f32⟩
  | 9 => ⟨S_, .f32⟩
  | 10 => ⟨S512x512, .f32⟩
  | 11 => ⟨S512x512, .f32⟩
  | 12 => ⟨S512x512, .f32⟩
  | 13 => ⟨S_, .f32⟩
  | 14 => ⟨S512x512, .f32⟩
  | 15 => ⟨S512x512, .f32⟩
  | 16 => ⟨S512x512, .bf16⟩
  | 17 => ⟨S512x512, .f32⟩
  | 18 => ⟨S512x256, .bf16⟩
  | 19 => ⟨S512x256, .bf16⟩
  | 20 => ⟨S512x512, .f32⟩
  | 21 => ⟨S512x512, .f32⟩
  | 22 => ⟨S_, .f32⟩
  | 23 => ⟨S512x512, .f32⟩
  | 24 => ⟨S512x512, .f32⟩
  | 25 => ⟨S_, .f32⟩
  | 26 => ⟨S512x512, .f32⟩
  | 27 => ⟨S512x512, .f32⟩
  | 28 => ⟨S512x512, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c : Ref sig .tc := ⟨.hbm, 48, rfl⟩
abbrev main_call0_v0 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_cst_10 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_13 : Ref sig .tc := ⟨.hbm, 126, rfl⟩
abbrev main_v104 : Ref sig .tc := ⟨.hbm, 127, rfl⟩
abbrev main_v105 : Ref sig .tc := ⟨.hbm, 128, rfl⟩
abbrev main_cst_14 : Ref sig .tc := ⟨.hbm, 129, rfl⟩
abbrev main_v106 : Ref sig .tc := ⟨.hbm, 130, rfl⟩
abbrev main_v107 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v108 : Ref sig .tc := ⟨.hbm, 140, rfl⟩
abbrev main_cst_15 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_call2_v0 : Ref sig .tc := ⟨.hbm, 148, rfl⟩
abbrev main_call2_v1 : Ref sig .tc := ⟨.hbm, 149, rfl⟩
abbrev main_call2_cst : Ref sig .tc := ⟨.hbm, 150, rfl⟩
abbrev main_call2_v2 : Ref sig .tc := ⟨.hbm, 151, rfl⟩
abbrev main_call2_v3 : Ref sig .tc := ⟨.hbm, 152, rfl⟩
abbrev main_call2_cst_0 : Ref sig .tc := ⟨.hbm, 153, rfl⟩
abbrev main_call2_v4 : Ref sig .tc := ⟨.hbm, 154, rfl⟩
abbrev main_call2_v5 : Ref sig .tc := ⟨.hbm, 155, rfl⟩
abbrev main_v115 : Ref sig .tc := ⟨.hbm, 156, rfl⟩

abbrev nD : Nat := 1
abbrev τ : Topo := Topo.v7x

variable {F : FTy → Type} [FloatOps F]
-- ==== Proof.Trip.lean ====
/-
  One trip of the while loop of the idealized program: the two tiles it sweeps, run to the call that starts the next
  trip. What the trip leaves in the two scratch buffers it writes is a value the run finds.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.Kit
public import Idealize.ShloMosaic.Lib.Pipeline.Frame
public import Idealize.ShloMosaic.Lib.Pipeline.Regions

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run: the pipeline's. -/
abbrev UR (nD : Nat) (τ : Topo) : Type := Rounds.URounds (GSem nD τ sig) Unit

local notation "𝕄" => MT nD τ sig Unit (Elt F) ℕ (UR nD τ) ℕ

/-- The while loop's calls are answered under the naturals: the variant is the number of trips to run. -/
abbrev 𝒱₀ : Variants := Variants.nat

/-- The trip count of the while loop at a grid point, as the program computes it. -/
def tripsW (i : grid0.Coords) : BitVec 32 :=
  Scalar.shrsi (Scalar.subi (Scalar.addi (BitVec.ofNat 32 (i 1).val) 1#32) 1#32) 1#32

/-- What the loop holds: the staged keys and values, the three scratch buffers, and the rest. -/
def held (c : Dev nD) (M3 M4 : Memref sig .tc .vmem S1x8192x256 .bf16) (M7 : Memref sig .tc .vmem S2x512x128 .bf16)
    (M8 M9 : Memref sig .tc .vmem S2x512x128 .f32) (x3 x4 : Vec F S1x8192x256 .bf16) (f7 : Vec F S2x512x128 .bf16)
    (f8 f9 : Vec F S2x512x128 .f32) (R : sProp 𝕄) : sProp 𝕄 :=
  iprop(owns (c : Thread nD τ) M3 fullShare x3 ∗ owns (c : Thread nD τ) M4 fullShare x4
    ∗ owns (c : Thread nD τ) M7 fullShare f7 ∗ owns (c : Thread nD τ) M8 fullShare f8 ∗ owns (c : Thread nD τ) M9 fullShare f9 ∗ R)

set_option maxHeartbeats 1000000 in
/-- One trip, from the loop's test to its recursive call, on any whole memrefs: what it leaves in the carry and the
    accumulator and the test of the carry it passes on, found by the run. -/
noncomputable def tripRun (c : Dev nD) (i : grid0.Coords)
    (M3 : Memref sig .tc .vmem S1x8192x256 .bf16) (h3 : M3.IsWhole) (M4 : Memref sig .tc .vmem S1x8192x256 .bf16) (h4 : M4.IsWhole)
    (M7 : Memref sig .tc .vmem S2x512x128 .bf16) (h7 : M7.IsWhole) (M8 : Memref sig .tc .vmem S2x512x128 .f32) (h8 : M8.IsWhole)
    (M9 : Memref sig .tc .vmem S2x512x128 .f32) (h9 : M9.IsWhole)
    (x3 x4 : Vec F S1x8192x256 .bf16) (f7 : Vec F S2x512x128 .bf16) (f8 f9 : Vec F S2x512x128 .f32) (u : FVec F S128x128 .bf16)
    (t : BitVec 32) (hchk : k0_chk1 i t) :
    { Y : Vec F S2x512x128 .f32 × Vec F S2x512x128 .f32 × BitVec 1 //
      ∀ (E : Set ℕ) (bd : Option ℕ) (go : BitVec 1) (K : BitVec 32 × BitVec 1 → sProp 𝕄)
        (R : sProp 𝕄) (_ : Scalar.andi (Scalar.cmpi .slt t (tripsW i)) go = 1#1)
        (_ : ∀ t' go' g8 g9, t' = Scalar.addi t 1#32 → go' = Y.2.2 → g8 = Y.1 → g9 = Y.2.1 →
          held c M3 M4 M7 M8 M9 x3 x4 f7 g8 g9 R
            ⊢ wp frame (wpE (defs₀ (F := F)) 𝒱₀ c bd) E
                  (.op (.call (1 : (Λ₀ F).Label) ⟨i, M3, h3, M4, h4, M7, h7, M8, h8, u, M9, h9, t', go'⟩) .ret) K),
        held c M3 M4 M7 M8 M9 x3 x4 f7 f8 f9 R
          ⊢ wp frame (wpE (defs₀ (F := F)) 𝒱₀ c bd) E
              (cc0_while1 i M3 h3 M4 h4 M7 h7 M8 h8 u M9 h9 t go) K } := by
  refine ⟨(?_, ?_, ?_), fun E bd go K R hc hcall => ?run⟩
  case run =>
    unfold held owns
    iintro ⟨⟨%f0, %hf0, H0⟩, ⟨%f1, %hf1, H1⟩, ⟨%f2, %hf2, H7⟩, ⟨%f3, %hf3, H8⟩, ⟨%f4, %hf4, H9⟩, HR⟩
    obtain rfl := h3.eq_unread hf0; obtain rfl := h4.eq_unread hf1
    obtain rfl := h7.eq_unread hf2; obtain rfl := h8.eq_unread hf3; obtain rfl := h9.eq_unread hf4
    unfold tripsW at hc
    sl_unfold [cc0_while1]
    unfold cc0_while1_skel
    dsimp only
    rw [if_pos hc]
    sl_exec_parts!
    refine BIBase.Entails.trans ?post (hcall _ _
      (M8.view.read (Elt F) (M8.view.writes (Elt F) M8.view.junk (tripRun.sl.H8_4 i M3 h3 M7 h7 M8 h8 x3 f7 f8 t hchk)))
      (M9.view.read (Elt F) (M9.view.writes (Elt F) M9.view.junk
        (tripRun.sl.H9_4 i M3 h3 M4 h4 M7 h7 M8 h8 M9 h9 x3 x4 f7 f8 f9 u t hchk))) ?e1 ?e2 ?e3 ?e4)
    case e1 => rfl
    case e2 => dsimp only; rfl
    case e3 => dsimp only; rfl
    case e4 => dsimp only; rfl
    unfold held owns
    iintro ⟨⟨⟨⟨⟨H0, H1⟩, H7⟩, H8⟩, H9⟩, HR⟩
    isplitl [H0]
    · iexists _; isplitr; swap; iexact H0; ipureintro; exact h3.read_unread _
    isplitl [H1]
    · iexists _; isplitr; swap; iexact H1; ipureintro; exact h4.read_unread _
    isplitl [H7]
    · iexists _; isplitr; swap; iexact H7; ipureintro; exact h7.read_unread _
    isplitl [H8]
    · iexists _; isplitr; swap; iexact H8; ipureintro; rfl
    isplitl [H9]
    · iexists _; isplitr; swap; iexact H9; ipureintro; rfl
    iexact HR

end Cert.Proof.KI
-- ==== Proof.Loop.lean ====
/-
  The while loop of the idealized program: by induction on the trips still to run, what it leaves in the carry and the
  accumulator.
-/
module

public import proofs.«01_k».proof.Proof.Trip

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR nD τ) ℕ

/-- The grid point of the first batch row whose block of queries is `a`. -/
def pt (a : Fin 64) : grid0.Coords := fun d => match d with
  | 0 => (0 : Fin 2)
  | 1 => a

set_option maxHeartbeats 4000000 in
/-- Within the trip count, the two tiles a trip addresses lie in the staged keys and values. -/
theorem chk_pt : ∀ a : Fin 64, ∀ t : Fin 32, t.val < a.val / 2 → k0_chk1 (pt a) (BitVec.ofNat 32 t.val) := by
  decide +kernel

/-- The same at any grid point. -/
theorem chk_of_lt (i : grid0.Coords) (t : ℕ) (h : t < (i 1).val / 2) : k0_chk1 i (BitVec.ofNat 32 t) := by
  have h64 : (i 1).val < 64 := (i 1).isLt
  exact chk_pt (i 1) ⟨t, by omega⟩ h

/-- The loop's comparison reads the trips run as a number. -/
theorem slt_pt : ∀ a : Fin 64, ∀ t : Fin 33, Scalar.cmpi .slt (BitVec.ofNat 32 t.val) (tripsW (pt a)) = if t.val < a.val / 2 then 1#1 else 0#1 := by
  decide +kernel

/-- The same at any grid point. -/
theorem slt_trips (i : grid0.Coords) (t : ℕ) (h : t ≤ (i 1).val / 2) :
    Scalar.cmpi .slt (BitVec.ofNat 32 t) (tripsW i) = if t < (i 1).val / 2 then 1#1 else 0#1 := by
  have h64 : (i 1).val < 64 := (i 1).isLt
  exact slt_pt (i 1) ⟨t, by omega⟩

theorem addi_ofNat (t : ℕ) : Scalar.addi (BitVec.ofNat 32 t) 1#32 = BitVec.ofNat 32 (t + 1) := by
  show BitVec.ofNat 32 t + BitVec.ofNat 32 1 = _
  rw [← BitVec.ofNat_add]

section
variable (c : Dev nD) (i : grid0.Coords)
    (M3 : Memref sig .tc .vmem S1x8192x256 .bf16) (h3 : M3.IsWhole) (M4 : Memref sig .tc .vmem S1x8192x256 .bf16) (h4 : M4.IsWhole)
    (M7 : Memref sig .tc .vmem S2x512x128 .bf16) (h7 : M7.IsWhole) (M8 : Memref sig .tc .vmem S2x512x128 .f32) (h8 : M8.IsWhole)
    (M9 : Memref sig .tc .vmem S2x512x128 .f32) (h9 : M9.IsWhole)
    (x3 x4 : Vec F S1x8192x256 .bf16) (f7 : Vec F S2x512x128 .bf16) (u : FVec F S128x128 .bf16)

/-- The carry, the accumulator and the test of the carry after the trips from trip `t` on, `n` of them still to run
    at most: a trip runs while one is left and the test passed. -/
def loopOut : ℕ → ℕ → Vec F S2x512x128 .f32 × Vec F S2x512x128 .f32 × BitVec 1 →
    Vec F S2x512x128 .f32 × Vec F S2x512x128 .f32 × BitVec 1
  | 0, _, s => s
  | n + 1, t, s =>
    if h : t < (i 1).val / 2 ∧ s.2.2 = 1#1 then
      loopOut n (t + 1)
        (tripRun c i M3 h3 M4 h4 M7 h7 M8 h8 M9 h9 x3 x4 f7 s.1 s.2.1 u (BitVec.ofNat 32 t) (chk_of_lt i t h.1)).1
    else s

/-- The while loop entered with `n` trips still to run leaves the carry and the accumulator at `loopOut`. -/
theorem while_run (E : Set ℕ) : ∀ (n t : ℕ) (ht : t + n = (i 1).val / 2) (s : Vec F S2x512x128 .f32 × Vec F S2x512x128 .f32 × BitVec 1)
    (K : BitVec 32 × BitVec 1 → sProp 𝕄) (R : sProp 𝕄)
    (hK : ∀ v, held c M3 M4 M7 M8 M9 x3 x4 f7 (loopOut c i M3 h3 M4 h4 M7 h7 M8 h8 M9 h9 x3 x4 f7 u n t s).1
      (loopOut c i M3 h3 M4 h4 M7 h7 M8 h8 M9 h9 x3 x4 f7 u n t s).2.1 R ⊢ K v),
    held c M3 M4 M7 M8 M9 x3 x4 f7 s.1 s.2.1 R
      ⊢ wp frame (wpE (defs₀ (F := F)) 𝒱₀ (c : Thread nD τ) (some n)) E
          (cc0_while1 i M3 h3 M4 h4 M7 h7 M8 h8 u M9 h9 (BitVec.ofNat 32 t) s.2.2) K := by
  have stop : ∀ (n t : ℕ) (s : Vec F S2x512x128 .f32 × Vec F S2x512x128 .f32 × BitVec 1)
      (K : BitVec 32 × BitVec 1 → sProp 𝕄) (R : sProp 𝕄)
      (hc : ¬ Scalar.andi (Scalar.cmpi .slt (BitVec.ofNat 32 t) (tripsW i)) s.2.2 = 1#1)
      (hK : ∀ v, held c M3 M4 M7 M8 M9 x3 x4 f7 s.1 s.2.1 R ⊢ K v),
      held c M3 M4 M7 M8 M9 x3 x4 f7 s.1 s.2.1 R
        ⊢ wp frame (wpE (defs₀ (F := F)) 𝒱₀ (c : Thread nD τ) (some n)) E
            (cc0_while1 i M3 h3 M4 h4 M7 h7 M8 h8 u M9 h9 (BitVec.ofNat 32 t) s.2.2) K := by
    intro n t s K R hc hK
    unfold tripsW at hc
    sl_unfold [cc0_while1]
    unfold cc0_while1_skel
    dsimp only
    rw [if_neg hc]
    simp only [Prog.pure_eq_ret]
    rw [wp_ret]
    exact (hK _).trans BI.fupd_intro
  intro n
  induction n with
  | zero =>
    intro t ht s K R hK
    refine stop 0 t s K R ?_ hK
    rw [slt_trips i t (by omega), if_neg (by omega)]
    show ¬ (0#1 &&& s.2.2) = 1#1
    rw [BitVec.zero_and]; decide
  | succ n ih =>
    intro t ht s K R hK
    have hlt : t < (i 1).val / 2 := by omega
    have e : Scalar.andi (Scalar.cmpi .slt (BitVec.ofNat 32 t) (tripsW i)) s.2.2 = s.2.2 := by
      rw [slt_trips i t (by omega), if_pos hlt]
      show 1#1 &&& s.2.2 = s.2.2
      generalize s.2.2 = b
      revert b; decide
    by_cases hg : s.2.2 = 1#1
    · have hs : loopOut c i M3 h3 M4 h4 M7 h7 M8 h8 M9 h9 x3 x4 f7 u (n + 1) t s
          = loopOut c i M3 h3 M4 h4 M7 h7 M8 h8 M9 h9 x3 x4 f7 u n (t + 1)
            (tripRun c i M3 h3 M4 h4 M7 h7 M8 h8 M9 h9 x3 x4 f7 s.1 s.2.1 u (BitVec.ofNat 32 t) (chk_of_lt i t hlt)).1 := by
        rw [loopOut, dif_pos ⟨hlt, hg⟩]
      rw [hs] at hK
      refine (tripRun c i M3 h3 M4 h4 M7 h7 M8 h8 M9 h9 x3 x4 f7 s.1 s.2.1 u (BitVec.ofNat 32 t) (chk_of_lt i t hlt)).2
        E (some (n + 1)) s.2.2 K R (e.trans hg) ?_
      generalize (tripRun c i M3 h3 M4 h4 M7 h7 M8 h8 M9 h9 x3 x4 f7 s.1 s.2.1 u (BitVec.ofNat 32 t) (chk_of_lt i t hlt)).1 = Y at hK
      intro t' go' g8 g9 e1 e2 e3 e4
      subst e1 e2 e3 e4
      rw [addi_ofNat]
      refine BIBase.Entails.trans ?_ (wp_call 𝒱₀ (c : Thread nD τ) (some (n + 1)) E n
        (fun u hu => by cases hu; exact Nat.lt_succ_self n))
      refine ih (t + 1) (by omega) Y _ R ?_
      intro v
      rw [wp_ret]
      exact (hK v).trans BI.fupd_intro
    · have hs : loopOut c i M3 h3 M4 h4 M7 h7 M8 h8 M9 h9 x3 x4 f7 u (n + 1) t s = s := by
        rw [loopOut, dif_neg (fun h => hg h.2)]
      rw [hs] at hK
      exact stop (n + 1) t s K R (by rw [e]; exact hg) hK

/-- A body that goes on after the loop, once it is handed back the five memrefs with the carry and the accumulator at
    `loopOut`. -/
def goesOn {α : Type} (E : Set ℕ) (go : BitVec 1) (g7 : Buf (Elt F) (M7.view.loc (c : Thread nD τ)))
    (g8 : Buf (Elt F) (M8.view.loc (c : Thread nD τ)))
    (g9 : Buf (Elt F) (M9.view.loc (c : Thread nD τ)))
    (k : BitVec 32 × BitVec 1 → Prog (TpuEff nD τ sig (Elt F) (Λ₀ F) .tc) α) (Q : α → sProp 𝕄) : sProp 𝕄 :=
  iprop(∀ v : BitVec 32 × BitVec 1, iprop((View.loc (c : Thread nD τ) M3.view ↦[M3.view.set]{fullShare} h3.unread x3)
              ∗ (View.loc (c : Thread nD τ) M4.view ↦[M4.view.set]{fullShare} h4.unread x4)
              ∗ (View.loc (c : Thread nD τ) M7.view ↦[M7.view.set]{fullShare} h7.unread (M7.view.read (Elt F) g7))
              ∗ (View.loc (c : Thread nD τ) M8.view ↦[M8.view.set]{fullShare}
                  h8.unread (loopOut c i M3 h3 M4 h4 M7 h7 M8 h8 M9 h9 x3 x4 (M7.view.read (Elt F) g7) u ((i 1).val / 2) 0
                    (M8.view.read (Elt F) g8, M9.view.read (Elt F) g9, go)).1)
              ∗ (View.loc (c : Thread nD τ) M9.view ↦[M9.view.set]{fullShare}
                  h9.unread (loopOut c i M3 h3 M4 h4 M7 h7 M8 h8 M9 h9 x3 x4 (M7.view.read (Elt F) g7) u ((i 1).val / 2) 0
                    (M8.view.read (Elt F) g8, M9.view.read (Elt F) g9, go)).2.1))
            -∗ wp frame (wpE (defs₀ (F := F)) 𝒱₀ (c : Thread nD τ) none) E (k v) Q)

/-- The call of the while loop from a body that holds the five memrefs: the body goes on with the carry and the
    accumulator at `loopOut`. -/
theorem while_call {α : Type} (E : Set ℕ) (go : BitVec 1) (g7 : Buf (Elt F) (M7.view.loc (c : Thread nD τ)))
    (g8 : Buf (Elt F) (M8.view.loc (c : Thread nD τ)))
    (g9 : Buf (Elt F) (M9.view.loc (c : Thread nD τ)))
    (k : BitVec 32 × BitVec 1 → Prog (TpuEff nD τ sig (Elt F) (Λ₀ F) .tc) α) (Q : α → sProp 𝕄) :
    iprop((View.loc (c : Thread nD τ) M3.view ↦[M3.view.set]{fullShare} h3.unread x3)
        ∗ (View.loc (c : Thread nD τ) M4.view ↦[M4.view.set]{fullShare} h4.unread x4)
        ∗ (View.loc (c : Thread nD τ) M7.view ↦[M7.view.set]{fullShare} g7)
        ∗ (View.loc (c : Thread nD τ) M8.view ↦[M8.view.set]{fullShare} g8)
        ∗ (View.loc (c : Thread nD τ) M9.view ↦[M9.view.set]{fullShare} g9)
        ∗ goesOn c i M3 h3 M4 h4 M7 h7 M8 h8 M9 h9 x3 x4 u E go g7 g8 g9 k Q)
      ⊢ wp frame (wpE (defs₀ (F := F)) 𝒱₀ (c : Thread nD τ) none) E
          (.op (.call (1 : (Λ₀ F).Label) ⟨i, M3, h3, M4, h4, M7, h7, M8, h8, u, M9, h9, 0#32, go⟩) k) Q := by
  refine BIBase.Entails.trans ?_ (wp_call 𝒱₀ (c : Thread nD τ) none E ((i 1).val / 2) (fun u hu => nomatch hu))
  refine BIBase.Entails.trans ?_ (while_run c i M3 h3 M4 h4 M7 h7 M8 h8 M9 h9 x3 x4 (M7.view.read (Elt F) g7) u E ((i 1).val / 2) 0 (Nat.zero_add _)
    (M8.view.read (Elt F) g8, M9.view.read (Elt F) g9, go) _
    (goesOn c i M3 h3 M4 h4 M7 h7 M8 h8 M9 h9 x3 x4 u E go g7 g8 g9 k Q) ?hK)
  case hK =>
    intro v
    unfold held owns goesOn
    iintro ⟨⟨%e0, %he0, H0⟩, ⟨%e1, %he1, H1⟩, ⟨%e2, %he2, H7⟩, ⟨%e3, %he3, H8⟩, ⟨%e4, %he4, H9⟩, HR⟩
    obtain rfl := h3.eq_unread he0; obtain rfl := h4.eq_unread he1
    obtain rfl := h7.eq_unread he2; obtain rfl := h8.eq_unread he3; obtain rfl := h9.eq_unread he4
    iapply HR
    isplitl [H0]; · iexact H0
    isplitl [H1]; · iexact H1
    isplitl [H7]; · iexact H7
    isplitl [H8]; · iexact H8
    iexact H9
  unfold held owns
  iintro ⟨H0, H1, H7, H8, H9, HR⟩
  isplitl [H0]
  · iexists _; isplitr; swap; iexact H0; ipureintro; exact h3.read_unread _
  isplitl [H1]
  · iexists _; isplitr; swap; iexact H1; ipureintro; exact h4.read_unread _
  isplitl [H7]
  · iexists _; isplitr; swap; iexact H7; ipureintro; rfl
  isplitl [H8]
  · iexists _; isplitr; swap; iexact H8; ipureintro; rfl
  isplitl [H9]
  · iexists _; isplitr; swap; iexact H9; ipureintro; rfl
  iexact HR

end

end Cert.Proof.KI

end
-- ==== Proof.Body.lean ====
/-
  The kernel's body at one grid point of the idealized program, run to its end: what it leaves in the output's staging
  buffer is a value the run finds, once for an even number of tiles left of the diagonal and once for an odd one.
-/
module

public import proofs.«01_k».proof.Proof.Loop

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR nD τ) ℕ

set_option maxHeartbeats 4000000 in
/-- The body where the number of tiles left of the diagonal is odd: one of them is swept before the loop. -/
def bodyOdd (c : Dev nD) (i : grid0.Coords)
    (M2 : Memref sig .tc .vmem S1x128x512 .bf16) (h2 : M2.IsWhole)
    (M3 : Memref sig .tc .vmem S1x8192x256 .bf16) (h3 : M3.IsWhole) (M4 : Memref sig .tc .vmem S1x8192x256 .bf16) (h4 : M4.IsWhole)
    (M5 : Memref sig .tc .vmem S128x128 .bf16) (h5 : M5.IsWhole) (M6 : Memref sig .tc .vmem S1x128x512 .f32) (h6 : M6.IsWhole)
    (M7 : Memref sig .tc .vmem S2x512x128 .bf16) (h7 : M7.IsWhole) (M8 : Memref sig .tc .vmem S2x512x128 .f32) (h8 : M8.IsWhole)
    (M9 : Memref sig .tc .vmem S2x512x128 .f32) (h9 : M9.IsWhole)
    (x2 : Vec F S1x128x512 .bf16) (x3 x4 : Vec F S1x8192x256 .bf16) (x5 : Vec F S128x128 .bf16) (hodd : k0_cond1 i = 1#1) :
    { Y : Vec F S1x128x512 .f32 //
      ∀ (E : Set ℕ) (K : PUnit → sProp 𝕄),
        iprop(owns (c : Thread nD τ) M2 fullShare x2 ∗ owns (c : Thread nD τ) M3 fullShare x3
            ∗ owns (c : Thread nD τ) M4 fullShare x4 ∗ owns (c : Thread nD τ) M5 fullShare x5
            ∗ (∃ d, owns (c : Thread nD τ) M6 fullShare d) ∗ (∃ d, owns (c : Thread nD τ) M7 fullShare d)
            ∗ (∃ d, owns (c : Thread nD τ) M8 fullShare d) ∗ (∃ d, owns (c : Thread nD τ) M9 fullShare d)
            ∗ (iprop(owns (c : Thread nD τ) M2 fullShare x2 ∗ owns (c : Thread nD τ) M3 fullShare x3
                  ∗ owns (c : Thread nD τ) M4 fullShare x4 ∗ owns (c : Thread nD τ) M5 fullShare x5
                  ∗ owns (c : Thread nD τ) M6 fullShare Y ∗ (∃ d, owns (c : Thread nD τ) M7 fullShare d)
                  ∗ (∃ d, owns (c : Thread nD τ) M8 fullShare d) ∗ (∃ d, owns (c : Thread nD τ) M9 fullShare d))
                -∗ K ⟨⟩))
          ⊢ wp frame (wpE (defs₀ (F := F)) 𝒱₀ c none) E
              (cc0_sb_prompt i M2 h2 M3 h3 M4 h4 M5 h5 M6 h6 M7 h7 M8 h8 M9 h9) K } := by
  refine ⟨?_, fun E K => ?run⟩
  case run =>
    unfold owns
    iintro ⟨⟨%e2, %he2, H2⟩, ⟨%e3, %he3, H3⟩, ⟨%e4, %he4, H4⟩, ⟨%e5, %he5, H5⟩, ⟨%d6, %e6, -, H6⟩, ⟨%d7, %e7, -, H7⟩, ⟨%d8, %e8, -, H8⟩, ⟨%d9, %e9, -, H9⟩, Hk⟩
    obtain rfl := h2.eq_unread he2; obtain rfl := h3.eq_unread he3; obtain rfl := h4.eq_unread he4; obtain rfl := h5.eq_unread he5
    sl_unfold [cc0_sb_prompt]
    unfold cc0_sb_prompt_skel
    dsimp only
    sl_exec_parts!
    iapply (while_call c i M3 h3 M4 h4 M7 h7 M8 h8 M9 h9 x3 x4 _ E _ _ _ _ _ _)
    isplitl [H3]; · iexact H3
    isplitl [H4]; · iexact H4
    isplitl [H7]; · iexact H7
    isplitl [H8]; · iexact H8
    isplitl [H9]; · iexact H9
    unfold goesOn
    iintro %v ⟨H3, H4, H7, H8, H9⟩
    obtain ⟨v1, v2⟩ := v
    dsimp only
    sl_exec_parts!
    rw [wp_ret]; imodintro
    iapply Hk
    isplitl [H2]
    · iexists _; isplitr; swap; iexact H2; ipureintro; exact h2.read_unread _
    isplitl [H3]
    · iexists _; isplitr; swap; iexact H3; ipureintro; exact h3.read_unread _
    isplitl [H4]
    · iexists _; isplitr; swap; iexact H4; ipureintro; exact h4.read_unread _
    isplitl [H5]
    · iexists _; isplitr; swap; iexact H5; ipureintro; exact h5.read_unread _
    isplitl [H6]
    · iexists _; isplitr; swap; iexact H6; ipureintro; rfl
    isplitl [H7]
    · iexists _; iexists _; isplitr; swap; iexact H7; ipureintro; rfl
    isplitl [H8]
    · iexists _; iexists _; isplitr; swap; iexact H8; ipureintro; rfl
    · iexists _; iexists _; isplitr; swap; iexact H9; ipureintro; rfl

set_option maxHeartbeats 4000000 in
/-- The body where the number of tiles left of the diagonal is even: the loop follows the diagonal tile. -/
def bodyEven (c : Dev nD) (i : grid0.Coords)
    (M2 : Memref sig .tc .vmem S1x128x512 .bf16) (h2 : M2.IsWhole)
    (M3 : Memref sig .tc .vmem S1x8192x256 .bf16) (h3 : M3.IsWhole) (M4 : Memref sig .tc .vmem S1x8192x256 .bf16) (h4 : M4.IsWhole)
    (M5 : Memref sig .tc .vmem S128x128 .bf16) (h5 : M5.IsWhole) (M6 : Memref sig .tc .vmem S1x128x512 .f32) (h6 : M6.IsWhole)
    (M7 : Memref sig .tc .vmem S2x512x128 .bf16) (h7 : M7.IsWhole) (M8 : Memref sig .tc .vmem S2x512x128 .f32) (h8 : M8.IsWhole)
    (M9 : Memref sig .tc .vmem S2x512x128 .f32) (h9 : M9.IsWhole)
    (x2 : Vec F S1x128x512 .bf16) (x3 x4 : Vec F S1x8192x256 .bf16) (x5 : Vec F S128x128 .bf16) (heven : ¬ k0_cond1 i = 1#1) :
    { Y : Vec F S1x128x512 .f32 //
      ∀ (E : Set ℕ) (K : PUnit → sProp 𝕄),
        iprop(owns (c : Thread nD τ) M2 fullShare x2 ∗ owns (c : Thread nD τ) M3 fullShare x3
            ∗ owns (c : Thread nD τ) M4 fullShare x4 ∗ owns (c : Thread nD τ) M5 fullShare x5
            ∗ (∃ d, owns (c : Thread nD τ) M6 fullShare d) ∗ (∃ d, owns (c : Thread nD τ) M7 fullShare d)
            ∗ (∃ d, owns (c : Thread nD τ) M8 fullShare d) ∗ (∃ d, owns (c : Thread nD τ) M9 fullShare d)
            ∗ (iprop(owns (c : Thread nD τ) M2 fullShare x2 ∗ owns (c : Thread nD τ) M3 fullShare x3
                  ∗ owns (c : Thread nD τ) M4 fullShare x4 ∗ owns (c : Thread nD τ) M5 fullShare x5
                  ∗ owns (c : Thread nD τ) M6 fullShare Y ∗ (∃ d, owns (c : Thread nD τ) M7 fullShare d)
                  ∗ (∃ d, owns (c : Thread nD τ) M8 fullShare d) ∗ (∃ d, owns (c : Thread nD τ) M9 fullShare d))
                -∗ K ⟨⟩))
          ⊢ wp frame (wpE (defs₀ (F := F)) 𝒱₀ c none) E
              (cc0_sb_prompt i M2 h2 M3 h3 M4 h4 M5 h5 M6 h6 M7 h7 M8 h8 M9 h9) K } := by
  refine ⟨?_, fun E K => ?run⟩
  case run =>
    unfold owns
    iintro ⟨⟨%e2, %he2, H2⟩, ⟨%e3, %he3, H3⟩, ⟨%e4, %he4, H4⟩, ⟨%e5, %he5, H5⟩, ⟨%d6, %e6, -, H6⟩, ⟨%d7, %e7, -, H7⟩, ⟨%d8, %e8, -, H8⟩, ⟨%d9, %e9, -, H9⟩, Hk⟩
    obtain rfl := h2.eq_unread he2; obtain rfl := h3.eq_unread he3; obtain rfl := h4.eq_unread he4; obtain rfl := h5.eq_unread he5
    sl_unfold [cc0_sb_prompt]
    unfold cc0_sb_prompt_skel
    dsimp only
    sl_exec_parts!
    iapply (while_call c i M3 h3 M4 h4 M7 h7 M8 h8 M9 h9 x3 x4 _ E _ _ _ _ _ _)
    isplitl [H3]; · iexact H3
    isplitl [H4]; · iexact H4
    isplitl [H7]; · iexact H7
    isplitl [H8]; · iexact H8
    isplitl [H9]; · iexact H9
    unfold goesOn
    iintro %v ⟨H3, H4, H7, H8, H9⟩
    obtain ⟨v1, v2⟩ := v
    dsimp only
    sl_exec_parts!
    rw [wp_ret]; imodintro
    iapply Hk
    isplitl [H2]
    · iexists _; isplitr; swap; iexact H2; ipureintro; exact h2.read_unread _
    isplitl [H3]
    · iexists _; isplitr; swap; iexact H3; ipureintro; exact h3.read_unread _
    isplitl [H4]
    · iexists _; isplitr; swap; iexact H4; ipureintro; exact h4.read_unread _
    isplitl [H5]
    · iexists _; isplitr; swap; iexact H5; ipureintro; exact h5.read_unread _
    isplitl [H6]
    · iexists _; isplitr; swap; iexact H6; ipureintro; rfl
    isplitl [H7]
    · iexists _; iexists _; isplitr; swap; iexact H7; ipureintro; rfl
    isplitl [H8]
    · iexists _; iexists _; isplitr; swap; iexact H8; ipureintro; rfl
    · iexists _; iexists _; isplitr; swap; iexact H9; ipureintro; rfl

end Cert.Proof.KI

end
-- ==== Proof.Launch.lean ====
/-
  The launch of the idealized program: the host operations before the region, the pipeline's data with the body's two
  cases in it, the body's obligation at a grid point, and the run: it ends, the arguments are unchanged, and each block of
  the output array is what its grid point left.
-/
module

public import proofs.«01_k».proof.Proof.Body
public import Idealize.ShloMosaic.Lib.Pipeline.FrameBody
public import Idealize.ShloMosaic.Lib.Ring
public import Idealize.ShloMosaic.Lib.Claim
public import Idealize.ShloMosaic.Lib.Pipeline.Value

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)

/-- The state the program starts in: this memory, all semaphores at zero. -/
abbrev start : MemSt nD τ sig (Elt F) := ⟨m, fun _ => 0, ρ⟩

/-- What core `c`'s buffers hold when the region is entered: the host operations have run. -/
abbrev V (c : Dev nD) (b : Ref sig .tc) : Buf (Elt F) ((c : Thread nD τ).loc b) :=
  StableHlo.after hostOps0 (fun b => m (c, b)) b

/-- No host operation needs a fresh buffer. -/
theorem hostOps0_fresh : (hostOps0 : List (HloOp τ sig (Elt F))).Forall fun op => op.fresh = ∅ := by
  simp only [List.Forall]; repeat' constructor

set_option maxHeartbeats 800000 in
/-- The host operations run up to the region. -/
theorem hmain : Pipeline.HMain (Ix := Unit) (Name := ℕ) (U := UR nD τ) (Lvl := ℕ) cfgs 0 defs₀ 𝒱₀ m (main (F := F)) (V m) :=
  Pipeline.hmain_prefix cfgs 0 defs₀ 𝒱₀ m main hostOps0 hostOps0_sub hostOps0_fresh main_chain

/-- The host operations leave argument 0 as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The host operations leave argument 1 as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The host operations leave argument 2 as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging buffer of input window 0 holds the window's block at every point. -/
theorem before0_0_of {c : Dev nD} (dat : Dat τ (Elt F) Unit ℕ (UR nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- The staging buffer of input window 1 holds the window's block at every point. -/
theorem before0_1_of {c : Dev nD} (dat : Dat τ (Elt F) Unit ℕ (UR nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-- The staging buffer of input window 2 holds the window's block at every point. -/
theorem before0_2_of {c : Dev nD} (dat : Dat τ (Elt F) Unit ℕ (UR nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-- The staging buffer of input window 3 holds the window's block at every point. -/
theorem before0_3_of {c : Dev nD} (dat : Dat τ (Elt F) Unit ℕ (UR nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

/-- Window 0's staging buffer at point `t`. -/
abbrev ms0_0 (t : Fin (cfg0 (F := F)).N) : Memref sig .tc .vmem S1x128x512 .bf16 := win0_0.stage ((cfg0 (F := F)).slots t 0)
/-- It is a whole buffer. -/
abbrev hs0_0 (t : Fin (cfg0 (F := F)).N) : (ms0_0 t).IsWhole := hstage0_0 (((cfg0 (F := F)).slots t 0).cast nbuf0_0)
/-- Window 1's staging buffer at point `t`. -/
abbrev ms0_1 (t : Fin (cfg0 (F := F)).N) : Memref sig .tc .vmem S1x8192x256 .bf16 := win0_1.stage ((cfg0 (F := F)).slots t 1)
/-- It is a whole buffer. -/
abbrev hs0_1 (t : Fin (cfg0 (F := F)).N) : (ms0_1 t).IsWhole := hstage0_1 (((cfg0 (F := F)).slots t 1).cast nbuf0_1)
/-- Window 2's staging buffer at point `t`. -/
abbrev ms0_2 (t : Fin (cfg0 (F := F)).N) : Memref sig .tc .vmem S1x8192x256 .bf16 := win0_2.stage ((cfg0 (F := F)).slots t 2)
/-- It is a whole buffer. -/
abbrev hs0_2 (t : Fin (cfg0 (F := F)).N) : (ms0_2 t).IsWhole := hstage0_2 (((cfg0 (F := F)).slots t 2).cast nbuf0_2)
/-- Window 3's staging buffer at point `t`. -/
abbrev ms0_3 (t : Fin (cfg0 (F := F)).N) : Memref sig .tc .vmem S128x128 .bf16 := win0_3.stage ((cfg0 (F := F)).slots t 3)
/-- It is a whole buffer. -/
abbrev hs0_3 (t : Fin (cfg0 (F := F)).N) : (ms0_3 t).IsWhole := hstage0_3 (((cfg0 (F := F)).slots t 3).cast nbuf0_3)
/-- Window 4's staging buffer at point `t`. -/
abbrev ms0_4 (t : Fin (cfg0 (F := F)).N) : Memref sig .tc .vmem S1x128x512 .f32 := win0_4.stage ((cfg0 (F := F)).slots t 4)
/-- It is a whole buffer. -/
abbrev hs0_4 (t : Fin (cfg0 (F := F)).N) : (ms0_4 t).IsWhole := hstage0_4 (((cfg0 (F := F)).slots t 4).cast nbuf0_4)
/-- Scratch buffer 0. -/
abbrev sc0 : Memref sig .tc .vmem S2x512x128 .bf16 := Memref.whole cc0_scratch0
/-- Scratch buffer 1. -/
abbrev sc1 : Memref sig .tc .vmem S2x512x128 .f32 := Memref.whole cc0_scratch1
/-- Scratch buffer 2. -/
abbrev sc2 : Memref sig .tc .vmem S2x512x128 .f32 := Memref.whole cc0_scratch2

/-- What the region keeps beside the windows: the three scratch buffers at some contents, and the generator's register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- What the body leaves in the output's staging buffer at point `t`. -/
def outsAt (c : Dev nD) (t : Fin (cfg0 (F := F)).N) : Vec F S1x128x512 .f32 :=
  if h : k0_cond1 (grid0.coords t) = 1#1 then
    (bodyOdd c (grid0.coords t) (ms0_0 t) (hs0_0 t) (ms0_1 t) (hs0_1 t) (ms0_2 t) (hs0_2 t) (ms0_3 t) (hs0_3 t) (ms0_4 t) (hs0_4 t)
      sc0 (Memref.isWhole_whole _) sc1 (Memref.isWhole_whole _) sc2 (Memref.isWhole_whole _)
      (iblk m c 0 t) (iblk m c 1 t) (iblk m c 2 t) (iblk m c 3 t) h).1
  else
    (bodyEven c (grid0.coords t) (ms0_0 t) (hs0_0 t) (ms0_1 t) (hs0_1 t) (ms0_2 t) (hs0_2 t) (ms0_3 t) (hs0_3 t) (ms0_4 t) (hs0_4 t)
      sc0 (Memref.isWhole_whole _) sc1 (Memref.isWhole_whole _) sc2 (Memref.isWhole_whole _)
      (iblk m c 0 t) (iblk m c 1 t) (iblk m c 2 t) (iblk m c 3 t) h).1

/-- The pipeline's data on core `c`: each input's buffer keeps its block, the output's holds what the body leaves. -/
def dats (_ : Fin 1) (c : Dev nD) : Dat τ (Elt F) Unit ℕ (UR nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t)
  Φ _ := Pipeline.ΦA spec0 c
  q _ := fullShare
  owed _ := 0

/-- The data's arrays are what the region finds. -/
theorem A_eq (c : Dev nD) (w : Fin (cfg0 (F := F)).W) : (dats m 0 c).A w = V m c (Pipeline.arrRef spec0 w) := by
  dsimp only [dats]

/-- Window 0's buffer after the body. -/
theorem after0_0 (c : Dev nD) (t : Fin (cfg0 (F := F)).N) : (dats m 0 c).after 0 t = iblk m c 0 t := by dsimp only [dats]; rfl
/-- Window 1's buffer after the body. -/
theorem after0_1 (c : Dev nD) (t : Fin (cfg0 (F := F)).N) : (dats m 0 c).after 1 t = iblk m c 1 t := by dsimp only [dats]; rfl
/-- Window 2's buffer after the body. -/
theorem after0_2 (c : Dev nD) (t : Fin (cfg0 (F := F)).N) : (dats m 0 c).after 2 t = iblk m c 2 t := by dsimp only [dats]; rfl
/-- Window 3's buffer after the body. -/
theorem after0_3 (c : Dev nD) (t : Fin (cfg0 (F := F)).N) : (dats m 0 c).after 3 t = iblk m c 3 t := by dsimp only [dats]; rfl
/-- The output's buffer after the body. -/
theorem after0_4 (c : Dev nD) (t : Fin (cfg0 (F := F)).N) : (dats m 0 c).after 4 t = outsAt m c t := by dsimp only [dats]; rfl

/-- Window 0's buffer before the body. -/
theorem before0_0 (c : Dev nD) (t : Fin (cfg0 (F := F)).N) (d) : (dats m 0 c).before 0 t d = iblk m c 0 t :=
  before0_0_of m (dats m 0 c) (A_eq m c 0) (after0_0 m c) t d
/-- Window 1's buffer before the body. -/
theorem before0_1 (c : Dev nD) (t : Fin (cfg0 (F := F)).N) (d) : (dats m 0 c).before 1 t d = iblk m c 1 t :=
  before0_1_of m (dats m 0 c) (A_eq m c 1) (after0_1 m c) t d
/-- Window 2's buffer before the body. -/
theorem before0_2 (c : Dev nD) (t : Fin (cfg0 (F := F)).N) (d) : (dats m 0 c).before 2 t d = iblk m c 2 t :=
  before0_2_of m (dats m 0 c) (A_eq m c 2) (after0_2 m c) t d
/-- Window 3's buffer before the body. -/
theorem before0_3 (c : Dev nD) (t : Fin (cfg0 (F := F)).N) (d) : (dats m 0 c).before 3 t d = iblk m c 3 t :=
  before0_3_of m (dats m 0 c) (A_eq m c 3) (after0_3 m c) t d

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point, by its two cases. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt
  by_cases h : k0_cond1 (grid0.coords t) = 1#1
  · rw [dif_pos h]
    iintro ⟨⟨⟨HS0, HS1, HS2⟩, Hg⟩, Ho, ⟨%d0, H0⟩, ⟨%d1, H1⟩, ⟨%d2, H2⟩, ⟨%d3, H3⟩, ⟨%d4, H4⟩⟩
    iapply ((bodyOdd c (grid0.coords t) _ _ _ _ _ _ _ _ _ _ _ _ _ _ _ _ (iblk m c 0 t) (iblk m c 1 t) (iblk m c 2 t) (iblk m c 3 t) h).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4
  · rw [dif_neg h]
    iintro ⟨⟨⟨HS0, HS1, HS2⟩, Hg⟩, Ho, ⟨%d0, H0⟩, ⟨%d1, H1⟩, ⟨%d2, H2⟩, ⟨%d3, H3⟩, ⟨%d4, H4⟩⟩
    iapply ((bodyEven c (grid0.coords t) _ _ _ _ _ _ _ _ _ _ _ _ _ _ _ _ (iblk m c 0 t) (iblk m c 1 t) (iblk m c 2 t) (iblk m c 3 t) h).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4

/-- The body table's row at point `t` is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The pipeline's obligation on the body. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

-- the launch's implicit arguments are found by unfolding plain definitions in a metavariable's type
set_option backward.isDefEq.respectTransparency.types false in
/-- The launch: every run ends with each array as the data say, and every semaphore at zero. -/
theorem run_main_quiescent : θ_run defs (onTc (τ := τ) (main (F := F))) (start m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The run with the output's array named, and the arguments unchanged. -/
theorem run_blocks : θ_run defs (onTc (τ := τ) (main (F := F))) (start m ρ) (fun r => ∀ c : Dev nD,
      r.2.mem ((c.tc : Thread nD τ).loc main_v9) = (dats m 0 c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩)
    (run_main_quiescent m ρ)

/-- The program runs to its end, leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2) (run_blocks m ρ))
    ((θ_run defs _ _).mono (fun _ h => h.2) (run_main_quiescent m ρ))

/-- Distinct grid points have distinct output blocks. -/
theorem idx_inj4 : ∀ t t' : Fin (cfg0 (F := F)).N, win0_4.index t = win0_4.index t' → t = t' :=
  (by decide +kernel : ∀ t t' : Fin grid0.N, win0_4.index t = win0_4.index t' → t = t')

/-- No two points' output blocks meet. -/
theorem disjoint4 : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => ((cfg0 (F := F)).win 4).disjoint_blk fun h => hne (idx_inj4 t t' h)

/-- Block `t` of the output's array after the run is what point `t` left. -/
theorem blocks4 (c : Dev nD) (t : Fin (cfg0 (F := F)).N) (hf : ((cfg0 (F := F)).win 4).flush t = true) :
    (((cfg0 (F := F)).win 4).blk t).view.read (Elt F) ((dats m 0 c).arrAt 4 (cfg0 (F := F)).N) = ((cfg0 (F := F)).win 4).cut (grid0.coords t) (outsAt m c t) := by
  rw [(dats m 0 c).read_blk_arrAt_eq_flushed 4 disjoint4 (cfg0 (F := F)).N t t.isLt hf]
  show ((cfg0 (F := F)).win 4).cut (grid0.coords t) ((dats m 0 c).after 4 t) = _
  rw [after0_4]

end Cert.Proof.KI

end
-- ==== Proof.Tile.lean ====
/-
  The arithmetic of one tile, named: the scores of the tile, the softplus of a score, the weights of the tile's keys, what
  the accumulator and the carry become. One trip of the while loop sweeps two tiles by these functions.
-/
module

public import proofs.«01_k».proof.Proof.Loop
public import Idealize.ShloMosaic.Lib.Pipeline.ReadBack
public import Idealize.ShloMosaic.Lib.Pipeline.Value

@[expose] public section

set_option maxRecDepth 16384

noncomputable section

namespace Cert.Proof.KI

open Cert.KernelIdeal Cert.KernelIdeal.Gen
open Idealize.ShloMosaic
open Idealize.ShloMosaic.TcCoe

section Tiles

variable {F : FTy → Type} [FloatOps F]

/-- The rows of the first pair of kv heads of a scratch buffer. -/
def slab0 {e : EltTy} (x : Vec F S2x512x128 e) : Vec F S512x128 e :=
  shapeCast S512x128 (View.ld x (Rect.unit ![0, 0, 0] S1x512x128.size inb_S2x512x128_S1x512x128_0_0_0)) shapeCasts_S1x512x128_S512x128

/-- The rows of the second pair of kv heads of a scratch buffer. -/
def slab1 {e : EltTy} (x : Vec F S2x512x128 e) : Vec F S512x128 e :=
  shapeCast S512x128 (View.ld x (Rect.unit ![1, 0, 0] S1x512x128.size inb_S2x512x128_S1x512x128_1_0_0)) shapeCasts_S1x512x128_S512x128

/-- The 128 × 128 tile of the staged keys (or values) at an offset. -/
def keyTile (x : Vec F S1x8192x256 .bf16) (off : Fin 3 → ℕ) (inb : ∀ a, off a + S1x128x128.size a ≤ S1x8192x256.size a) : Vec F S128x128 .bf16 :=
  shapeCast S128x128 (View.ld x (Rect.unit off S1x128x128.size inb)) shapeCasts_S1x128x128_S128x128

/-- A block of zeros. -/
def zeros : FVec F S512x128 .f32 := broadcast S512x128 (FloatOps.ofBits .f32 0#32)

/-- The zero accumulator of a product. -/
def zacc : FVec F S512x128 .f32 := constant S512x128 .f32 0#32

/-- The scores of a tile: every query row against every key of the tile. -/
def score (q : FVec F S512x128 .bf16) (k : FVec F S128x128 .bf16) : FVec F S512x128 .f32 :=
  matmul dot_S512x128_S128x128_S512x128_1_1_0_0_n_n none q k zacc

/-- Softplus, as the kernel writes it: `max z 0 + log (1 + exp (0 - |z|))`. -/
def soft (z : FVec F S512x128 .f32) : FVec F S512x128 .f32 :=
  addf (maximumf z zeros) (log (addf (broadcast S512x128 (FloatOps.ofBits .f32 1065353216#32)) (exp (subf zeros (absf z)))))

/-- The log of the share of the stick a key leaves. -/
def left (z : FVec F S512x128 .f32) : FVec F S512x128 .f32 := subf zeros (soft z)

/-- The product of a tile with a 0/1 triangle in two parts, its rounding and what the rounding leaves. -/
def triDot (l : FVec F S512x128 .f32) (u : FVec F S128x128 .bf16) : FVec F S512x128 .f32 :=
  addf (matmul dot_S512x128_S128x128_S512x128_1_0_0_1_n_n none (truncf .bf16 l bitsLt_bf16_f32) u zacc)
    (matmul dot_S512x128_S128x128_S512x128_1_0_0_1_n_n none
      (truncf .bf16 (subf l (extf .f32 (truncf .bf16 l bitsLt_bf16_f32) bitsLt_bf16_f32)) bitsLt_bf16_f32) u zacc)

/-- The weights of a tile's keys: the share taken of what the later keys have left. -/
def weight (u : FVec F S128x128 .bf16) (z l C : FVec F S512x128 .f32) : FVec F S512x128 .f32 :=
  exp (addf (addf (subf z (soft z)) (triDot l u)) C)

/-- The accumulator after a tile. -/
def accNext (a : FVec F S512x128 .f32) (v : FVec F S128x128 .bf16) (A : FVec F S512x128 .f32) : FVec F S512x128 .f32 :=
  addf A (matmul dot_S512x128_S128x128_S512x128_1_0_0_1_n_n none (truncf .bf16 a bitsLt_bf16_f32) v zacc)

/-- The carry after a tile: the tile's logs summed along the keys, on every lane. -/
def carryNext (l C : FVec F S512x128 .f32) : FVec F S512x128 .f32 :=
  addf C (broadcastTo S512x128 (shapeCast S512x1 (multiReduction .add [1] S512 l 0#32 reduces_S512x128_S512 (.inl rfl) rfl) shapeCasts_S512_S512x1)
    broadcasts_S512x1_S512x128)

/-- The greatest carry of the two slabs. -/
def greatest (C0 C1 : FVec F S512x128 .f32) : F .f32 :=
  extractAt ![0, 0, 0] (shapeCast S1x1x1 (multiReduction .maximumf [1, 2] S1 (shapeCast S1x512x128 (maximumf C0 C1) shapeCasts_S512x128_S1x512x128)
    0xFF800000#32 reduces_S1x512x128_S1 (.inl rfl) rfl) shapeCasts_S1_S1x1x1) inpos_S1x1x1_p0_0_0

/-- The carry after one tile. -/
def stepC (q : FVec F S512x128 .bf16) (k : FVec F S128x128 .bf16) (C : FVec F S512x128 .f32) : FVec F S512x128 .f32 :=
  carryNext (left (score q k)) C

/-- The accumulator after one tile entered with carry `C`. -/
def stepA (u : FVec F S128x128 .bf16) (q : FVec F S512x128 .bf16) (k v : FVec F S128x128 .bf16) (C A : FVec F S512x128 .f32) : FVec F S512x128 .f32 :=
  accNext (weight u (score q k) (left (score q k)) C) v A

/-- The carry after the diagonal tile, the keys not before the query left out. -/
def diagC (p : IVec S512x128 1) (q : FVec F S512x128 .bf16) (k : FVec F S128x128 .bf16) (C : FVec F S512x128 .f32) : FVec F S512x128 .f32 :=
  carryNext (select p (left (score q k)) zeros) C

/-- The accumulator after the diagonal tile. -/
def diagA (p : IVec S512x128 1) (u : FVec F S128x128 .bf16) (q : FVec F S512x128 .bf16) (k v : FVec F S128x128 .bf16) (C A : FVec F S512x128 .f32) :
    FVec F S512x128 .f32 :=
  accNext (select p (weight u (score q k) (select p (left (score q k)) zeros) C) zeros) v A

/-- A load of the first slab of a buffer written over junk reads the writes there. -/
theorem slab0_writes {e : EltTy} {sp : Space} (v : View sig .tc sp S2x512x128 e) (L : List (View.Piece (Elt F) S2x512x128 e)) :
    slab0 (v.read (Elt F) (v.writes (Elt F) v.junk L))
      = shapeCast S512x128 (v.readCov L (Rect.unit (s := S2x512x128) ![0, 0, 0] S1x512x128.size inb_S2x512x128_S1x512x128_0_0_0).toLoadRect) shapeCasts_S1x512x128_S512x128 := by
  rw [View.readCov_eq_canon', View.read_writes_junk_eq_canon]
  rfl

/-- The second slab likewise. -/
theorem slab1_writes {e : EltTy} {sp : Space} (v : View sig .tc sp S2x512x128 e) (L : List (View.Piece (Elt F) S2x512x128 e)) :
    slab1 (v.read (Elt F) (v.writes (Elt F) v.junk L))
      = shapeCast S512x128 (v.readCov L (Rect.unit (s := S2x512x128) ![1, 0, 0] S1x512x128.size inb_S2x512x128_S1x512x128_1_0_0).toLoadRect) shapeCasts_S1x512x128_S512x128 := by
  rw [View.readCov_eq_canon', View.read_writes_junk_eq_canon]
  rfl

/-- A load of the first slab of a whole buffer. -/
theorem readAt_slab0 {e : EltTy} {sp : Space} (M : Memref sig .tc sp S2x512x128 e) (h : M.IsWhole) (x : Vec F S2x512x128 e) :
    shapeCast S512x128 (View.readAt (Elt F) M.view (Rect.unit (s := S2x512x128) ![0, 0, 0] S1x512x128.size inb_S2x512x128_S1x512x128_0_0_0).toLoadRect (h.unread x))
      shapeCasts_S1x512x128_S512x128 = slab0 x :=
  congrArg slab0 (h.read_unread x)

/-- A load of the second slab of a whole buffer. -/
theorem readAt_slab1 {e : EltTy} {sp : Space} (M : Memref sig .tc sp S2x512x128 e) (h : M.IsWhole) (x : Vec F S2x512x128 e) :
    shapeCast S512x128 (View.readAt (Elt F) M.view (Rect.unit (s := S2x512x128) ![1, 0, 0] S1x512x128.size inb_S2x512x128_S1x512x128_1_0_0).toLoadRect (h.unread x))
      shapeCasts_S1x512x128_S512x128 = slab1 x :=
  congrArg slab1 (h.read_unread x)

/-- A load of a tile of the staged keys or values. -/
theorem readAt_key {sp : Space} (M : Memref sig .tc sp S1x8192x256 .bf16) (h : M.IsWhole) (x : Vec F S1x8192x256 .bf16) (off : Fin 3 → ℕ)
    (inb : ∀ a, off a + S1x128x128.size a ≤ S1x8192x256.size a) :
    shapeCast S128x128 (View.readAt (Elt F) M.view (Rect.unit (s := S1x8192x256) off S1x128x128.size inb).toLoadRect (h.unread x))
      shapeCasts_S1x128x128_S128x128 = keyTile x off inb :=
  congrArg (fun y => keyTile y off inb) (h.read_unread x)

/-- A block stored with a leading unit axis, read without it. -/
theorem drop_unit {e : EltTy} (v : Vec F S512x128 e) :
    shapeCast S512x128 (shapeCast S1x512x128 v shapeCasts_S512x128_S1x512x128) shapeCasts_S1x512x128_S512x128 = v :=
  shapeCast_shapeCast v shapeCasts_S512x128_S1x512x128 shapeCasts_S1x512x128_S512x128

/-- A load of the first slab right after its store. -/
theorem readCov_hit0 {e : EltTy} {sp : Space} (v : View sig .tc sp S2x512x128 e) (w : Vec F S512x128 e) (L : List (View.Piece (Elt F) S2x512x128 e)) :
    shapeCast S512x128 (v.readCov (⟨Rect.unit (s := S2x512x128) ![0, 0, 0] S1x512x128.size inb_S2x512x128_S1x512x128_0_0_0,
        shapeCast S1x512x128 w shapeCasts_S512x128_S1x512x128⟩ :: L)
      (Rect.unit (s := S2x512x128) ![0, 0, 0] S1x512x128.size inb_S2x512x128_S1x512x128_0_0_0).toLoadRect) shapeCasts_S1x512x128_S512x128 = w := by
  rw [View.readCov_cons_toLoadRect]; exact drop_unit w

/-- A load of the second slab right after its store. -/
theorem readCov_hit1 {e : EltTy} {sp : Space} (v : View sig .tc sp S2x512x128 e) (w : Vec F S512x128 e) (L : List (View.Piece (Elt F) S2x512x128 e)) :
    shapeCast S512x128 (v.readCov (⟨Rect.unit (s := S2x512x128) ![1, 0, 0] S1x512x128.size inb_S2x512x128_S1x512x128_1_0_0,
        shapeCast S1x512x128 w shapeCasts_S512x128_S1x512x128⟩ :: L)
      (Rect.unit (s := S2x512x128) ![1, 0, 0] S1x512x128.size inb_S2x512x128_S1x512x128_1_0_0).toLoadRect) shapeCasts_S1x512x128_S512x128 = w := by
  rw [View.readCov_cons_toLoadRect]; exact drop_unit w

/-- A load of the first slab past a store of the second. -/
theorem readCov_miss0 {e : EltTy} {sp : Space} (v : View sig .tc sp S2x512x128 e) (w : Vec F S1x512x128 e) (L : List (View.Piece (Elt F) S2x512x128 e)) :
    v.readCov (⟨Rect.unit (s := S2x512x128) ![1, 0, 0] S1x512x128.size inb_S2x512x128_S1x512x128_1_0_0, w⟩ :: L)
        (Rect.unit (s := S2x512x128) ![0, 0, 0] S1x512x128.size inb_S2x512x128_S1x512x128_0_0_0).toLoadRect
      = v.readCov L (Rect.unit (s := S2x512x128) ![0, 0, 0] S1x512x128.size inb_S2x512x128_S1x512x128_0_0_0).toLoadRect := by
  have hd : LoadRect.disj (Rect.unit (s := S2x512x128) ![1, 0, 0] S1x512x128.size inb_S2x512x128_S1x512x128_1_0_0) (Rect.unit (s := S2x512x128) ![0, 0, 0] S1x512x128.size inb_S2x512x128_S1x512x128_0_0_0).toLoadRect = true := by decide
  exact View.readCov_skip v (Rect.unit (s := S2x512x128) ![1, 0, 0] S1x512x128.size inb_S2x512x128_S1x512x128_1_0_0) w L (Rect.unit (s := S2x512x128) ![0, 0, 0] S1x512x128.size inb_S2x512x128_S1x512x128_0_0_0).toLoadRect hd

/-- A load of the second slab past a store of the first. -/
theorem readCov_miss1 {e : EltTy} {sp : Space} (v : View sig .tc sp S2x512x128 e) (w : Vec F S1x512x128 e) (L : List (View.Piece (Elt F) S2x512x128 e)) :
    v.readCov (⟨Rect.unit (s := S2x512x128) ![0, 0, 0] S1x512x128.size inb_S2x512x128_S1x512x128_0_0_0, w⟩ :: L)
        (Rect.unit (s := S2x512x128) ![1, 0, 0] S1x512x128.size inb_S2x512x128_S1x512x128_1_0_0).toLoadRect
      = v.readCov L (Rect.unit (s := S2x512x128) ![1, 0, 0] S1x512x128.size inb_S2x512x128_S1x512x128_1_0_0).toLoadRect := by
  have hd : LoadRect.disj (Rect.unit (s := S2x512x128) ![0, 0, 0] S1x512x128.size inb_S2x512x128_S1x512x128_0_0_0) (Rect.unit (s := S2x512x128) ![1, 0, 0] S1x512x128.size inb_S2x512x128_S1x512x128_1_0_0).toLoadRect = true := by decide
  exact View.readCov_skip v (Rect.unit (s := S2x512x128) ![0, 0, 0] S1x512x128.size inb_S2x512x128_S1x512x128_0_0_0) w L (Rect.unit (s := S2x512x128) ![1, 0, 0] S1x512x128.size inb_S2x512x128_S1x512x128_1_0_0).toLoadRect hd

end Tiles

section Trip

variable {F : FTy → Type} [FloatOps F] [Named F]
variable (c : Dev nD) (i : grid0.Coords)
  (M3 : Memref sig .tc .vmem S1x8192x256 .bf16) (h3 : M3.IsWhole) (M4 : Memref sig .tc .vmem S1x8192x256 .bf16) (h4 : M4.IsWhole)
  (M7 : Memref sig .tc .vmem S2x512x128 .bf16) (h7 : M7.IsWhole) (M8 : Memref sig .tc .vmem S2x512x128 .f32) (h8 : M8.IsWhole)
  (M9 : Memref sig .tc .vmem S2x512x128 .f32) (h9 : M9.IsWhole)
  (x3 x4 : Vec F S1x8192x256 .bf16) (f7 : Vec F S2x512x128 .bf16) (f8 f9 : Vec F S2x512x128 .f32) (u : FVec F S128x128 .bf16)
  (t : BitVec 32) (hchk : k0_chk1 i t)

theorem trip_z5 : tripRun.sl.v244 i M3 h3 M7 h7 x3 f7 t hchk = score (slab0 f7) (keyTile x3 (k0_off5 i t) (k0_off5_inb i t hchk)) :=
  congrArg₂ score (readAt_slab0 M7 h7 f7) (readAt_key M3 h3 x3 (k0_off5 i t) (k0_off5_inb i t hchk))

theorem trip_z6 : tripRun.sl.v295 i M3 h3 M7 h7 x3 f7 t hchk = score (slab1 f7) (keyTile x3 (k0_off6 i t) (k0_off6_inb i t hchk)) :=
  congrArg₂ score (readAt_slab1 M7 h7 f7) (readAt_key M3 h3 x3 (k0_off6 i t) (k0_off6_inb i t hchk))

theorem trip_z7 : tripRun.sl.v352 i M3 h3 M7 h7 x3 f7 t hchk = score (slab0 f7) (keyTile x3 (k0_off7 i t) (k0_off7_inb i t hchk)) :=
  congrArg₂ score (readAt_slab0 M7 h7 f7) (readAt_key M3 h3 x3 (k0_off7 i t) (k0_off7_inb i t hchk))

theorem trip_z8 : tripRun.sl.v403 i M3 h3 M7 h7 x3 f7 t hchk = score (slab1 f7) (keyTile x3 (k0_off8 i t) (k0_off8_inb i t hchk)) :=
  congrArg₂ score (readAt_slab1 M7 h7 f7) (readAt_key M3 h3 x3 (k0_off8 i t) (k0_off8_inb i t hchk))

theorem trip_c5 : tripRun.sl.v283 i M3 h3 M7 h7 M8 h8 x3 f7 f8 t hchk = stepC (slab0 f7) (keyTile x3 (k0_off5 i t) (k0_off5_inb i t hchk)) (slab0 f8) := by
  show carryNext (left (tripRun.sl.v244 i M3 h3 M7 h7 x3 f7 t hchk)) (tripRun.sl.v246 M8 h8 f8) = _
  rw [trip_z5, show tripRun.sl.v246 M8 h8 f8 = (slab0 f8) from readAt_slab0 M8 h8 f8]
  rfl

theorem trip_w5 : tripRun.sl.v269 i M3 h3 M7 h7 M8 h8 x3 f7 f8 u t hchk = weight u (score (slab0 f7) (keyTile x3 (k0_off5 i t) (k0_off5_inb i t hchk))) (left (score (slab0 f7) (keyTile x3 (k0_off5 i t) (k0_off5_inb i t hchk)))) (slab0 f8) := by
  show weight u (tripRun.sl.v244 i M3 h3 M7 h7 x3 f7 t hchk) (left (tripRun.sl.v244 i M3 h3 M7 h7 x3 f7 t hchk)) (tripRun.sl.v246 M8 h8 f8) = _
  rw [trip_z5, show tripRun.sl.v246 M8 h8 f8 = (slab0 f8) from readAt_slab0 M8 h8 f8]

theorem trip_a5 : tripRun.sl.v276 i M3 h3 M4 h4 M7 h7 M8 h8 M9 h9 x3 x4 f7 f8 f9 u t hchk = stepA u (slab0 f7) (keyTile x3 (k0_off5 i t) (k0_off5_inb i t hchk)) (keyTile x4 (k0_off5 i t) (k0_off5_inb i t hchk)) (slab0 f8) (slab0 f9) := by
  show accNext (tripRun.sl.v269 i M3 h3 M7 h7 M8 h8 x3 f7 f8 u t hchk) (tripRun.sl.v241 i M4 h4 x4 t hchk) (tripRun.sl.v273 M9 h9 f9) = _
  rw [trip_w5, show tripRun.sl.v241 i M4 h4 x4 t hchk = (keyTile x4 (k0_off5 i t) (k0_off5_inb i t hchk)) from readAt_key M4 h4 x4 (k0_off5 i t) (k0_off5_inb i t hchk),
    show tripRun.sl.v273 M9 h9 f9 = (slab0 f9) from readAt_slab0 M9 h9 f9]
  rfl

theorem trip_c6 : tripRun.sl.v334 i M3 h3 M7 h7 M8 h8 x3 f7 f8 t hchk = stepC (slab1 f7) (keyTile x3 (k0_off6 i t) (k0_off6_inb i t hchk)) (slab1 f8) := by
  show carryNext (left (tripRun.sl.v295 i M3 h3 M7 h7 x3 f7 t hchk)) (tripRun.sl.v297 M8 h8 f8) = _
  rw [trip_z6, show tripRun.sl.v297 M8 h8 f8 = (slab1 f8) from readAt_slab1 M8 h8 f8]
  rfl

theorem trip_w6 : tripRun.sl.v320 i M3 h3 M7 h7 M8 h8 x3 f7 f8 u t hchk = weight u (score (slab1 f7) (keyTile x3 (k0_off6 i t) (k0_off6_inb i t hchk))) (left (score (slab1 f7) (keyTile x3 (k0_off6 i t) (k0_off6_inb i t hchk)))) (slab1 f8) := by
  show weight u (tripRun.sl.v295 i M3 h3 M7 h7 x3 f7 t hchk) (left (tripRun.sl.v295 i M3 h3 M7 h7 x3 f7 t hchk)) (tripRun.sl.v297 M8 h8 f8) = _
  rw [trip_z6, show tripRun.sl.v297 M8 h8 f8 = (slab1 f8) from readAt_slab1 M8 h8 f8]

theorem trip_a6 : tripRun.sl.v327 i M3 h3 M4 h4 M7 h7 M8 h8 M9 h9 x3 x4 f7 f8 f9 u t hchk = stepA u (slab1 f7) (keyTile x3 (k0_off6 i t) (k0_off6_inb i t hchk)) (keyTile x4 (k0_off6 i t) (k0_off6_inb i t hchk)) (slab1 f8) (slab1 f9) := by
  show accNext (tripRun.sl.v320 i M3 h3 M7 h7 M8 h8 x3 f7 f8 u t hchk) (tripRun.sl.v292 i M4 h4 x4 t hchk) (tripRun.sl.v324 M9 h9 f9) = _
  rw [trip_w6, show tripRun.sl.v292 i M4 h4 x4 t hchk = (keyTile x4 (k0_off6 i t) (k0_off6_inb i t hchk)) from readAt_key M4 h4 x4 (k0_off6 i t) (k0_off6_inb i t hchk),
    show tripRun.sl.v324 M9 h9 f9 = (slab1 f9) from readAt_slab1 M9 h9 f9]
  rfl

theorem trip_l7 : tripRun.sl.v354 i M3 h3 M7 h7 M8 h8 x3 f7 f8 t hchk = (stepC (slab0 f7) (keyTile x3 (k0_off5 i t) (k0_off5_inb i t hchk)) (slab0 f8)) := by
  refine Eq.trans ?_ (trip_c5 i M3 h3 M7 h7 M8 h8 x3 f7 f8 t hchk)
  refine (congrArg (fun y => shapeCast S512x128 y shapeCasts_S1x512x128_S512x128)
    (readCov_miss0 M8.view (tripRun.sl.v337 i M3 h3 M7 h7 M8 h8 x3 f7 f8 t hchk) (tripRun.sl.H8_1 i M3 h3 M7 h7 M8 h8 x3 f7 f8 t hchk))).trans ?_
  exact readCov_hit0 M8.view (tripRun.sl.v283 i M3 h3 M7 h7 M8 h8 x3 f7 f8 t hchk) []

theorem trip_m7 : tripRun.sl.v381 i M3 h3 M4 h4 M7 h7 M8 h8 M9 h9 x3 x4 f7 f8 f9 u t hchk = (stepA u (slab0 f7) (keyTile x3 (k0_off5 i t) (k0_off5_inb i t hchk)) (keyTile x4 (k0_off5 i t) (k0_off5_inb i t hchk)) (slab0 f8) (slab0 f9)) := by
  refine Eq.trans ?_ (trip_a5 i M3 h3 M4 h4 M7 h7 M8 h8 M9 h9 x3 x4 f7 f8 f9 u t hchk)
  refine (congrArg (fun y => shapeCast S512x128 y shapeCasts_S1x512x128_S512x128)
    (readCov_miss0 M9.view (tripRun.sl.v330 i M3 h3 M4 h4 M7 h7 M8 h8 M9 h9 x3 x4 f7 f8 f9 u t hchk) (tripRun.sl.H9_1 i M3 h3 M4 h4 M7 h7 M8 h8 M9 h9 x3 x4 f7 f8 f9 u t hchk))).trans ?_
  exact readCov_hit0 M9.view (tripRun.sl.v276 i M3 h3 M4 h4 M7 h7 M8 h8 M9 h9 x3 x4 f7 f8 f9 u t hchk) []

theorem trip_c7 : tripRun.sl.v391 i M3 h3 M7 h7 M8 h8 x3 f7 f8 t hchk = stepC (slab0 f7) (keyTile x3 (k0_off7 i t) (k0_off7_inb i t hchk)) (stepC (slab0 f7) (keyTile x3 (k0_off5 i t) (k0_off5_inb i t hchk)) (slab0 f8)) := by
  show carryNext (left (tripRun.sl.v352 i M3 h3 M7 h7 x3 f7 t hchk)) (tripRun.sl.v354 i M3 h3 M7 h7 M8 h8 x3 f7 f8 t hchk) = _
  rw [trip_z7, show tripRun.sl.v354 i M3 h3 M7 h7 M8 h8 x3 f7 f8 t hchk = (stepC (slab0 f7) (keyTile x3 (k0_off5 i t) (k0_off5_inb i t hchk)) (slab0 f8)) from trip_l7 i M3 h3 M7 h7 M8 h8 x3 f7 f8 t hchk]
  rfl

theorem trip_w7 : tripRun.sl.v377 i M3 h3 M7 h7 M8 h8 x3 f7 f8 u t hchk = weight u (score (slab0 f7) (keyTile x3 (k0_off7 i t) (k0_off7_inb i t hchk))) (left (score (slab0 f7) (keyTile x3 (k0_off7 i t) (k0_off7_inb i t hchk)))) (stepC (slab0 f7) (keyTile x3 (k0_off5 i t) (k0_off5_inb i t hchk)) (slab0 f8)) := by
  show weight u (tripRun.sl.v352 i M3 h3 M7 h7 x3 f7 t hchk) (left (tripRun.sl.v352 i M3 h3 M7 h7 x3 f7 t hchk)) (tripRun.sl.v354 i M3 h3 M7 h7 M8 h8 x3 f7 f8 t hchk) = _
  rw [trip_z7, show tripRun.sl.v354 i M3 h3 M7 h7 M8 h8 x3 f7 f8 t hchk = (stepC (slab0 f7) (keyTile x3 (k0_off5 i t) (k0_off5_inb i t hchk)) (slab0 f8)) from trip_l7 i M3 h3 M7 h7 M8 h8 x3 f7 f8 t hchk]

theorem trip_a7 : tripRun.sl.v384 i M3 h3 M4 h4 M7 h7 M8 h8 M9 h9 x3 x4 f7 f8 f9 u t hchk = stepA u (slab0 f7) (keyTile x3 (k0_off7 i t) (k0_off7_inb i t hchk)) (keyTile x4 (k0_off7 i t) (k0_off7_inb i t hchk)) (stepC (slab0 f7) (keyTile x3 (k0_off5 i t) (k0_off5_inb i t hchk)) (slab0 f8)) (stepA u (slab0 f7) (keyTile x3 (k0_off5 i t) (k0_off5_inb i t hchk)) (keyTile x4 (k0_off5 i t) (k0_off5_inb i t hchk)) (slab0 f8) (slab0 f9)) := by
  show accNext (tripRun.sl.v377 i M3 h3 M7 h7 M8 h8 x3 f7 f8 u t hchk) (tripRun.sl.v349 i M4 h4 x4 t hchk) (tripRun.sl.v381 i M3 h3 M4 h4 M7 h7 M8 h8 M9 h9 x3 x4 f7 f8 f9 u t hchk) = _
  rw [trip_w7, show tripRun.sl.v349 i M4 h4 x4 t hchk = (keyTile x4 (k0_off7 i t) (k0_off7_inb i t hchk)) from readAt_key M4 h4 x4 (k0_off7 i t) (k0_off7_inb i t hchk),
    show tripRun.sl.v381 i M3 h3 M4 h4 M7 h7 M8 h8 M9 h9 x3 x4 f7 f8 f9 u t hchk = (stepA u (slab0 f7) (keyTile x3 (k0_off5 i t) (k0_off5_inb i t hchk)) (keyTile x4 (k0_off5 i t) (k0_off5_inb i t hchk)) (slab0 f8) (slab0 f9)) from trip_m7 i M3 h3 M4 h4 M7 h7 M8 h8 M9 h9 x3 x4 f7 f8 f9 u t hchk]
  rfl

theorem trip_l8 : tripRun.sl.v405 i M3 h3 M7 h7 M8 h8 x3 f7 f8 t hchk = (stepC (slab1 f7) (keyTile x3 (k0_off6 i t) (k0_off6_inb i t hchk)) (slab1 f8)) := by
  refine Eq.trans ?_ (trip_c6 i M3 h3 M7 h7 M8 h8 x3 f7 f8 t hchk)
  refine (congrArg (fun y => shapeCast S512x128 y shapeCasts_S1x512x128_S512x128)
    (readCov_miss1 M8.view (tripRun.sl.v394 i M3 h3 M7 h7 M8 h8 x3 f7 f8 t hchk) (tripRun.sl.H8_2 i M3 h3 M7 h7 M8 h8 x3 f7 f8 t hchk))).trans ?_
  exact readCov_hit1 M8.view (tripRun.sl.v334 i M3 h3 M7 h7 M8 h8 x3 f7 f8 t hchk) (tripRun.sl.H8_1 i M3 h3 M7 h7 M8 h8 x3 f7 f8 t hchk)

theorem trip_m8 : tripRun.sl.v432 i M3 h3 M4 h4 M7 h7 M8 h8 M9 h9 x3 x4 f7 f8 f9 u t hchk = (stepA u (slab1 f7) (keyTile x3 (k0_off6 i t) (k0_off6_inb i t hchk)) (keyTile x4 (k0_off6 i t) (k0_off6_inb i t hchk)) (slab1 f8) (slab1 f9)) := by
  refine Eq.trans ?_ (trip_a6 i M3 h3 M4 h4 M7 h7 M8 h8 M9 h9 x3 x4 f7 f8 f9 u t hchk)
  refine (congrArg (fun y => shapeCast S512x128 y shapeCasts_S1x512x128_S512x128)
    (readCov_miss1 M9.view (tripRun.sl.v387 i M3 h3 M4 h4 M7 h7 M8 h8 M9 h9 x3 x4 f7 f8 f9 u t hchk) (tripRun.sl.H9_2 i M3 h3 M4 h4 M7 h7 M8 h8 M9 h9 x3 x4 f7 f8 f9 u t hchk))).trans ?_
  exact readCov_hit1 M9.view (tripRun.sl.v327 i M3 h3 M4 h4 M7 h7 M8 h8 M9 h9 x3 x4 f7 f8 f9 u t hchk) (tripRun.sl.H9_1 i M3 h3 M4 h4 M7 h7 M8 h8 M9 h9 x3 x4 f7 f8 f9 u t hchk)

theorem trip_c8 : tripRun.sl.v442 i M3 h3 M7 h7 M8 h8 x3 f7 f8 t hchk = stepC (slab1 f7) (keyTile x3 (k0_off8 i t) (k0_off8_inb i t hchk)) (stepC (slab1 f7) (keyTile x3 (k0_off6 i t) (k0_off6_inb i t hchk)) (slab1 f8)) := by
  show carryNext (left (tripRun.sl.v403 i M3 h3 M7 h7 x3 f7 t hchk)) (tripRun.sl.v405 i M3 h3 M7 h7 M8 h8 x3 f7 f8 t hchk) = _
  rw [trip_z8, show tripRun.sl.v405 i M3 h3 M7 h7 M8 h8 x3 f7 f8 t hchk = (stepC (slab1 f7) (keyTile x3 (k0_off6 i t) (k0_off6_inb i t hchk)) (slab1 f8)) from trip_l8 i M3 h3 M7 h7 M8 h8 x3 f7 f8 t hchk]
  rfl

theorem trip_w8 : tripRun.sl.v428 i M3 h3 M7 h7 M8 h8 x3 f7 f8 u t hchk = weight u (score (slab1 f7) (keyTile x3 (k0_off8 i t) (k0_off8_inb i t hchk))) (left (score (slab1 f7) (keyTile x3 (k0_off8 i t) (k0_off8_inb i t hchk)))) (stepC (slab1 f7) (keyTile x3 (k0_off6 i t) (k0_off6_inb i t hchk)) (slab1 f8)) := by
  show weight u (tripRun.sl.v403 i M3 h3 M7 h7 x3 f7 t hchk) (left (tripRun.sl.v403 i M3 h3 M7 h7 x3 f7 t hchk)) (tripRun.sl.v405 i M3 h3 M7 h7 M8 h8 x3 f7 f8 t hchk) = _
  rw [trip_z8, show tripRun.sl.v405 i M3 h3 M7 h7 M8 h8 x3 f7 f8 t hchk = (stepC (slab1 f7) (keyTile x3 (k0_off6 i t) (k0_off6_inb i t hchk)) (slab1 f8)) from trip_l8 i M3 h3 M7 h7 M8 h8 x3 f7 f8 t hchk]

theorem trip_a8 : tripRun.sl.v435 i M3 h3 M4 h4 M7 h7 M8 h8 M9 h9 x3 x4 f7 f8 f9 u t hchk = stepA u (slab1 f7) (keyTile x3 (k0_off8 i t) (k0_off8_inb i t hchk)) (keyTile x4 (k0_off8 i t) (k0_off8_inb i t hchk)) (stepC (slab1 f7) (keyTile x3 (k0_off6 i t) (k0_off6_inb i t hchk)) (slab1 f8)) (stepA u (slab1 f7) (keyTile x3 (k0_off6 i t) (k0_off6_inb i t hchk)) (keyTile x4 (k0_off6 i t) (k0_off6_inb i t hchk)) (slab1 f8) (slab1 f9)) := by
  show accNext (tripRun.sl.v428 i M3 h3 M7 h7 M8 h8 x3 f7 f8 u t hchk) (tripRun.sl.v400 i M4 h4 x4 t hchk) (tripRun.sl.v432 i M3 h3 M4 h4 M7 h7 M8 h8 M9 h9 x3 x4 f7 f8 f9 u t hchk) = _
  rw [trip_w8, show tripRun.sl.v400 i M4 h4 x4 t hchk = (keyTile x4 (k0_off8 i t) (k0_off8_inb i t hchk)) from readAt_key M4 h4 x4 (k0_off8 i t) (k0_off8_inb i t hchk),
    show tripRun.sl.v432 i M3 h3 M4 h4 M7 h7 M8 h8 M9 h9 x3 x4 f7 f8 f9 u t hchk = (stepA u (slab1 f7) (keyTile x3 (k0_off6 i t) (k0_off6_inb i t hchk)) (keyTile x4 (k0_off6 i t) (k0_off6_inb i t hchk)) (slab1 f8) (slab1 f9)) from trip_m8 i M3 h3 M4 h4 M7 h7 M8 h8 M9 h9 x3 x4 f7 f8 f9 u t hchk]
  rfl

/-- The first slab of the carry after a trip: two tiles on. -/
theorem trip_carry0 : slab0 (tripRun c i M3 h3 M4 h4 M7 h7 M8 h8 M9 h9 x3 x4 f7 f8 f9 u t hchk).1.1 = stepC (slab0 f7) (keyTile x3 (k0_off7 i t) (k0_off7_inb i t hchk)) (stepC (slab0 f7) (keyTile x3 (k0_off5 i t) (k0_off5_inb i t hchk)) (slab0 f8)) := by
  refine (slab0_writes M8.view (tripRun.sl.H8_4 i M3 h3 M7 h7 M8 h8 x3 f7 f8 t hchk)).trans ?_
  refine (congrArg (fun y => shapeCast S512x128 y shapeCasts_S1x512x128_S512x128)
    (readCov_miss0 M8.view (tripRun.sl.v445 i M3 h3 M7 h7 M8 h8 x3 f7 f8 t hchk) (tripRun.sl.H8_3 i M3 h3 M7 h7 M8 h8 x3 f7 f8 t hchk))).trans ?_
  exact (readCov_hit0 M8.view (tripRun.sl.v391 i M3 h3 M7 h7 M8 h8 x3 f7 f8 t hchk) (tripRun.sl.H8_2 i M3 h3 M7 h7 M8 h8 x3 f7 f8 t hchk)).trans (trip_c7 i M3 h3 M7 h7 M8 h8 x3 f7 f8 t hchk)

/-- The first slab of the accumulator after a trip. -/
theorem trip_acc0 : slab0 (tripRun c i M3 h3 M4 h4 M7 h7 M8 h8 M9 h9 x3 x4 f7 f8 f9 u t hchk).1.2.1 = stepA u (slab0 f7) (keyTile x3 (k0_off7 i t) (k0_off7_inb i t hchk)) (keyTile x4 (k0_off7 i t) (k0_off7_inb i t hchk)) (stepC (slab0 f7) (keyTile x3 (k0_off5 i t) (k0_off5_inb i t hchk)) (slab0 f8)) (stepA u (slab0 f7) (keyTile x3 (k0_off5 i t) (k0_off5_inb i t hchk)) (keyTile x4 (k0_off5 i t) (k0_off5_inb i t hchk)) (slab0 f8) (slab0 f9)) := by
  refine (slab0_writes M9.view (tripRun.sl.H9_4 i M3 h3 M4 h4 M7 h7 M8 h8 M9 h9 x3 x4 f7 f8 f9 u t hchk)).trans ?_
  refine (congrArg (fun y => shapeCast S512x128 y shapeCasts_S1x512x128_S512x128)
    (readCov_miss0 M9.view (tripRun.sl.v438 i M3 h3 M4 h4 M7 h7 M8 h8 M9 h9 x3 x4 f7 f8 f9 u t hchk) (tripRun.sl.H9_3 i M3 h3 M4 h4 M7 h7 M8 h8 M9 h9 x3 x4 f7 f8 f9 u t hchk))).trans ?_
  exact (readCov_hit0 M9.view (tripRun.sl.v384 i M3 h3 M4 h4 M7 h7 M8 h8 M9 h9 x3 x4 f7 f8 f9 u t hchk) (tripRun.sl.H9_2 i M3 h3 M4 h4 M7 h7 M8 h8 M9 h9 x3 x4 f7 f8 f9 u t hchk)).trans
    (trip_a7 i M3 h3 M4 h4 M7 h7 M8 h8 M9 h9 x3 x4 f7 f8 f9 u t hchk)

/-- The second slab of the carry after a trip: two tiles on. -/
theorem trip_carry1 : slab1 (tripRun c i M3 h3 M4 h4 M7 h7 M8 h8 M9 h9 x3 x4 f7 f8 f9 u t hchk).1.1 = stepC (slab1 f7) (keyTile x3 (k0_off8 i t) (k0_off8_inb i t hchk)) (stepC (slab1 f7) (keyTile x3 (k0_off6 i t) (k0_off6_inb i t hchk)) (slab1 f8)) := by
  refine (slab1_writes M8.view (tripRun.sl.H8_4 i M3 h3 M7 h7 M8 h8 x3 f7 f8 t hchk)).trans ?_
  exact (readCov_hit1 M8.view (tripRun.sl.v442 i M3 h3 M7 h7 M8 h8 x3 f7 f8 t hchk) (tripRun.sl.H8_3 i M3 h3 M7 h7 M8 h8 x3 f7 f8 t hchk)).trans (trip_c8 i M3 h3 M7 h7 M8 h8 x3 f7 f8 t hchk)

/-- The second slab of the accumulator after a trip. -/
theorem trip_acc1 : slab1 (tripRun c i M3 h3 M4 h4 M7 h7 M8 h8 M9 h9 x3 x4 f7 f8 f9 u t hchk).1.2.1 = stepA u (slab1 f7) (keyTile x3 (k0_off8 i t) (k0_off8_inb i t hchk)) (keyTile x4 (k0_off8 i t) (k0_off8_inb i t hchk)) (stepC (slab1 f7) (keyTile x3 (k0_off6 i t) (k0_off6_inb i t hchk)) (slab1 f8)) (stepA u (slab1 f7) (keyTile x3 (k0_off6 i t) (k0_off6_inb i t hchk)) (keyTile x4 (k0_off6 i t) (k0_off6_inb i t hchk)) (slab1 f8) (slab1 f9)) := by
  refine (slab1_writes M9.view (tripRun.sl.H9_4 i M3 h3 M4 h4 M7 h7 M8 h8 M9 h9 x3 x4 f7 f8 f9 u t hchk)).trans ?_
  exact (readCov_hit1 M9.view (tripRun.sl.v435 i M3 h3 M4 h4 M7 h7 M8 h8 M9 h9 x3 x4 f7 f8 f9 u t hchk) (tripRun.sl.H9_3 i M3 h3 M4 h4 M7 h7 M8 h8 M9 h9 x3 x4 f7 f8 f9 u t hchk)).trans
    (trip_a8 i M3 h3 M4 h4 M7 h7 M8 h8 M9 h9 x3 x4 f7 f8 f9 u t hchk)

/-- The test a trip passes on is of the carry it leaves. -/
theorem trip_flag : (tripRun c i M3 h3 M4 h4 M7 h7 M8 h8 M9 h9 x3 x4 f7 f8 f9 u t hchk).1.2.2
    = Scalar.cmpf .ogt (greatest (slab0 (tripRun c i M3 h3 M4 h4 M7 h7 M8 h8 M9 h9 x3 x4 f7 f8 f9 u t hchk).1.1)
        (slab1 (tripRun c i M3 h3 M4 h4 M7 h7 M8 h8 M9 h9 x3 x4 f7 f8 f9 u t hchk).1.1)) (Named.named κ "exp_underflow" 0xC2D00000#32) := by
  rw [show slab0 (tripRun c i M3 h3 M4 h4 M7 h7 M8 h8 M9 h9 x3 x4 f7 f8 f9 u t hchk).1.1 = tripRun.sl.v448 i M3 h3 M7 h7 M8 h8 x3 f7 f8 t hchk from
      slab0_writes M8.view (tripRun.sl.H8_4 i M3 h3 M7 h7 M8 h8 x3 f7 f8 t hchk),
    show slab1 (tripRun c i M3 h3 M4 h4 M7 h7 M8 h8 M9 h9 x3 x4 f7 f8 f9 u t hchk).1.1
        = shapeCast S512x128 (tripRun.sl.v449 i M3 h3 M7 h7 M8 h8 x3 f7 f8 t hchk) shapeCasts_S1x512x128_S512x128 from
      slab1_writes M8.view (tripRun.sl.H8_4 i M3 h3 M7 h7 M8 h8 x3 f7 f8 t hchk)]
  rfl

end Trip

end Cert.Proof.KI

end
-- ==== Proof.Start.lean ====
/-
  What the body leaves before the while loop, and what it makes of the loop's result: the masked queries, the carry and the
  accumulator after the diagonal tile (and the odd tile, where there is one), and the block of the result.
-/
module

public import proofs.«01_k».proof.Proof.Tile
public import proofs.«01_k».proof.Proof.Body
public import Idealize.ShloMosaic.Lib.Pipeline.ValueKit.Tiles
public import Idealize.ShloMosaic.Lib.Pointwise

@[expose] public section

set_option maxRecDepth 16384

noncomputable section

namespace Cert.Proof.KI

open Cert.KernelIdeal Cert.KernelIdeal.Gen
open Idealize.ShloMosaic
open Idealize.ShloMosaic.TcCoe

variable {F : FTy → Type} [FloatOps F]

/-- The queries as the products read them: row `128 k + t` of slab `kp` holds query `t`'s chunk `2 kp + k / 2`, the lanes of
    the other half set to zero. -/
def qm (x2 : Vec F S1x128x512 .bf16) : Vec F S2x512x128 .bf16 := fun y =>
  if ((y 2).val < 64 ↔ (y 1).val / 128 % 2 = 0) then
    x2 (ix3 (0 : Fin 1) (⟨(y 1).val % 128, Nat.mod_lt _ (by decide)⟩ : Fin 128)
      (⟨128 * (2 * (y 0).val + (y 1).val / 256) + (y 2).val, by
        have h0 : (y 0).val < 2 := (y 0).isLt
        have h1 : (y 1).val < 512 := (y 1).isLt
        have h2 : (y 2).val < 128 := (y 2).isLt
        omega⟩ : Fin 512))
  else FloatOps.ofBits .bf16 0#16

/-- The block of the result from the accumulator: column `128 (2 kp + r) + l` of query `t` is lane `l` of slab `kp`'s row
    `256 r + t`, or of row `256 r + 128 + t` for the upper half of the lanes. -/
def outOf (A : Vec F S2x512x128 .f32) : Vec F S1x128x512 .f32 := fun y =>
  A (ix3 (⟨(y 2).val / 256, by have h2 : (y 2).val < 512 := (y 2).isLt; omega⟩ : Fin 2)
    (⟨256 * ((y 2).val / 128 % 2) + 128 * ((y 2).val % 128 / 64) + (y 1).val, by
      have h1 : (y 1).val < 128 := (y 1).isLt
      omega⟩ : Fin 512)
    (⟨(y 2).val % 128, Nat.mod_lt _ (by decide)⟩ : Fin 128))

/-- A load of the first slab after a fill with zeros. -/
theorem readCov_zero0 {sp : Space} (v : View sig .tc sp S2x512x128 .f32) (inb) (h : S2x512x128.ShapeCasts S2x512x128) :
    shapeCast S512x128 (v.readCov (Val := Elt F) [⟨Rect.unit (s := S2x512x128) ![0, 0, 0] S2x512x128.size inb,
        shapeCast S2x512x128 (broadcast S2x512x128 (FloatOps.ofBits (F := F) .f32 0#32)) h⟩]
      (Rect.unit (s := S2x512x128) ![0, 0, 0] S1x512x128.size inb_S2x512x128_S1x512x128_0_0_0).toLoadRect) shapeCasts_S1x512x128_S512x128 = (zeros : FVec F S512x128 .f32) := by
  rw [View.readCov_fill v inb _ [] _ (by decide)]
  rfl

/-- A load of the second slab after a fill with zeros. -/
theorem readCov_zero1 {sp : Space} (v : View sig .tc sp S2x512x128 .f32) (inb) (h : S2x512x128.ShapeCasts S2x512x128) :
    shapeCast S512x128 (v.readCov (Val := Elt F) [⟨Rect.unit (s := S2x512x128) ![0, 0, 0] S2x512x128.size inb,
        shapeCast S2x512x128 (broadcast S2x512x128 (FloatOps.ofBits (F := F) .f32 0#32)) h⟩]
      (Rect.unit (s := S2x512x128) ![1, 0, 0] S1x512x128.size inb_S2x512x128_S1x512x128_1_0_0).toLoadRect) shapeCasts_S1x512x128_S512x128 = (zeros : FVec F S512x128 .f32) := by
  rw [View.readCov_fill v inb _ [] _ (by decide)]
  rfl

/-- The whole triangle, loaded. -/
theorem readAt_tri {sp : Space} (M : Memref sig .tc sp S128x128 .bf16) (h : M.IsWhole) (x : Vec F S128x128 .bf16) (inb) (hc : S128x128.ShapeCasts S128x128) :
    shapeCast S128x128 (View.readAt (Elt F) M.view (Rect.unit (s := S128x128) ![0, 0] S128x128.size inb).toLoadRect (h.unread x)) hc = x := by
  refine (shapeCast_self _ _).trans (funext fun j => ?_)
  refine (congrFun (congrArg (fun y => View.ld y (Rect.unit (s := S128x128) ![0, 0] S128x128.size inb)) (h.read_unread x)) j).trans ?_
  exact View.ld_unit_apply_of x ![0, 0] S128x128.size inb j j (by intro a; fin_cases a <;> simp)

/-- A vector of one slice read as a matrix. -/
theorem unsq_apply {e : EltTy} (w : Vec F S128x128 e) (h : S128x128.ShapeCasts S1x128x128) (x : S1x128x128.Idx) :
    shapeCast S1x128x128 w h x = w (ix2 (⟨(x 1).val, (x 1).isLt⟩ : Fin 128) (⟨(x 2).val, (x 2).isLt⟩ : Fin 128)) := by
  pointwise

/-- A matrix read as a vector of one slice. -/
theorem sq_apply {e : EltTy} (w : Vec F S1x128x128 e) (h : S1x128x128.ShapeCasts S128x128) (a b : Fin 128) :
    shapeCast S128x128 w h (ix2 a b) = w (ix3 (0 : Fin 1) a b) := by
  pointwise

/-- The lanes of the lower half. -/
theorem low_lane (a b : Fin 128) :
    cmpi .slt (iota .tc S128x128 32 [1] iota_S128x128_d1_w32) (broadcast S128x128 64#32) (ix2 a b) = if b.val < 64 then 1#1 else 0#1 := by
  show BitVec.ofBool ((BitVec.ofNat 32 (0 * 128 + b.val)).slt 64#32) = _
  have : ∀ b : Fin 128, (BitVec.ofNat 32 (0 * 128 + b.val)).slt 64#32 = decide (b.val < 64) := by decide
  rw [this b]
  by_cases hb : b.val < 64 <;> simp [hb]

theorem sel_low {e : EltTy} (x y : Vec F S128x128 e) (a b : Fin 128) :
    select (cmpi .slt (iota .tc S128x128 32 [1] iota_S128x128_d1_w32) (broadcast S128x128 64#32)) x y (ix2 a b)
      = if b.val < 64 then x (ix2 a b) else y (ix2 a b) := by
  show (if cmpi .slt (iota .tc S128x128 32 [1] iota_S128x128_d1_w32) (broadcast S128x128 64#32) (ix2 a b) = 1#1 then _ else _) = _
  rw [low_lane]
  by_cases hb : b.val < 64 <;> simp [hb]

/-- A chunk of the staged queries at an index. -/
theorem chunk_apply {sp : Space} (M : Memref sig .tc sp S1x128x512 .bf16) (h : M.IsWhole) (x2 : Vec F S1x128x512 .bf16) (col : ℕ) (inb)
    (a b : Fin 128) (hb : col + b.val < 512) :
    shapeCast S128x128 (View.readAt (Elt F) M.view (Rect.unit (s := S1x128x512) ![0, 0, col] S1x128x128.size inb).toLoadRect (h.unread x2))
      shapeCasts_S1x128x128_S128x128 (ix2 a b) = x2 (ix3 (0 : Fin 1) a (⟨col + b.val, hb⟩ : Fin 512)) := by
  rw [sq_apply]
  refine (congrFun (congrArg (fun y => View.ld y (Rect.unit (s := S1x128x512) ![0, 0, col] S1x128x128.size inb)) (h.read_unread x2)) _).trans ?_
  exact View.ld_unit_apply_of x2 ![0, 0, col] S1x128x128.size inb _ _ (by intro a; fin_cases a <;> simp [ix3])

/-- One of the eight stores of the masked queries, read at an index: the low half of the lanes kept. -/
theorem qm_tile0 {sp : Space} (M : Memref sig .tc sp S1x128x512 .bf16) (h : M.IsWhole) (x2 : Vec F S1x128x512 .bf16) (y : S2x512x128.Idx)
    (kp row col : ℕ) (inb) (h1 : row % 256 = 0) (h2 : col = 128 * (2 * kp + row / 256)) (h3 : row < 512) (h4 : kp < 2) :
    View.TileAt y ![kp, row, 0] S1x128x128.size (shapeCast S1x128x128 (select (cmpi .slt (iota .tc S128x128 32 [1] iota_S128x128_d1_w32) (broadcast S128x128 64#32))
      (shapeCast S128x128 (View.readAt (Elt F) M.view (Rect.unit (s := S1x128x512) ![0, 0, col] S1x128x128.size inb).toLoadRect (h.unread x2)) shapeCasts_S1x128x128_S128x128)
      (broadcast S128x128 (FloatOps.ofBits (F := F) .bf16 0#16))) shapeCasts_S128x128_S1x128x128) (qm x2 y) := by
  intro x hx
  have e0 : (y 0).val = kp + (x 0).val := hx 0
  have e1 : (y 1).val = row + (x 1).val := hx 1
  have e2 : (y 2).val = 0 + (x 2).val := hx 2
  have l0 : (x 0).val < 1 := (x 0).isLt
  have l1 : (x 1).val < 128 := (x 1).isLt
  have l2 : (x 2).val < 128 := (x 2).isLt
  rw [unsq_apply, sel_low, chunk_apply M h x2 col inb _ _ (by show col + (x 2).val < 512; omega)]
  unfold qm
  by_cases hl : (x 2).val < 64
  · rw [if_pos hl, if_pos (by constructor <;> intro <;> omega)]
    congr 1
    funext a; apply Fin.ext
    fin_cases a <;> simp [ix3] <;> omega
  · rw [if_neg hl, if_neg (by rw [not_iff]; constructor <;> intro <;> omega)]
    rfl

/-- One of the eight stores of the masked queries, read at an index: the upper half of the lanes kept. -/
theorem qm_tile1 {sp : Space} (M : Memref sig .tc sp S1x128x512 .bf16) (h : M.IsWhole) (x2 : Vec F S1x128x512 .bf16) (y : S2x512x128.Idx)
    (kp row col : ℕ) (inb) (h1 : row % 256 = 128) (h2 : col = 128 * (2 * kp + row / 256)) (h3 : row < 512) (h4 : kp < 2) :
    View.TileAt y ![kp, row, 0] S1x128x128.size (shapeCast S1x128x128 (select (cmpi .slt (iota .tc S128x128 32 [1] iota_S128x128_d1_w32) (broadcast S128x128 64#32))
      (broadcast S128x128 (FloatOps.ofBits (F := F) .bf16 0#16))
      (shapeCast S128x128 (View.readAt (Elt F) M.view (Rect.unit (s := S1x128x512) ![0, 0, col] S1x128x128.size inb).toLoadRect (h.unread x2)) shapeCasts_S1x128x128_S128x128))
      shapeCasts_S128x128_S1x128x128) (qm x2 y) := by
  intro x hx
  have e0 : (y 0).val = kp + (x 0).val := hx 0
  have e1 : (y 1).val = row + (x 1).val := hx 1
  have e2 : (y 2).val = 0 + (x 2).val := hx 2
  have l0 : (x 0).val < 1 := (x 0).isLt
  have l1 : (x 1).val < 128 := (x 1).isLt
  have l2 : (x 2).val < 128 := (x 2).isLt
  rw [unsq_apply, sel_low, chunk_apply M h x2 col inb _ _ (by show col + (x 2).val < 512; omega)]
  unfold qm
  by_cases hl : (x 2).val < 64
  · rw [if_pos hl, if_neg (by rw [not_iff]; constructor <;> intro <;> omega)]
    rfl
  · rw [if_neg hl, if_pos (by constructor <;> intro <;> omega)]
    congr 1
    funext a; apply Fin.ext
    fin_cases a <;> simp [ix3] <;> omega

/-- A 128-row block of the accumulator at an index. -/
theorem accBlock_apply {sp : Space} (M : Memref sig .tc sp S2x512x128 .f32) (h : M.IsWhole) (A : Vec F S2x512x128 .f32) (kp row : ℕ) (inb)
    (a b : Fin 128) (hk : kp < 2) (hr : row + a.val < 512) :
    shapeCast S128x128 (View.readAt (Elt F) M.view (Rect.unit (s := S2x512x128) ![kp, row, 0] S1x128x128.size inb).toLoadRect (h.unread A))
      shapeCasts_S1x128x128_S128x128 (ix2 a b) = A (ix3 (⟨kp, hk⟩ : Fin 2) (⟨row + a.val, hr⟩ : Fin 512) b) := by
  rw [sq_apply]
  refine (congrFun (congrArg (fun y => View.ld y (Rect.unit (s := S2x512x128) ![kp, row, 0] S1x128x128.size inb)) (h.read_unread A)) _).trans ?_
  exact View.ld_unit_apply_of A ![kp, row, 0] S1x128x128.size inb _ _ (by intro a; fin_cases a <;> simp [ix3])

/-- A chunk of the result from the accumulator's rows: the lower lanes of one block of rows, the upper lanes of the next. -/
def outChunk {sp : Space} (M : Memref sig .tc sp S2x512x128 .f32) (h : M.IsWhole) (A : Vec F S2x512x128 .f32) (kp row row' : ℕ)
    (inb : ∀ a, (![kp, row, 0] : Fin 3 → ℕ) a + S1x128x128.size a ≤ S2x512x128.size a)
    (inb' : ∀ a, (![kp, row', 0] : Fin 3 → ℕ) a + S1x128x128.size a ≤ S2x512x128.size a) : Vec F S1x128x128 .f32 :=
  shapeCast S1x128x128 (select (cmpi .slt (iota .tc S128x128 32 [1] iota_S128x128_d1_w32) (broadcast S128x128 64#32))
    (shapeCast S128x128 (View.readAt (Elt F) M.view (Rect.unit (s := S2x512x128) ![kp, row, 0] S1x128x128.size inb).toLoadRect (h.unread A)) shapeCasts_S1x128x128_S128x128)
    (shapeCast S128x128 (View.readAt (Elt F) M.view (Rect.unit (s := S2x512x128) ![kp, row', 0] S1x128x128.size inb').toLoadRect (h.unread A)) shapeCasts_S1x128x128_S128x128))
    shapeCasts_S128x128_S1x128x128

theorem out_tile {sp : Space} (M : Memref sig .tc sp S2x512x128 .f32) (h : M.IsWhole) (A : Vec F S2x512x128 .f32) (y : S1x128x512.Idx)
    (kp row row' col : ℕ) (inb inb') (h1 : row = 256 * (col / 128 % 2)) (h2 : row' = row + 128) (h3 : kp = col / 256) (h4 : col < 512) (h5 : col % 128 = 0) :
    View.TileAt y ![0, 0, col] S1x128x128.size (outChunk M h A kp row row' inb inb') (outOf A y) := by
  intro x hx
  have e0 : (y 0).val = 0 + (x 0).val := hx 0
  have e1 : (y 1).val = 0 + (x 1).val := hx 1
  have e2 : (y 2).val = col + (x 2).val := hx 2
  have l0 : (x 0).val < 1 := (x 0).isLt
  have l1 : (x 1).val < 128 := (x 1).isLt
  have l2 : (x 2).val < 128 := (x 2).isLt
  unfold outChunk
  rw [unsq_apply, sel_low, accBlock_apply M h A kp row inb _ _ (by omega) (by show row + (x 1).val < 512; omega),
    accBlock_apply M h A kp row' inb' _ _ (by omega) (by show row' + (x 1).val < 512; omega)]
  unfold outOf
  by_cases hl : (x 2).val < 64
  · rw [if_pos hl]
    congr 1
    funext a; apply Fin.ext
    fin_cases a <;> simp [ix3] <;> omega
  · rw [if_neg hl]
    congr 1
    funext a; apply Fin.ext
    fin_cases a <;> simp [ix3] <;> omega

/-- The four stores of the result, read back. -/
theorem out_writes {sp sp' : Space} (v : View sig .tc sp' S1x128x512 .f32) (M : Memref sig .tc sp S2x512x128 .f32) (h : M.IsWhole)
    (A : Vec F S2x512x128 .f32) (j0 j1 j2 j3 k0 k1 k2 k3) :
    v.read (Elt F) (v.writes (Elt F) v.junk
      [⟨Rect.unit (s := S1x128x512) ![0, 0, 384] S1x128x128.size inb_S1x128x512_S1x128x128_0_0_384, outChunk M h A 1 256 384 j0 k0⟩,
       ⟨Rect.unit (s := S1x128x512) ![0, 0, 256] S1x128x128.size inb_S1x128x512_S1x128x128_0_0_256, outChunk M h A 1 0 128 j1 k1⟩,
       ⟨Rect.unit (s := S1x128x512) ![0, 0, 128] S1x128x128.size inb_S1x128x512_S1x128x128_0_0_128, outChunk M h A 0 256 384 j2 k2⟩,
       ⟨Rect.unit (s := S1x128x512) ![0, 0, 0] S1x128x128.size inb_S1x128x512_S1x128x128_0_0_0, outChunk M h A 0 0 128 j3 k3⟩]) = outOf A := by
  rw [View.read_writes_junk_eq_canon]
  funext y
  refine View.canon_eq_of_allAt _ y _ (View.cover_of_tiled_head _ _ _ (by rfl) y) ?_
  refine View.allAt_cons_unit _ _ _ _ _ (out_tile M h A y 1 256 384 384 _ _ (by decide) (by decide) (by decide) (by decide) (by decide)) ?_
  refine View.allAt_cons_unit _ _ _ _ _ (out_tile M h A y 1 0 128 256 _ _ (by decide) (by decide) (by decide) (by decide) (by decide)) ?_
  refine View.allAt_cons_unit _ _ _ _ _ (out_tile M h A y 0 256 384 128 _ _ (by decide) (by decide) (by decide) (by decide) (by decide)) ?_
  refine View.allAt_cons_unit _ _ _ _ _ (out_tile M h A y 0 0 128 0 _ _ (by decide) (by decide) (by decide) (by decide) (by decide)) ?_
  exact View.allAt_nil _ _

section Even

variable (c : Dev nD) (i : grid0.Coords)
  (M2 : Memref sig .tc .vmem S1x128x512 .bf16) (h2 : M2.IsWhole)
  (M3 : Memref sig .tc .vmem S1x8192x256 .bf16) (h3 : M3.IsWhole) (M4 : Memref sig .tc .vmem S1x8192x256 .bf16) (h4 : M4.IsWhole)
  (M5 : Memref sig .tc .vmem S128x128 .bf16) (h5 : M5.IsWhole) (M6 : Memref sig .tc .vmem S1x128x512 .f32) (h6 : M6.IsWhole)
  (M7 : Memref sig .tc .vmem S2x512x128 .bf16) (h7 : M7.IsWhole) (M8 : Memref sig .tc .vmem S2x512x128 .f32) (h8 : M8.IsWhole)
  (M9 : Memref sig .tc .vmem S2x512x128 .f32) (h9 : M9.IsWhole)
  (x2 : Vec F S1x128x512 .bf16) (x3 x4 : Vec F S1x8192x256 .bf16) (x5 : Vec F S128x128 .bf16)

theorem even_q : M7.view.read (Elt F) (M7.view.writes (Elt F) M7.view.junk (bodyEven.sl.H7_8 M2 h2 x2)) = qm x2 := by
  rw [View.read_writes_junk_eq_canon]
  funext y
  refine View.canon_eq_of_allAt _ y _ (View.cover_of_tiled_head _ _ _ (by rfl) y) ?_
  have h1 : (y 1).val < 512 := (y 1).isLt
  refine View.allAt_cons_unit _ _ _ _ _ (qm_tile1 M2 h2 x2 y 1 384 384 _ (by decide) (by decide) (by decide) (by decide)) ?_
  refine View.allAt_cons_unit _ _ _ _ _ (qm_tile0 M2 h2 x2 y 1 256 384 _ (by decide) (by decide) (by decide) (by decide)) ?_
  refine View.allAt_cons_unit _ _ _ _ _ (qm_tile1 M2 h2 x2 y 1 128 256 _ (by decide) (by decide) (by decide) (by decide)) ?_
  refine View.allAt_cons_unit _ _ _ _ _ (qm_tile0 M2 h2 x2 y 1 0 256 _ (by decide) (by decide) (by decide) (by decide)) ?_
  refine View.allAt_cons_unit _ _ _ _ _ (qm_tile1 M2 h2 x2 y 0 384 128 _ (by decide) (by decide) (by decide) (by decide)) ?_
  refine View.allAt_cons_unit _ _ _ _ _ (qm_tile0 M2 h2 x2 y 0 256 128 _ (by decide) (by decide) (by decide) (by decide)) ?_
  refine View.allAt_cons_unit _ _ _ _ _ (qm_tile1 M2 h2 x2 y 0 128 0 _ (by decide) (by decide) (by decide) (by decide)) ?_
  refine View.allAt_cons_unit _ _ _ _ _ (qm_tile0 M2 h2 x2 y 0 0 0 _ (by decide) (by decide) (by decide) (by decide)) ?_
  exact View.allAt_nil _ _

theorem even_q0 : bodyEven.sl.v78 M2 h2 M7 x2 = slab0 (qm x2) :=
  (slab0_writes M7.view (bodyEven.sl.H7_8 M2 h2 x2)).symm.trans (congrArg slab0 (even_q M2 h2 M7 x2))

theorem even_q1 : bodyEven.sl.v133 M2 h2 M7 x2 = slab1 (qm x2) :=
  (slab1_writes M7.view (bodyEven.sl.H7_8 M2 h2 x2)).symm.trans (congrArg slab1 (even_q M2 h2 M7 x2))

theorem even_z1 : bodyEven.sl.v79 i M2 h2 M3 h3 M7 x2 x3 = score (slab0 (qm x2)) (keyTile x3 (k0_off1 i) (k0_off1_inb i)) :=
  congrArg₂ score (even_q0 M2 h2 M7 x2) (readAt_key M3 h3 x3 (k0_off1 i) (k0_off1_inb i))

theorem even_C1 : bodyEven.sl.v81 (F := F) M8 = zeros := readCov_zero0 M8.view _ _

theorem even_A1 : bodyEven.sl.v112 (F := F) M9 = zeros := readCov_zero0 M9.view _ _

theorem even_c1 : bodyEven.sl.v122 i M2 h2 M3 h3 M7 M8 x2 x3 = diagC (bodyEven.sl.v70 i) (slab0 (qm x2)) (keyTile x3 (k0_off1 i) (k0_off1_inb i)) zeros := by
  show carryNext (select (bodyEven.sl.v70 i) (left (bodyEven.sl.v79 i M2 h2 M3 h3 M7 x2 x3)) zeros) (bodyEven.sl.v81 M8) = _
  rw [even_z1, even_C1 M8]
  rfl

theorem even_w1 : bodyEven.sl.v108 i M2 h2 M3 h3 M5 h5 M7 M8 x2 x3 x5 = select (bodyEven.sl.v70 i) (weight x5 (score (slab0 (qm x2)) (keyTile x3 (k0_off1 i) (k0_off1_inb i))) (select (bodyEven.sl.v70 i) (left (score (slab0 (qm x2)) (keyTile x3 (k0_off1 i) (k0_off1_inb i)))) zeros) zeros) zeros := by
  show select (bodyEven.sl.v70 i) (weight (bodyEven.sl.v63 M5 h5 x5) (bodyEven.sl.v79 i M2 h2 M3 h3 M7 x2 x3) (select (bodyEven.sl.v70 i) (left (bodyEven.sl.v79 i M2 h2 M3 h3 M7 x2 x3)) zeros) (bodyEven.sl.v81 M8)) zeros = _
  rw [even_z1, even_C1 M8, show bodyEven.sl.v63 M5 h5 x5 = x5 from readAt_tri M5 h5 x5 _ _]

theorem even_a1 : bodyEven.sl.v115 i M2 h2 M3 h3 M4 h4 M5 h5 M7 M8 M9 x2 x3 x4 x5 = diagA (bodyEven.sl.v70 i) x5 (slab0 (qm x2)) (keyTile x3 (k0_off1 i) (k0_off1_inb i)) (keyTile x4 (k0_off1 i) (k0_off1_inb i)) zeros zeros := by
  show accNext (bodyEven.sl.v108 i M2 h2 M3 h3 M5 h5 M7 M8 x2 x3 x5) (bodyEven.sl.v76 i M4 h4 x4) (bodyEven.sl.v112 M9) = _
  rw [even_w1, even_A1 M9, show bodyEven.sl.v76 i M4 h4 x4 = (keyTile x4 (k0_off1 i) (k0_off1_inb i)) from readAt_key M4 h4 x4 (k0_off1 i) (k0_off1_inb i)]
  rfl

theorem even_z2 : bodyEven.sl.v134 i M2 h2 M3 h3 M7 x2 x3 = score (slab1 (qm x2)) (keyTile x3 (k0_off2 i) (k0_off2_inb i)) :=
  congrArg₂ score (even_q1 M2 h2 M7 x2) (readAt_key M3 h3 x3 (k0_off2 i) (k0_off2_inb i))

theorem even_C2 : bodyEven.sl.v136 i M2 h2 M3 h3 M7 M8 x2 x3 = zeros :=
  (congrArg (fun y => shapeCast S512x128 y shapeCasts_S1x512x128_S512x128) (readCov_miss1 M8.view (bodyEven.sl.v125 i M2 h2 M3 h3 M7 M8 x2 x3) bodyEven.sl.H8_1)).trans
    (readCov_zero1 M8.view _ _)

theorem even_A2 : bodyEven.sl.v167 i M2 h2 M3 h3 M4 h4 M5 h5 M7 M8 M9 x2 x3 x4 x5 = zeros :=
  (congrArg (fun y => shapeCast S512x128 y shapeCasts_S1x512x128_S512x128) (readCov_miss1 M9.view (bodyEven.sl.v118 i M2 h2 M3 h3 M4 h4 M5 h5 M7 M8 M9 x2 x3 x4 x5) bodyEven.sl.H8_1)).trans
    (readCov_zero1 M9.view _ _)

theorem even_c2 : carryNext (bodyEven.sl.v150 i M2 h2 M3 h3 M7 x2 x3) (bodyEven.sl.v136 i M2 h2 M3 h3 M7 M8 x2 x3) = diagC (bodyEven.sl.v70 i) (slab1 (qm x2)) (keyTile x3 (k0_off2 i) (k0_off2_inb i)) zeros := by
  show carryNext (select (bodyEven.sl.v70 i) (left (bodyEven.sl.v134 i M2 h2 M3 h3 M7 x2 x3)) zeros) (bodyEven.sl.v136 i M2 h2 M3 h3 M7 M8 x2 x3) = _
  rw [even_z2, even_C2 i M2 h2 M3 h3 M7 M8 x2 x3]
  rfl

theorem even_w2 : bodyEven.sl.v163 i M2 h2 M3 h3 M5 h5 M7 M8 x2 x3 x5 = select (bodyEven.sl.v70 i) (weight x5 (score (slab1 (qm x2)) (keyTile x3 (k0_off2 i) (k0_off2_inb i))) (select (bodyEven.sl.v70 i) (left (score (slab1 (qm x2)) (keyTile x3 (k0_off2 i) (k0_off2_inb i)))) zeros) zeros) zeros := by
  show select (bodyEven.sl.v70 i) (weight (bodyEven.sl.v63 M5 h5 x5) (bodyEven.sl.v134 i M2 h2 M3 h3 M7 x2 x3) (select (bodyEven.sl.v70 i) (left (bodyEven.sl.v134 i M2 h2 M3 h3 M7 x2 x3)) zeros) (bodyEven.sl.v136 i M2 h2 M3 h3 M7 M8 x2 x3)) zeros = _
  rw [even_z2, even_C2 i M2 h2 M3 h3 M7 M8 x2 x3, show bodyEven.sl.v63 M5 h5 x5 = x5 from readAt_tri M5 h5 x5 _ _]

theorem even_a2 : bodyEven.sl.v170 i M2 h2 M3 h3 M4 h4 M5 h5 M7 M8 M9 x2 x3 x4 x5 = diagA (bodyEven.sl.v70 i) x5 (slab1 (qm x2)) (keyTile x3 (k0_off2 i) (k0_off2_inb i)) (keyTile x4 (k0_off2 i) (k0_off2_inb i)) zeros zeros := by
  show accNext (bodyEven.sl.v163 i M2 h2 M3 h3 M5 h5 M7 M8 x2 x3 x5) (bodyEven.sl.v131 i M4 h4 x4) (bodyEven.sl.v167 i M2 h2 M3 h3 M4 h4 M5 h5 M7 M8 M9 x2 x3 x4 x5) = _
  rw [even_w2, even_A2 i M2 h2 M3 h3 M4 h4 M5 h5 M7 M8 M9 x2 x3 x4 x5, show bodyEven.sl.v131 i M4 h4 x4 = (keyTile x4 (k0_off2 i) (k0_off2_inb i)) from readAt_key M4 h4 x4 (k0_off2 i) (k0_off2_inb i)]
  rfl

theorem even_s0 : slab0 (M8.view.read (Elt F) (M8.view.writes (Elt F) M8.view.junk (bodyEven.sl.H8_3 i M2 h2 M3 h3 M7 M8 x2 x3))) = (diagC (bodyEven.sl.v70 i) (slab0 (qm x2)) (keyTile x3 (k0_off1 i) (k0_off1_inb i)) zeros) := by
  refine (slab0_writes M8.view (bodyEven.sl.H8_3 i M2 h2 M3 h3 M7 M8 x2 x3)).trans (Eq.trans ?_ (even_c1 i M2 h2 M3 h3 M7 M8 x2 x3))
  refine (congrArg (fun y => shapeCast S512x128 y shapeCasts_S1x512x128_S512x128) (readCov_miss0 M8.view _ (bodyEven.sl.H8_2 i M2 h2 M3 h3 M7 M8 x2 x3))).trans ?_
  exact readCov_hit0 M8.view (bodyEven.sl.v122 i M2 h2 M3 h3 M7 M8 x2 x3) bodyEven.sl.H8_1

theorem even_s1 : slab1 (M8.view.read (Elt F) (M8.view.writes (Elt F) M8.view.junk (bodyEven.sl.H8_3 i M2 h2 M3 h3 M7 M8 x2 x3))) = (diagC (bodyEven.sl.v70 i) (slab1 (qm x2)) (keyTile x3 (k0_off2 i) (k0_off2_inb i)) zeros) := by
  refine (slab1_writes M8.view (bodyEven.sl.H8_3 i M2 h2 M3 h3 M7 M8 x2 x3)).trans (Eq.trans ?_ (even_c2 i M2 h2 M3 h3 M7 M8 x2 x3))
  exact readCov_hit1 M8.view (carryNext (bodyEven.sl.v150 i M2 h2 M3 h3 M7 x2 x3) (bodyEven.sl.v136 i M2 h2 M3 h3 M7 M8 x2 x3)) (bodyEven.sl.H8_2 i M2 h2 M3 h3 M7 M8 x2 x3)

theorem even_t0 : slab0 (M9.view.read (Elt F) (M9.view.writes (Elt F) M9.view.junk (bodyEven.sl.H9_3 i M2 h2 M3 h3 M4 h4 M5 h5 M7 M8 M9 x2 x3 x4 x5))) = (diagA (bodyEven.sl.v70 i) x5 (slab0 (qm x2)) (keyTile x3 (k0_off1 i) (k0_off1_inb i)) (keyTile x4 (k0_off1 i) (k0_off1_inb i)) zeros zeros) := by
  refine (slab0_writes M9.view (bodyEven.sl.H9_3 i M2 h2 M3 h3 M4 h4 M5 h5 M7 M8 M9 x2 x3 x4 x5)).trans (Eq.trans ?_ (even_a1 i M2 h2 M3 h3 M4 h4 M5 h5 M7 M8 M9 x2 x3 x4 x5))
  refine (congrArg (fun y => shapeCast S512x128 y shapeCasts_S1x512x128_S512x128) (readCov_miss0 M9.view _ (bodyEven.sl.H9_2 i M2 h2 M3 h3 M4 h4 M5 h5 M7 M8 M9 x2 x3 x4 x5))).trans ?_
  exact readCov_hit0 M9.view (bodyEven.sl.v115 i M2 h2 M3 h3 M4 h4 M5 h5 M7 M8 M9 x2 x3 x4 x5) bodyEven.sl.H8_1

theorem even_t1 : slab1 (M9.view.read (Elt F) (M9.view.writes (Elt F) M9.view.junk (bodyEven.sl.H9_3 i M2 h2 M3 h3 M4 h4 M5 h5 M7 M8 M9 x2 x3 x4 x5))) = (diagA (bodyEven.sl.v70 i) x5 (slab1 (qm x2)) (keyTile x3 (k0_off2 i) (k0_off2_inb i)) (keyTile x4 (k0_off2 i) (k0_off2_inb i)) zeros zeros) := by
  refine (slab1_writes M9.view (bodyEven.sl.H9_3 i M2 h2 M3 h3 M4 h4 M5 h5 M7 M8 M9 x2 x3 x4 x5)).trans (Eq.trans ?_ (even_a2 i M2 h2 M3 h3 M4 h4 M5 h5 M7 M8 M9 x2 x3 x4 x5))
  exact readCov_hit1 M9.view (bodyEven.sl.v170 i M2 h2 M3 h3 M4 h4 M5 h5 M7 M8 M9 x2 x3 x4 x5) (bodyEven.sl.H9_2 i M2 h2 M3 h3 M4 h4 M5 h5 M7 M8 M9 x2 x3 x4 x5)

variable [Named F]

/-- The body's result from the state it enters the loop with, whose slabs are known. -/
theorem even_value (heven : ¬ k0_cond1 i = 1#1): ∃ S : Vec F S2x512x128 .f32 × Vec F S2x512x128 .f32 × BitVec 1,
    slab0 S.1 = (diagC (bodyEven.sl.v70 i) (slab0 (qm x2)) (keyTile x3 (k0_off1 i) (k0_off1_inb i)) zeros)
    ∧ slab1 S.1 = (diagC (bodyEven.sl.v70 i) (slab1 (qm x2)) (keyTile x3 (k0_off2 i) (k0_off2_inb i)) zeros)
    ∧ slab0 S.2.1 = (diagA (bodyEven.sl.v70 i) x5 (slab0 (qm x2)) (keyTile x3 (k0_off1 i) (k0_off1_inb i)) (keyTile x4 (k0_off1 i) (k0_off1_inb i)) zeros zeros)
    ∧ slab1 S.2.1 = (diagA (bodyEven.sl.v70 i) x5 (slab1 (qm x2)) (keyTile x3 (k0_off2 i) (k0_off2_inb i)) (keyTile x4 (k0_off2 i) (k0_off2_inb i)) zeros zeros)
    ∧ S.2.2 = Scalar.cmpf .ogt (greatest (slab0 S.1) (slab1 S.1)) (Named.named κ "exp_underflow" 0xC2D00000#32)
    ∧ (bodyEven c i M2 h2 M3 h3 M4 h4 M5 h5 M6 h6 M7 h7 M8 h8 M9 h9 x2 x3 x4 x5 heven).1
        = outOf (loopOut c i M3 h3 M4 h4 M7 h7 M8 h8 M9 h9 x3 x4 (qm x2) x5 ((i 1).val / 2) 0 S).2.1 := by
  refine ⟨(M8.view.read (Elt F) (M8.view.writes (Elt F) M8.view.junk (bodyEven.sl.H8_3 i M2 h2 M3 h3 M7 M8 x2 x3)), M9.view.read (Elt F) (M9.view.writes (Elt F) M9.view.junk (bodyEven.sl.H9_3 i M2 h2 M3 h3 M4 h4 M5 h5 M7 M8 M9 x2 x3 x4 x5)), bodyEven.sl.v197 i M2 h2 M3 h3 M7 M8 x2 x3),
    even_s0 i M2 h2 M3 h3 M7 M8 x2 x3, even_s1 i M2 h2 M3 h3 M7 M8 x2 x3, even_t0 i M2 h2 M3 h3 M4 h4 M5 h5 M7 M8 M9 x2 x3 x4 x5, even_t1 i M2 h2 M3 h3 M4 h4 M5 h5 M7 M8 M9 x2 x3 x4 x5, ?_, ?_⟩
  · rw [show slab0 (M8.view.read (Elt F) (M8.view.writes (Elt F) M8.view.junk (bodyEven.sl.H8_3 i M2 h2 M3 h3 M7 M8 x2 x3))) = shapeCast S512x128 (bodyEven.sl.v188 i M2 h2 M3 h3 M7 M8 x2 x3) shapeCasts_S1x512x128_S512x128 from slab0_writes M8.view (bodyEven.sl.H8_3 i M2 h2 M3 h3 M7 M8 x2 x3),
      show slab1 (M8.view.read (Elt F) (M8.view.writes (Elt F) M8.view.junk (bodyEven.sl.H8_3 i M2 h2 M3 h3 M7 M8 x2 x3))) = shapeCast S512x128 (bodyEven.sl.v190 i M2 h2 M3 h3 M7 M8 x2 x3) shapeCasts_S1x512x128_S512x128 from slab1_writes M8.view (bodyEven.sl.H8_3 i M2 h2 M3 h3 M7 M8 x2 x3)]
    rfl
  · refine Eq.trans ?_ (congrArg₂ (fun q u => outOf (loopOut c i M3 h3 M4 h4 M7 h7 M8 h8 M9 h9 x3 x4 q u ((i 1).val / 2) 0
      (M8.view.read (Elt F) (M8.view.writes (Elt F) M8.view.junk (bodyEven.sl.H8_3 i M2 h2 M3 h3 M7 M8 x2 x3)), M9.view.read (Elt F) (M9.view.writes (Elt F) M9.view.junk (bodyEven.sl.H9_3 i M2 h2 M3 h3 M4 h4 M5 h5 M7 M8 M9 x2 x3 x4 x5)), bodyEven.sl.v197 i M2 h2 M3 h3 M7 M8 x2 x3)).2.1) (even_q M2 h2 M7 x2)
      (show bodyEven.sl.v63 M5 h5 x5 = x5 from readAt_tri M5 h5 x5 _ _))
    exact out_writes M6.view M9 h9 _ _ _ _ _ _ _ _ _

end Even

section Odd

variable (c : Dev nD) (i : grid0.Coords)
  (M2 : Memref sig .tc .vmem S1x128x512 .bf16) (h2 : M2.IsWhole)
  (M3 : Memref sig .tc .vmem S1x8192x256 .bf16) (h3 : M3.IsWhole) (M4 : Memref sig .tc .vmem S1x8192x256 .bf16) (h4 : M4.IsWhole)
  (M5 : Memref sig .tc .vmem S128x128 .bf16) (h5 : M5.IsWhole) (M6 : Memref sig .tc .vmem S1x128x512 .f32) (h6 : M6.IsWhole)
  (M7 : Memref sig .tc .vmem S2x512x128 .bf16) (h7 : M7.IsWhole) (M8 : Memref sig .tc .vmem S2x512x128 .f32) (h8 : M8.IsWhole)
  (M9 : Memref sig .tc .vmem S2x512x128 .f32) (h9 : M9.IsWhole)
  (x2 : Vec F S1x128x512 .bf16) (x3 x4 : Vec F S1x8192x256 .bf16) (x5 : Vec F S128x128 .bf16)

theorem odd_q : M7.view.read (Elt F) (M7.view.writes (Elt F) M7.view.junk (bodyOdd.sl.H7_8 M2 h2 x2)) = qm x2 := by
  rw [View.read_writes_junk_eq_canon]
  funext y
  refine View.canon_eq_of_allAt _ y _ (View.cover_of_tiled_head _ _ _ (by rfl) y) ?_
  have h1 : (y 1).val < 512 := (y 1).isLt
  refine View.allAt_cons_unit _ _ _ _ _ (qm_tile1 M2 h2 x2 y 1 384 384 _ (by decide) (by decide) (by decide) (by decide)) ?_
  refine View.allAt_cons_unit _ _ _ _ _ (qm_tile0 M2 h2 x2 y 1 256 384 _ (by decide) (by decide) (by decide) (by decide)) ?_
  refine View.allAt_cons_unit _ _ _ _ _ (qm_tile1 M2 h2 x2 y 1 128 256 _ (by decide) (by decide) (by decide) (by decide)) ?_
  refine View.allAt_cons_unit _ _ _ _ _ (qm_tile0 M2 h2 x2 y 1 0 256 _ (by decide) (by decide) (by decide) (by decide)) ?_
  refine View.allAt_cons_unit _ _ _ _ _ (qm_tile1 M2 h2 x2 y 0 384 128 _ (by decide) (by decide) (by decide) (by decide)) ?_
  refine View.allAt_cons_unit _ _ _ _ _ (qm_tile0 M2 h2 x2 y 0 256 128 _ (by decide) (by decide) (by decide) (by decide)) ?_
  refine View.allAt_cons_unit _ _ _ _ _ (qm_tile1 M2 h2 x2 y 0 128 0 _ (by decide) (by decide) (by decide) (by decide)) ?_
  refine View.allAt_cons_unit _ _ _ _ _ (qm_tile0 M2 h2 x2 y 0 0 0 _ (by decide) (by decide) (by decide) (by decide)) ?_
  exact View.allAt_nil _ _

theorem odd_q0 : bodyOdd.sl.v78 M2 h2 M7 x2 = slab0 (qm x2) :=
  (slab0_writes M7.view (bodyOdd.sl.H7_8 M2 h2 x2)).symm.trans (congrArg slab0 (odd_q M2 h2 M7 x2))

theorem odd_q1 : bodyOdd.sl.v133 M2 h2 M7 x2 = slab1 (qm x2) :=
  (slab1_writes M7.view (bodyOdd.sl.H7_8 M2 h2 x2)).symm.trans (congrArg slab1 (odd_q M2 h2 M7 x2))

theorem odd_z1 : bodyOdd.sl.v79 i M2 h2 M3 h3 M7 x2 x3 = score (slab0 (qm x2)) (keyTile x3 (k0_off1 i) (k0_off1_inb i)) :=
  congrArg₂ score (odd_q0 M2 h2 M7 x2) (readAt_key M3 h3 x3 (k0_off1 i) (k0_off1_inb i))

theorem odd_C1 : bodyOdd.sl.v81 (F := F) M8 = zeros := readCov_zero0 M8.view _ _

theorem odd_A1 : bodyOdd.sl.v112 (F := F) M9 = zeros := readCov_zero0 M9.view _ _

theorem odd_c1 : bodyOdd.sl.v122 i M2 h2 M3 h3 M7 M8 x2 x3 = diagC (bodyOdd.sl.v70 i) (slab0 (qm x2)) (keyTile x3 (k0_off1 i) (k0_off1_inb i)) zeros := by
  show carryNext (select (bodyOdd.sl.v70 i) (left (bodyOdd.sl.v79 i M2 h2 M3 h3 M7 x2 x3)) zeros) (bodyOdd.sl.v81 M8) = _
  rw [odd_z1, odd_C1 M8]
  rfl

theorem odd_w1 : bodyOdd.sl.v108 i M2 h2 M3 h3 M5 h5 M7 M8 x2 x3 x5 = select (bodyOdd.sl.v70 i) (weight x5 (score (slab0 (qm x2)) (keyTile x3 (k0_off1 i) (k0_off1_inb i))) (select (bodyOdd.sl.v70 i) (left (score (slab0 (qm x2)) (keyTile x3 (k0_off1 i) (k0_off1_inb i)))) zeros) zeros) zeros := by
  show select (bodyOdd.sl.v70 i) (weight (bodyOdd.sl.v63 M5 h5 x5) (bodyOdd.sl.v79 i M2 h2 M3 h3 M7 x2 x3) (select (bodyOdd.sl.v70 i) (left (bodyOdd.sl.v79 i M2 h2 M3 h3 M7 x2 x3)) zeros) (bodyOdd.sl.v81 M8)) zeros = _
  rw [odd_z1, odd_C1 M8, show bodyOdd.sl.v63 M5 h5 x5 = x5 from readAt_tri M5 h5 x5 _ _]

theorem odd_a1 : bodyOdd.sl.v115 i M2 h2 M3 h3 M4 h4 M5 h5 M7 M8 M9 x2 x3 x4 x5 = diagA (bodyOdd.sl.v70 i) x5 (slab0 (qm x2)) (keyTile x3 (k0_off1 i) (k0_off1_inb i)) (keyTile x4 (k0_off1 i) (k0_off1_inb i)) zeros zeros := by
  show accNext (bodyOdd.sl.v108 i M2 h2 M3 h3 M5 h5 M7 M8 x2 x3 x5) (bodyOdd.sl.v76 i M4 h4 x4) (bodyOdd.sl.v112 M9) = _
  rw [odd_w1, odd_A1 M9, show bodyOdd.sl.v76 i M4 h4 x4 = (keyTile x4 (k0_off1 i) (k0_off1_inb i)) from readAt_key M4 h4 x4 (k0_off1 i) (k0_off1_inb i)]
  rfl

theorem odd_z2 : bodyOdd.sl.v134 i M2 h2 M3 h3 M7 x2 x3 = score (slab1 (qm x2)) (keyTile x3 (k0_off2 i) (k0_off2_inb i)) :=
  congrArg₂ score (odd_q1 M2 h2 M7 x2) (readAt_key M3 h3 x3 (k0_off2 i) (k0_off2_inb i))

theorem odd_C2 : bodyOdd.sl.v136 i M2 h2 M3 h3 M7 M8 x2 x3 = zeros :=
  (congrArg (fun y => shapeCast S512x128 y shapeCasts_S1x512x128_S512x128) (readCov_miss1 M8.view (bodyOdd.sl.v125 i M2 h2 M3 h3 M7 M8 x2 x3) bodyOdd.sl.H8_1)).trans
    (readCov_zero1 M8.view _ _)

theorem odd_A2 : bodyOdd.sl.v167 i M2 h2 M3 h3 M4 h4 M5 h5 M7 M8 M9 x2 x3 x4 x5 = zeros :=
  (congrArg (fun y => shapeCast S512x128 y shapeCasts_S1x512x128_S512x128) (readCov_miss1 M9.view (bodyOdd.sl.v118 i M2 h2 M3 h3 M4 h4 M5 h5 M7 M8 M9 x2 x3 x4 x5) bodyOdd.sl.H8_1)).trans
    (readCov_zero1 M9.view _ _)

theorem odd_c2 : carryNext (bodyOdd.sl.v150 i M2 h2 M3 h3 M7 x2 x3) (bodyOdd.sl.v136 i M2 h2 M3 h3 M7 M8 x2 x3) = diagC (bodyOdd.sl.v70 i) (slab1 (qm x2)) (keyTile x3 (k0_off2 i) (k0_off2_inb i)) zeros := by
  show carryNext (select (bodyOdd.sl.v70 i) (left (bodyOdd.sl.v134 i M2 h2 M3 h3 M7 x2 x3)) zeros) (bodyOdd.sl.v136 i M2 h2 M3 h3 M7 M8 x2 x3) = _
  rw [odd_z2, odd_C2 i M2 h2 M3 h3 M7 M8 x2 x3]
  rfl

theorem odd_w2 : bodyOdd.sl.v163 i M2 h2 M3 h3 M5 h5 M7 M8 x2 x3 x5 = select (bodyOdd.sl.v70 i) (weight x5 (score (slab1 (qm x2)) (keyTile x3 (k0_off2 i) (k0_off2_inb i))) (select (bodyOdd.sl.v70 i) (left (score (slab1 (qm x2)) (keyTile x3 (k0_off2 i) (k0_off2_inb i)))) zeros) zeros) zeros := by
  show select (bodyOdd.sl.v70 i) (weight (bodyOdd.sl.v63 M5 h5 x5) (bodyOdd.sl.v134 i M2 h2 M3 h3 M7 x2 x3) (select (bodyOdd.sl.v70 i) (left (bodyOdd.sl.v134 i M2 h2 M3 h3 M7 x2 x3)) zeros) (bodyOdd.sl.v136 i M2 h2 M3 h3 M7 M8 x2 x3)) zeros = _
  rw [odd_z2, odd_C2 i M2 h2 M3 h3 M7 M8 x2 x3, show bodyOdd.sl.v63 M5 h5 x5 = x5 from readAt_tri M5 h5 x5 _ _]

theorem odd_a2 : bodyOdd.sl.v170 i M2 h2 M3 h3 M4 h4 M5 h5 M7 M8 M9 x2 x3 x4 x5 = diagA (bodyOdd.sl.v70 i) x5 (slab1 (qm x2)) (keyTile x3 (k0_off2 i) (k0_off2_inb i)) (keyTile x4 (k0_off2 i) (k0_off2_inb i)) zeros zeros := by
  show accNext (bodyOdd.sl.v163 i M2 h2 M3 h3 M5 h5 M7 M8 x2 x3 x5) (bodyOdd.sl.v131 i M4 h4 x4) (bodyOdd.sl.v167 i M2 h2 M3 h3 M4 h4 M5 h5 M7 M8 M9 x2 x3 x4 x5) = _
  rw [odd_w2, odd_A2 i M2 h2 M3 h3 M4 h4 M5 h5 M7 M8 M9 x2 x3 x4 x5, show bodyOdd.sl.v131 i M4 h4 x4 = (keyTile x4 (k0_off2 i) (k0_off2_inb i)) from readAt_key M4 h4 x4 (k0_off2 i) (k0_off2_inb i)]
  rfl

variable (hodd : k0_cond1 i = 1#1)

theorem odd_z3 : bodyOdd.sl.v242 i M2 h2 M3 h3 M7 x2 x3 hodd = score (slab0 (qm x2)) (keyTile x3 (k0_off3 i) (k0_off3_inb i hodd)) :=
  congrArg₂ score (odd_q0 M2 h2 M7 x2) (readAt_key M3 h3 x3 (k0_off3 i) (k0_off3_inb i hodd))

theorem odd_C3 : bodyOdd.sl.v244 i M2 h2 M3 h3 M7 M8 x2 x3 = (diagC (bodyOdd.sl.v70 i) (slab0 (qm x2)) (keyTile x3 (k0_off1 i) (k0_off1_inb i)) zeros) := by
  refine Eq.trans ?_ (odd_c1 i M2 h2 M3 h3 M7 M8 x2 x3)
  refine (congrArg (fun y => shapeCast S512x128 y shapeCasts_S1x512x128_S512x128)
    (readCov_miss0 M8.view (Gen.k0_pay54 (bodyOdd.sl.v165 i M2 h2 M3 h3 M7 x2 x3) (bodyOdd.sl.v174 i M2 h2 M3 h3 M7 M8 x2 x3)) (bodyOdd.sl.H8_2 i M2 h2 M3 h3 M7 M8 x2 x3))).trans ?_
  exact readCov_hit0 M8.view (bodyOdd.sl.v122 i M2 h2 M3 h3 M7 M8 x2 x3) bodyOdd.sl.H8_1

theorem odd_A3 : bodyOdd.sl.v271 i M2 h2 M3 h3 M4 h4 M5 h5 M7 M8 M9 x2 x3 x4 x5 = (diagA (bodyOdd.sl.v70 i) x5 (slab0 (qm x2)) (keyTile x3 (k0_off1 i) (k0_off1_inb i)) (keyTile x4 (k0_off1 i) (k0_off1_inb i)) zeros zeros) := by
  refine Eq.trans ?_ (odd_a1 i M2 h2 M3 h3 M4 h4 M5 h5 M7 M8 M9 x2 x3 x4 x5)
  refine (congrArg (fun y => shapeCast S512x128 y shapeCasts_S1x512x128_S512x128)
    (readCov_miss0 M9.view (Gen.k0_pay53 (bodyOdd.sl.v170 i M2 h2 M3 h3 M4 h4 M5 h5 M7 M8 M9 x2 x3 x4 x5)) (bodyOdd.sl.H9_2 i M2 h2 M3 h3 M4 h4 M5 h5 M7 M8 M9 x2 x3 x4 x5))).trans ?_
  exact readCov_hit0 M9.view (bodyOdd.sl.v115 i M2 h2 M3 h3 M4 h4 M5 h5 M7 M8 M9 x2 x3 x4 x5) bodyOdd.sl.H8_1

theorem odd_c3 : bodyOdd.sl.v281 i M2 h2 M3 h3 M7 M8 x2 x3 hodd = stepC (slab0 (qm x2)) (keyTile x3 (k0_off3 i) (k0_off3_inb i hodd)) (diagC (bodyOdd.sl.v70 i) (slab0 (qm x2)) (keyTile x3 (k0_off1 i) (k0_off1_inb i)) zeros) := by
  show carryNext (left (bodyOdd.sl.v242 i M2 h2 M3 h3 M7 x2 x3 hodd)) (bodyOdd.sl.v244 i M2 h2 M3 h3 M7 M8 x2 x3) = _
  rw [odd_z3, odd_C3 i M2 h2 M3 h3 M7 M8 x2 x3]
  rfl

theorem odd_w3 : bodyOdd.sl.v267 i M2 h2 M3 h3 M5 h5 M7 M8 x2 x3 x5 hodd = weight x5 (score (slab0 (qm x2)) (keyTile x3 (k0_off3 i) (k0_off3_inb i hodd))) (left (score (slab0 (qm x2)) (keyTile x3 (k0_off3 i) (k0_off3_inb i hodd)))) (diagC (bodyOdd.sl.v70 i) (slab0 (qm x2)) (keyTile x3 (k0_off1 i) (k0_off1_inb i)) zeros) := by
  show weight (bodyOdd.sl.v63 M5 h5 x5) (bodyOdd.sl.v242 i M2 h2 M3 h3 M7 x2 x3 hodd) (left (bodyOdd.sl.v242 i M2 h2 M3 h3 M7 x2 x3 hodd)) (bodyOdd.sl.v244 i M2 h2 M3 h3 M7 M8 x2 x3) = _
  rw [odd_z3, odd_C3 i M2 h2 M3 h3 M7 M8 x2 x3, show bodyOdd.sl.v63 M5 h5 x5 = x5 from readAt_tri M5 h5 x5 _ _]

theorem odd_a3 : bodyOdd.sl.v274 i M2 h2 M3 h3 M4 h4 M5 h5 M7 M8 M9 x2 x3 x4 x5 hodd = stepA x5 (slab0 (qm x2)) (keyTile x3 (k0_off3 i) (k0_off3_inb i hodd)) (keyTile x4 (k0_off3 i) (k0_off3_inb i hodd)) (diagC (bodyOdd.sl.v70 i) (slab0 (qm x2)) (keyTile x3 (k0_off1 i) (k0_off1_inb i)) zeros) (diagA (bodyOdd.sl.v70 i) x5 (slab0 (qm x2)) (keyTile x3 (k0_off1 i) (k0_off1_inb i)) (keyTile x4 (k0_off1 i) (k0_off1_inb i)) zeros zeros) := by
  show accNext (bodyOdd.sl.v267 i M2 h2 M3 h3 M5 h5 M7 M8 x2 x3 x5 hodd) (bodyOdd.sl.v239 i M4 h4 x4 hodd) (bodyOdd.sl.v271 i M2 h2 M3 h3 M4 h4 M5 h5 M7 M8 M9 x2 x3 x4 x5) = _
  rw [odd_w3, odd_A3 i M2 h2 M3 h3 M4 h4 M5 h5 M7 M8 M9 x2 x3 x4 x5, show bodyOdd.sl.v239 i M4 h4 x4 hodd = (keyTile x4 (k0_off3 i) (k0_off3_inb i hodd)) from readAt_key M4 h4 x4 (k0_off3 i) (k0_off3_inb i hodd)]
  rfl

theorem odd_z4 : bodyOdd.sl.v293 i M2 h2 M3 h3 M7 x2 x3 hodd = score (slab1 (qm x2)) (keyTile x3 (k0_off4 i) (k0_off4_inb i hodd)) :=
  congrArg₂ score (odd_q1 M2 h2 M7 x2) (readAt_key M3 h3 x3 (k0_off4 i) (k0_off4_inb i hodd))

theorem odd_C4 : bodyOdd.sl.v295 i M2 h2 M3 h3 M7 M8 x2 x3 hodd = (diagC (bodyOdd.sl.v70 i) (slab1 (qm x2)) (keyTile x3 (k0_off2 i) (k0_off2_inb i)) zeros) := by
  refine Eq.trans ?_ (odd_c2 i M2 h2 M3 h3 M7 M8 x2 x3)
  refine (congrArg (fun y => shapeCast S512x128 y shapeCasts_S1x512x128_S512x128)
    (readCov_miss1 M8.view (bodyOdd.sl.v284 i M2 h2 M3 h3 M7 M8 x2 x3 hodd) (bodyOdd.sl.H8_3 i M2 h2 M3 h3 M7 M8 x2 x3))).trans ?_
  exact readCov_hit1 M8.view (carryNext (bodyOdd.sl.v150 i M2 h2 M3 h3 M7 x2 x3) (bodyOdd.sl.v136 i M2 h2 M3 h3 M7 M8 x2 x3)) (bodyOdd.sl.H8_2 i M2 h2 M3 h3 M7 M8 x2 x3)

theorem odd_A4 : shapeCast S512x128 (bodyOdd.sl.v321 i M2 h2 M3 h3 M4 h4 M5 h5 M7 M8 M9 x2 x3 x4 x5 hodd) shapeCasts_S1x512x128_S512x128 = (diagA (bodyOdd.sl.v70 i) x5 (slab1 (qm x2)) (keyTile x3 (k0_off2 i) (k0_off2_inb i)) (keyTile x4 (k0_off2 i) (k0_off2_inb i)) zeros zeros) := by
  refine Eq.trans ?_ (odd_a2 i M2 h2 M3 h3 M4 h4 M5 h5 M7 M8 M9 x2 x3 x4 x5)
  refine (congrArg (fun y => shapeCast S512x128 y shapeCasts_S1x512x128_S512x128)
    (readCov_miss1 M9.view (bodyOdd.sl.v277 i M2 h2 M3 h3 M4 h4 M5 h5 M7 M8 M9 x2 x3 x4 x5 hodd) (bodyOdd.sl.H9_3 i M2 h2 M3 h3 M4 h4 M5 h5 M7 M8 M9 x2 x3 x4 x5))).trans ?_
  exact readCov_hit1 M9.view (bodyOdd.sl.v170 i M2 h2 M3 h3 M4 h4 M5 h5 M7 M8 M9 x2 x3 x4 x5) (bodyOdd.sl.H9_2 i M2 h2 M3 h3 M4 h4 M5 h5 M7 M8 M9 x2 x3 x4 x5)

theorem odd_c4 : carryNext (left (bodyOdd.sl.v293 i M2 h2 M3 h3 M7 x2 x3 hodd)) (bodyOdd.sl.v295 i M2 h2 M3 h3 M7 M8 x2 x3 hodd) = stepC (slab1 (qm x2)) (keyTile x3 (k0_off4 i) (k0_off4_inb i hodd)) (diagC (bodyOdd.sl.v70 i) (slab1 (qm x2)) (keyTile x3 (k0_off2 i) (k0_off2_inb i)) zeros) := by
  show carryNext (left (bodyOdd.sl.v293 i M2 h2 M3 h3 M7 x2 x3 hodd)) (bodyOdd.sl.v295 i M2 h2 M3 h3 M7 M8 x2 x3 hodd) = _
  rw [odd_z4, odd_C4 i M2 h2 M3 h3 M7 M8 x2 x3 hodd]
  rfl

theorem odd_w4 : weight (bodyOdd.sl.v63 M5 h5 x5) (bodyOdd.sl.v293 i M2 h2 M3 h3 M7 x2 x3 hodd) (left (bodyOdd.sl.v293 i M2 h2 M3 h3 M7 x2 x3 hodd)) (bodyOdd.sl.v295 i M2 h2 M3 h3 M7 M8 x2 x3 hodd) = weight x5 (score (slab1 (qm x2)) (keyTile x3 (k0_off4 i) (k0_off4_inb i hodd))) (left (score (slab1 (qm x2)) (keyTile x3 (k0_off4 i) (k0_off4_inb i hodd)))) (diagC (bodyOdd.sl.v70 i) (slab1 (qm x2)) (keyTile x3 (k0_off2 i) (k0_off2_inb i)) zeros) := by
  show weight (bodyOdd.sl.v63 M5 h5 x5) (bodyOdd.sl.v293 i M2 h2 M3 h3 M7 x2 x3 hodd) (left (bodyOdd.sl.v293 i M2 h2 M3 h3 M7 x2 x3 hodd)) (bodyOdd.sl.v295 i M2 h2 M3 h3 M7 M8 x2 x3 hodd) = _
  rw [odd_z4, odd_C4 i M2 h2 M3 h3 M7 M8 x2 x3 hodd, show bodyOdd.sl.v63 M5 h5 x5 = x5 from readAt_tri M5 h5 x5 _ _]

theorem odd_a4 : accNext (weight (bodyOdd.sl.v63 M5 h5 x5) (bodyOdd.sl.v293 i M2 h2 M3 h3 M7 x2 x3 hodd) (left (bodyOdd.sl.v293 i M2 h2 M3 h3 M7 x2 x3 hodd)) (bodyOdd.sl.v295 i M2 h2 M3 h3 M7 M8 x2 x3 hodd)) (bodyOdd.sl.v290 i M4 h4 x4 hodd) (shapeCast S512x128 (bodyOdd.sl.v321 i M2 h2 M3 h3 M4 h4 M5 h5 M7 M8 M9 x2 x3 x4 x5 hodd) shapeCasts_S1x512x128_S512x128) = stepA x5 (slab1 (qm x2)) (keyTile x3 (k0_off4 i) (k0_off4_inb i hodd)) (keyTile x4 (k0_off4 i) (k0_off4_inb i hodd)) (diagC (bodyOdd.sl.v70 i) (slab1 (qm x2)) (keyTile x3 (k0_off2 i) (k0_off2_inb i)) zeros) (diagA (bodyOdd.sl.v70 i) x5 (slab1 (qm x2)) (keyTile x3 (k0_off2 i) (k0_off2_inb i)) (keyTile x4 (k0_off2 i) (k0_off2_inb i)) zeros zeros) := by
  show accNext (weight (bodyOdd.sl.v63 M5 h5 x5) (bodyOdd.sl.v293 i M2 h2 M3 h3 M7 x2 x3 hodd) (left (bodyOdd.sl.v293 i M2 h2 M3 h3 M7 x2 x3 hodd)) (bodyOdd.sl.v295 i M2 h2 M3 h3 M7 M8 x2 x3 hodd)) (bodyOdd.sl.v290 i M4 h4 x4 hodd) (shapeCast S512x128 (bodyOdd.sl.v321 i M2 h2 M3 h3 M4 h4 M5 h5 M7 M8 M9 x2 x3 x4 x5 hodd) shapeCasts_S1x512x128_S512x128) = _
  rw [odd_w4, odd_A4 i M2 h2 M3 h3 M4 h4 M5 h5 M7 M8 M9 x2 x3 x4 x5 hodd, show bodyOdd.sl.v290 i M4 h4 x4 hodd = (keyTile x4 (k0_off4 i) (k0_off4_inb i hodd)) from readAt_key M4 h4 x4 (k0_off4 i) (k0_off4_inb i hodd)]
  rfl

theorem odd_s0 : slab0 (M8.view.read (Elt F) (M8.view.writes (Elt F) M8.view.junk (bodyOdd.sl.H8_5 i M2 h2 M3 h3 M7 M8 x2 x3 hodd))) = stepC (slab0 (qm x2)) (keyTile x3 (k0_off3 i) (k0_off3_inb i hodd)) (diagC (bodyOdd.sl.v70 i) (slab0 (qm x2)) (keyTile x3 (k0_off1 i) (k0_off1_inb i)) zeros) := by
  refine (slab0_writes M8.view (bodyOdd.sl.H8_5 i M2 h2 M3 h3 M7 M8 x2 x3 hodd)).trans (Eq.trans ?_ (odd_c3 i M2 h2 M3 h3 M7 M8 x2 x3 hodd))
  refine (congrArg (fun y => shapeCast S512x128 y shapeCasts_S1x512x128_S512x128) (readCov_miss0 M8.view _ (bodyOdd.sl.H8_4 i M2 h2 M3 h3 M7 M8 x2 x3 hodd))).trans ?_
  exact readCov_hit0 M8.view (bodyOdd.sl.v281 i M2 h2 M3 h3 M7 M8 x2 x3 hodd) (bodyOdd.sl.H8_3 i M2 h2 M3 h3 M7 M8 x2 x3)

theorem odd_s1 : slab1 (M8.view.read (Elt F) (M8.view.writes (Elt F) M8.view.junk (bodyOdd.sl.H8_5 i M2 h2 M3 h3 M7 M8 x2 x3 hodd))) = stepC (slab1 (qm x2)) (keyTile x3 (k0_off4 i) (k0_off4_inb i hodd)) (diagC (bodyOdd.sl.v70 i) (slab1 (qm x2)) (keyTile x3 (k0_off2 i) (k0_off2_inb i)) zeros) := by
  refine (slab1_writes M8.view (bodyOdd.sl.H8_5 i M2 h2 M3 h3 M7 M8 x2 x3 hodd)).trans (Eq.trans ?_ (odd_c4 i M2 h2 M3 h3 M7 M8 x2 x3 hodd))
  exact readCov_hit1 M8.view (carryNext (left (bodyOdd.sl.v293 i M2 h2 M3 h3 M7 x2 x3 hodd)) (bodyOdd.sl.v295 i M2 h2 M3 h3 M7 M8 x2 x3 hodd)) (bodyOdd.sl.H8_4 i M2 h2 M3 h3 M7 M8 x2 x3 hodd)

theorem odd_t0 : slab0 (M9.view.read (Elt F) (M9.view.writes (Elt F) M9.view.junk (bodyOdd.sl.H9_5 i M2 h2 M3 h3 M4 h4 M5 h5 M7 M8 M9 x2 x3 x4 x5 hodd))) = stepA x5 (slab0 (qm x2)) (keyTile x3 (k0_off3 i) (k0_off3_inb i hodd)) (keyTile x4 (k0_off3 i) (k0_off3_inb i hodd)) (diagC (bodyOdd.sl.v70 i) (slab0 (qm x2)) (keyTile x3 (k0_off1 i) (k0_off1_inb i)) zeros) (diagA (bodyOdd.sl.v70 i) x5 (slab0 (qm x2)) (keyTile x3 (k0_off1 i) (k0_off1_inb i)) (keyTile x4 (k0_off1 i) (k0_off1_inb i)) zeros zeros) := by
  refine (slab0_writes M9.view (bodyOdd.sl.H9_5 i M2 h2 M3 h3 M4 h4 M5 h5 M7 M8 M9 x2 x3 x4 x5 hodd)).trans (Eq.trans ?_ (odd_a3 i M2 h2 M3 h3 M4 h4 M5 h5 M7 M8 M9 x2 x3 x4 x5 hodd))
  refine (congrArg (fun y => shapeCast S512x128 y shapeCasts_S1x512x128_S512x128) (readCov_miss0 M9.view _ (bodyOdd.sl.H9_4 i M2 h2 M3 h3 M4 h4 M5 h5 M7 M8 M9 x2 x3 x4 x5 hodd))).trans ?_
  exact readCov_hit0 M9.view (bodyOdd.sl.v274 i M2 h2 M3 h3 M4 h4 M5 h5 M7 M8 M9 x2 x3 x4 x5 hodd) (bodyOdd.sl.H9_3 i M2 h2 M3 h3 M4 h4 M5 h5 M7 M8 M9 x2 x3 x4 x5)

theorem odd_t1 : slab1 (M9.view.read (Elt F) (M9.view.writes (Elt F) M9.view.junk (bodyOdd.sl.H9_5 i M2 h2 M3 h3 M4 h4 M5 h5 M7 M8 M9 x2 x3 x4 x5 hodd))) = stepA x5 (slab1 (qm x2)) (keyTile x3 (k0_off4 i) (k0_off4_inb i hodd)) (keyTile x4 (k0_off4 i) (k0_off4_inb i hodd)) (diagC (bodyOdd.sl.v70 i) (slab1 (qm x2)) (keyTile x3 (k0_off2 i) (k0_off2_inb i)) zeros) (diagA (bodyOdd.sl.v70 i) x5 (slab1 (qm x2)) (keyTile x3 (k0_off2 i) (k0_off2_inb i)) (keyTile x4 (k0_off2 i) (k0_off2_inb i)) zeros zeros) := by
  refine (slab1_writes M9.view (bodyOdd.sl.H9_5 i M2 h2 M3 h3 M4 h4 M5 h5 M7 M8 M9 x2 x3 x4 x5 hodd)).trans (Eq.trans ?_ (odd_a4 i M2 h2 M3 h3 M4 h4 M5 h5 M7 M8 M9 x2 x3 x4 x5 hodd))
  exact readCov_hit1 M9.view (accNext (weight (bodyOdd.sl.v63 M5 h5 x5) (bodyOdd.sl.v293 i M2 h2 M3 h3 M7 x2 x3 hodd) (left (bodyOdd.sl.v293 i M2 h2 M3 h3 M7 x2 x3 hodd)) (bodyOdd.sl.v295 i M2 h2 M3 h3 M7 M8 x2 x3 hodd)) (bodyOdd.sl.v290 i M4 h4 x4 hodd) (shapeCast S512x128 (bodyOdd.sl.v321 i M2 h2 M3 h3 M4 h4 M5 h5 M7 M8 M9 x2 x3 x4 x5 hodd) shapeCasts_S1x512x128_S512x128)) (bodyOdd.sl.H9_4 i M2 h2 M3 h3 M4 h4 M5 h5 M7 M8 M9 x2 x3 x4 x5 hodd)

variable [Named F]

/-- The body's result from the state it enters the loop with, whose slabs are known. -/
theorem odd_value : ∃ S : Vec F S2x512x128 .f32 × Vec F S2x512x128 .f32 × BitVec 1,
    slab0 S.1 = stepC (slab0 (qm x2)) (keyTile x3 (k0_off3 i) (k0_off3_inb i hodd)) (diagC (bodyOdd.sl.v70 i) (slab0 (qm x2)) (keyTile x3 (k0_off1 i) (k0_off1_inb i)) zeros)
    ∧ slab1 S.1 = stepC (slab1 (qm x2)) (keyTile x3 (k0_off4 i) (k0_off4_inb i hodd)) (diagC (bodyOdd.sl.v70 i) (slab1 (qm x2)) (keyTile x3 (k0_off2 i) (k0_off2_inb i)) zeros)
    ∧ slab0 S.2.1 = stepA x5 (slab0 (qm x2)) (keyTile x3 (k0_off3 i) (k0_off3_inb i hodd)) (keyTile x4 (k0_off3 i) (k0_off3_inb i hodd)) (diagC (bodyOdd.sl.v70 i) (slab0 (qm x2)) (keyTile x3 (k0_off1 i) (k0_off1_inb i)) zeros) (diagA (bodyOdd.sl.v70 i) x5 (slab0 (qm x2)) (keyTile x3 (k0_off1 i) (k0_off1_inb i)) (keyTile x4 (k0_off1 i) (k0_off1_inb i)) zeros zeros)
    ∧ slab1 S.2.1 = stepA x5 (slab1 (qm x2)) (keyTile x3 (k0_off4 i) (k0_off4_inb i hodd)) (keyTile x4 (k0_off4 i) (k0_off4_inb i hodd)) (diagC (bodyOdd.sl.v70 i) (slab1 (qm x2)) (keyTile x3 (k0_off2 i) (k0_off2_inb i)) zeros) (diagA (bodyOdd.sl.v70 i) x5 (slab1 (qm x2)) (keyTile x3 (k0_off2 i) (k0_off2_inb i)) (keyTile x4 (k0_off2 i) (k0_off2_inb i)) zeros zeros)
    ∧ S.2.2 = Scalar.cmpf .ogt (greatest (slab0 S.1) (slab1 S.1)) (Named.named κ "exp_underflow" 0xC2D00000#32)
    ∧ (bodyOdd c i M2 h2 M3 h3 M4 h4 M5 h5 M6 h6 M7 h7 M8 h8 M9 h9 x2 x3 x4 x5 hodd).1
        = outOf (loopOut c i M3 h3 M4 h4 M7 h7 M8 h8 M9 h9 x3 x4 (qm x2) x5 ((i 1).val / 2) 0 S).2.1 := by
  refine ⟨(M8.view.read (Elt F) (M8.view.writes (Elt F) M8.view.junk (bodyOdd.sl.H8_5 i M2 h2 M3 h3 M7 M8 x2 x3 hodd)), M9.view.read (Elt F) (M9.view.writes (Elt F) M9.view.junk (bodyOdd.sl.H9_5 i M2 h2 M3 h3 M4 h4 M5 h5 M7 M8 M9 x2 x3 x4 x5 hodd)), bodyOdd.sl.v197 i M2 h2 M3 h3 M7 M8 x2 x3 hodd),
    odd_s0 i M2 h2 M3 h3 M7 M8 x2 x3 hodd, odd_s1 i M2 h2 M3 h3 M7 M8 x2 x3 hodd, odd_t0 i M2 h2 M3 h3 M4 h4 M5 h5 M7 M8 M9 x2 x3 x4 x5 hodd, odd_t1 i M2 h2 M3 h3 M4 h4 M5 h5 M7 M8 M9 x2 x3 x4 x5 hodd, ?_, ?_⟩
  · rw [show slab0 (M8.view.read (Elt F) (M8.view.writes (Elt F) M8.view.junk (bodyOdd.sl.H8_5 i M2 h2 M3 h3 M7 M8 x2 x3 hodd))) = shapeCast S512x128 (bodyOdd.sl.v188 i M2 h2 M3 h3 M7 M8 x2 x3 hodd) shapeCasts_S1x512x128_S512x128 from slab0_writes M8.view (bodyOdd.sl.H8_5 i M2 h2 M3 h3 M7 M8 x2 x3 hodd),
      show slab1 (M8.view.read (Elt F) (M8.view.writes (Elt F) M8.view.junk (bodyOdd.sl.H8_5 i M2 h2 M3 h3 M7 M8 x2 x3 hodd))) = shapeCast S512x128 (bodyOdd.sl.v190 i M2 h2 M3 h3 M7 M8 x2 x3 hodd) shapeCasts_S1x512x128_S512x128 from slab1_writes M8.view (bodyOdd.sl.H8_5 i M2 h2 M3 h3 M7 M8 x2 x3 hodd)]
    rfl
  · refine Eq.trans ?_ (congrArg₂ (fun q u => outOf (loopOut c i M3 h3 M4 h4 M7 h7 M8 h8 M9 h9 x3 x4 q u ((i 1).val / 2) 0
      (M8.view.read (Elt F) (M8.view.writes (Elt F) M8.view.junk (bodyOdd.sl.H8_5 i M2 h2 M3 h3 M7 M8 x2 x3 hodd)), M9.view.read (Elt F) (M9.view.writes (Elt F) M9.view.junk (bodyOdd.sl.H9_5 i M2 h2 M3 h3 M4 h4 M5 h5 M7 M8 M9 x2 x3 x4 x5 hodd)), bodyOdd.sl.v197 i M2 h2 M3 h3 M7 M8 x2 x3 hodd)).2.1) (odd_q M2 h2 M7 x2)
      (show bodyOdd.sl.v63 M5 h5 x5 = x5 from readAt_tri M5 h5 x5 _ _))
    exact out_writes M6.view M9 h9 _ _ _ _ _ _ _ _ _

end Odd

end Cert.Proof.KI

end
-- ==== Proof.Places.lean ====
/-
  Where the tiles lie that the body addresses, as numbers, and which entries the diagonal tile's mask keeps.
-/
module

public import proofs.«01_k».proof.Proof.Start

@[expose] public section

set_option maxRecDepth 16384

noncomputable section

namespace Cert.Proof.KI

open Cert.KernelIdeal Cert.KernelIdeal.Gen
open Idealize.ShloMosaic
open Idealize.ShloMosaic.TcCoe

/-! ### The tiles' places -/

set_option maxHeartbeats 4000000 in
theorem off5_pt : ∀ a : Fin 64, ∀ t : Fin 32, t.val < a.val / 2 → k0_off5 (pt a) (BitVec.ofNat 32 t.val) = ![0, 128 * (2 * (a.val / 2 - t.val) - 1), 0] := by
  decide +kernel
set_option maxHeartbeats 4000000 in
theorem off6_pt : ∀ a : Fin 64, ∀ t : Fin 32, t.val < a.val / 2 → k0_off6 (pt a) (BitVec.ofNat 32 t.val) = ![0, 128 * (2 * (a.val / 2 - t.val) - 1), 128] := by
  decide +kernel
set_option maxHeartbeats 4000000 in
theorem off7_pt : ∀ a : Fin 64, ∀ t : Fin 32, t.val < a.val / 2 → k0_off7 (pt a) (BitVec.ofNat 32 t.val) = ![0, 128 * (2 * (a.val / 2 - t.val) - 2), 0] := by
  decide +kernel
set_option maxHeartbeats 4000000 in
theorem off8_pt : ∀ a : Fin 64, ∀ t : Fin 32, t.val < a.val / 2 → k0_off8 (pt a) (BitVec.ofNat 32 t.val) = ![0, 128 * (2 * (a.val / 2 - t.val) - 2), 128] := by
  decide +kernel
theorem off3_pt : ∀ a : Fin 64, k0_cond1 (pt a) = 1#1 → k0_off3 (pt a) = ![0, 128 * (a.val - 1), 0] := by decide +kernel
theorem off4_pt : ∀ a : Fin 64, k0_cond1 (pt a) = 1#1 → k0_off4 (pt a) = ![0, 128 * (a.val - 1), 128] := by decide +kernel
theorem cond1_pt : ∀ a : Fin 64, (k0_cond1 (pt a) = 1#1) ↔ a.val % 2 = 1 := by decide +kernel

/-! ### The mask of the diagonal tile -/

theorem slt_ofNat (x y : ℕ) (hx : x < 2 ^ 31) (hy : y < 2 ^ 31) : (BitVec.ofNat 32 x).slt (BitVec.ofNat 32 y) = decide (x < y) := by
  have e : ∀ z : ℕ, z < 2 ^ 31 → (BitVec.ofNat 32 z).toInt = (z : ℤ) := fun z hz => by
    have hn : (BitVec.ofNat 32 z).toNat = z := by rw [BitVec.toNat_ofNat]; exact Nat.mod_eq_of_lt (by omega)
    rw [BitVec.toInt_eq_toNat_of_lt (by rw [hn]; omega), hn]
  rw [BitVec.slt, e x hx, e y hy]
  simp

theorem and_127 : ∀ r : Fin 512, (BitVec.ofNat 32 (0 * 512 + r.val) &&& 127#32) = BitVec.ofNat 32 (r.val % 128) := by decide +kernel

theorem mask_apply (a r s : ℕ) (ha : a < 64) (hr : r < 512) (hs : s < 128) :
    BitVec.ofBool (((BitVec.ofNat 32 a - 0#32) * 128#32 + BitVec.ofNat 32 (0 * 128 + s)).slt
      (BitVec.ofNat 32 a * 128#32 + (BitVec.ofNat 32 (0 * 512 + r) &&& 127#32))) = if 128 * a + s < 128 * a + r % 128 then 1#1 else 0#1 := by
  rw [and_127 ⟨r, hr⟩, BitVec.sub_zero, show BitVec.ofNat 32 a * 128#32 = BitVec.ofNat 32 (a * 128) from (BitVec.ofNat_mul ..).symm,
    ← BitVec.ofNat_add, ← BitVec.ofNat_add, slt_ofNat _ _ (by omega) (by show a * 128 + r % 128 < _; omega)]
  show BitVec.ofBool (decide (a * 128 + (0 * 128 + s) < a * 128 + r % 128)) = _
  by_cases h : 128 * a + s < 128 * a + r % 128
  · rw [if_pos h, decide_eq_true (by omega)]; rfl
  · rw [if_neg h, decide_eq_false (by omega)]; rfl

theorem odd_mask (i : grid0.Coords) (r : Fin 512) (s : Fin 128) :
    bodyOdd.sl.v70 i (ix2 r s) = if 128 * (i 1).val + s.val < 128 * (i 1).val + r.val % 128 then 1#1 else 0#1 :=
  mask_apply (i 1).val r.val s.val (i 1).isLt r.isLt s.isLt

theorem even_mask (i : grid0.Coords) (r : Fin 512) (s : Fin 128) :
    bodyEven.sl.v70 i (ix2 r s) = if 128 * (i 1).val + s.val < 128 * (i 1).val + r.val % 128 then 1#1 else 0#1 :=
  mask_apply (i 1).val r.val s.val (i 1).isLt r.isLt s.isLt

end Cert.Proof.KI

end
-- ==== Proof.Real.lean ====
/-
  One tile over the reals: where the scores of a row are real, the carry of the row stays real and the accumulator gains the
  tile's weighted values. The carry of a row is a sum of the logs of the shares left by the keys swept, the weight of a key
  the exponential of its own log share and the logs of the later keys.
-/
module

public import proofs.«01_k».proof.Proof.Tile
public import Idealize.ShloMosaic.Lib.Pointwise
public import Idealize.ShloMosaic.Lib.IdealHost
public import Idealize.ShloMosaic.PureOps.Ideal.Laws

@[expose] public section

set_option maxRecDepth 16384

noncomputable section

namespace Cert.Proof.KI

open Cert.KernelIdeal Cert.KernelIdeal.Gen
open Idealize.ShloMosaic
open Idealize.ShloMosaic.TcCoe

/-- Softplus of a real. -/
def spR (x : ℝ) : ℝ := max x 0 + Real.log (1 + Real.exp (-|x|))

/-- The log of the share of the stick a key of score `x` leaves. -/
def lR (x : ℝ) : ℝ := -spR x

theorem coe_max (a b : ℝ) : ((max a b : ℝ) : EReal) = max (a : EReal) (b : EReal) :=
  EReal.coe_strictMono.monotone.map_max

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem abs_coe (x : ℝ) : max (x : EReal) (-(x : EReal)) = ((|x| : ℝ) : EReal) := by
  rw [← EReal.coe_neg, ← coe_max]; rfl

theorem zeros_apply (j : S512x128.Idx) : (zeros : FVec Ideal S512x128 .f32) j = 0 := Ideal.ofBits_zero_f32

theorem soft_coe (z : FVec Ideal S512x128 .f32) (j : S512x128.Idx) (x : ℝ) (h : z j = (x : EReal)) : soft z j = ((spR x : ℝ) : EReal) := by
  show max (z j) ((zeros : FVec Ideal S512x128 .f32) j) + Ideal.log (Ideal.ofBits .f32 1065353216#32 + Ideal.exp ((zeros : FVec Ideal S512x128 .f32) j - max (z j) (-(z j)))) = _
  rw [zeros_apply, h, abs_coe, show Ideal.ofBits .f32 1065353216#32 = 1 from Ideal.ofBits_one_f32, zero_sub, ← EReal.coe_neg, Ideal.exp_coe,
    ← EReal.coe_one, ← EReal.coe_add, Ideal.log_coe, if_neg (by have := Real.exp_pos (-|x|); linarith), ← EReal.coe_zero, ← coe_max, ← EReal.coe_add]
  rfl

theorem left_coe (z : FVec Ideal S512x128 .f32) (j : S512x128.Idx) (x : ℝ) (h : z j = (x : EReal)) : left z j = ((lR x : ℝ) : EReal) := by
  show (zeros : FVec Ideal S512x128 .f32) j - soft z j = _
  rw [zeros_apply, soft_coe z j x h, zero_sub, ← EReal.coe_neg]
  rfl

theorem score_apply (q : FVec Ideal S512x128 .bf16) (k : FVec Ideal S128x128 .bf16) (r : Fin 512) (s : Fin 128) :
    score q k (ix2 r s) = ∑ l : Fin 128, q (ix2 r l) * k (ix2 s l) := by
  unfold score
  pointwise [zacc]

theorem mm_apply (l : FVec Ideal S512x128 .bf16) (u : FVec Ideal S128x128 .bf16) (r : Fin 512) (s : Fin 128) :
    matmul dot_S512x128_S128x128_S512x128_1_0_0_1_n_n none l u (zacc (F := Ideal)) (ix2 r s) = ∑ k : Fin 128, l (ix2 r k) * u (ix2 k s) := by
  pointwise [zacc]

theorem accNext_apply (a : FVec Ideal S512x128 .f32) (v : FVec Ideal S128x128 .bf16) (A : FVec Ideal S512x128 .f32) (r : Fin 512) (d : Fin 128) :
    accNext a v A (ix2 r d) = A (ix2 r d) + ∑ s : Fin 128, a (ix2 r s) * v (ix2 s d) :=
  congrArg (fun y => A (ix2 r d) + y) (mm_apply (truncf .bf16 a bitsLt_bf16_f32) v r d)

/-- The triangle: one where the row is a later key than the column. -/
def IsTri (u : FVec Ideal S128x128 .bf16) : Prop := ∀ a b : Fin 128, u (ix2 a b) = if b < a then 1 else 0

theorem triDot_coe (l : FVec Ideal S512x128 .f32) (u : FVec Ideal S128x128 .bf16) (hu : IsTri u) (r : Fin 512) (L : Fin 128 → ℝ)
    (hl : ∀ s, l (ix2 r s) = (L s : EReal)) (s : Fin 128) :
    triDot l u (ix2 r s) = ((∑ k : Fin 128, if s < k then L k else 0 : ℝ) : EReal) := by
  have e : triDot l u (ix2 r s) = (∑ k : Fin 128, l (ix2 r k) * u (ix2 k s)) + ∑ k : Fin 128, (l (ix2 r k) - l (ix2 r k)) * u (ix2 k s) :=
    congrArg₂ (· + ·) (mm_apply (truncf .bf16 l bitsLt_bf16_f32) u r s)
      (mm_apply (truncf .bf16 (subf l (extf .f32 (truncf .bf16 l bitsLt_bf16_f32) bitsLt_bf16_f32)) bitsLt_bf16_f32) u r s)
  rw [e, Finset.sum_congr rfl (fun k _ => by rw [hl k, ← EReal.coe_sub, sub_self, EReal.coe_zero, zero_mul] :
      ∀ k ∈ Finset.univ, (l (ix2 r k) - l (ix2 r k)) * u (ix2 k s) = 0), Finset.sum_const_zero, add_zero, coe_sum]
  refine Finset.sum_congr rfl fun k _ => ?_
  rw [hl k, hu k s]
  by_cases h : s < k
  · rw [if_pos h, if_pos h, mul_one]
  · rw [if_neg h, if_neg h, mul_zero, EReal.coe_zero]

theorem weight_coe (u : FVec Ideal S128x128 .bf16) (hu : IsTri u) (z l C : FVec Ideal S512x128 .f32) (r : Fin 512) (L : Fin 128 → ℝ)
    (hl : ∀ s, l (ix2 r s) = (L s : EReal)) (s : Fin 128) (x c : ℝ) (hz : z (ix2 r s) = (x : EReal)) (hC : C (ix2 r s) = (c : EReal)) :
    weight u z l C (ix2 r s) = ((Real.exp (x + lR x + (∑ k : Fin 128, if s < k then L k else 0) + c) : ℝ) : EReal) := by
  show Ideal.exp (z (ix2 r s) - soft z (ix2 r s) + triDot l u (ix2 r s) + C (ix2 r s)) = _
  rw [triDot_coe l u hu r L hl s, soft_coe z _ x hz, hz, hC, ← EReal.coe_sub, ← EReal.coe_add, ← EReal.coe_add, Ideal.exp_coe]
  rfl

theorem carryNext_apply (l C : FVec Ideal S512x128 .f32) (r : Fin 512) (j : Fin 128) :
    carryNext l C (ix2 r j) = C (ix2 r j) + ∑ s : Fin 128, l (ix2 r s) := by
  unfold carryNext
  pointwise

theorem carryNext_coe (l C : FVec Ideal S512x128 .f32) (r : Fin 512) (L : Fin 128 → ℝ) (hl : ∀ s, l (ix2 r s) = (L s : EReal))
    (j : Fin 128) (c : ℝ) (hC : C (ix2 r j) = (c : EReal)) : carryNext l C (ix2 r j) = ((c + ∑ s : Fin 128, L s : ℝ) : EReal) := by
  rw [carryNext_apply, hC, EReal.coe_add, coe_sum]
  exact congrArg _ (Finset.sum_congr rfl fun s _ => hl s)

theorem slab0_apply {e : EltTy} (x : Vec Ideal S2x512x128 e) (r : Fin 512) (l : Fin 128) : slab0 x (ix2 r l) = x (ix3 (0 : Fin 2) r l) := by
  unfold slab0
  pointwise

theorem slab1_apply {e : EltTy} (x : Vec Ideal S2x512x128 e) (r : Fin 512) (l : Fin 128) : slab1 x (ix2 r l) = x (ix3 (1 : Fin 2) r l) := by
  unfold slab1
  pointwise

/-! ### The state of a row -/

/-- What a key contributes to the carry of a row whose keys end before `p`. -/
def logL (p : ℕ) (Z : ℕ → ℝ) (s : ℕ) : ℝ := if s < p then lR (Z s) else 0

/-- The weight of a key in a row whose keys end before `p`, the logs summed up to `top`. -/
def wt (p top : ℕ) (Z : ℕ → ℝ) (s : ℕ) : ℝ :=
  if s < p then Real.exp (Z s + lR (Z s) + ∑ s' ∈ Finset.Ico (s + 1) top, logL p Z s') else 0

/-- The carry and the accumulator of a row after the tiles from `n` up have been swept. -/
def Swept (p top n : ℕ) (Z : ℕ → ℝ) (V : ℕ → Fin 128 → EReal) (C A : Fin 128 → EReal) : Prop :=
  (∀ j, C j = ((∑ s ∈ Finset.Ico (128 * n) top, logL p Z s : ℝ) : EReal))
    ∧ ∀ d, A d = ∑ s ∈ Finset.Ico (128 * n) top, ((wt p top Z s : ℝ) : EReal) * V s d

theorem sum_tile {M : Type} [AddCommMonoid M] (f : ℕ → M) (a : ℕ) : ∑ s ∈ Finset.Ico a (a + 128), f s = ∑ s : Fin 128, f (a + s.val) := by
  rw [Finset.sum_Ico_eq_sum_range, Nat.add_sub_cancel_left, ← Fin.sum_univ_eq_sum_range (fun s => f (a + s)) 128]

theorem sum_after (f : ℕ → ℝ) (a top : ℕ) (s : Fin 128) (h : a + 128 ≤ top) :
    ∑ s' ∈ Finset.Ico (a + s.val + 1) top, f s' = (∑ k : Fin 128, if s < k then f (a + k.val) else 0) + ∑ s' ∈ Finset.Ico (a + 128) top, f s' := by
  have hs := s.isLt
  rw [← Finset.sum_Ico_consecutive f (show a + s.val + 1 ≤ a + 128 by omega) h]
  congr 1
  have e : (∑ k : Fin 128, if s < k then f (a + k.val) else 0) = ∑ s' ∈ Finset.Ico a (a + 128), if a + s.val < s' then f s' else 0 := by
    rw [sum_tile]
    refine Finset.sum_congr rfl fun k _ => ?_
    by_cases hk : s < k
    · rw [if_pos hk, if_pos (by have : s.val < k.val := hk; omega)]
    · rw [if_neg hk, if_neg (by have : ¬ s.val < k.val := hk; omega)]
  rw [e, ← Finset.sum_filter]
  refine Finset.sum_congr (Finset.ext fun x => ?_) fun _ _ => rfl
  rw [Finset.mem_Ico, Finset.mem_filter, Finset.mem_Ico]
  omega

/-- One tile of keys all before the query. -/
theorem step_swept (u : FVec Ideal S128x128 .bf16) (hu : IsTri u) (q : FVec Ideal S512x128 .bf16) (k v : FVec Ideal S128x128 .bf16)
    (C A : FVec Ideal S512x128 .f32) (r : Fin 512) (p top n : ℕ) (Z : ℕ → ℝ) (V : ℕ → Fin 128 → EReal)
    (hz : ∀ s : Fin 128, score q k (ix2 r s) = ((Z (128 * n + s.val) : ℝ) : EReal)) (hv : ∀ (s d : Fin 128), v (ix2 s d) = V (128 * n + s.val) d)
    (hp : 128 * n + 128 ≤ p) (ht : 128 * (n + 1) ≤ top)
    (h : Swept p top (n + 1) Z V (fun j => C (ix2 r j)) (fun j => A (ix2 r j))) :
    Swept p top n Z V (fun j => stepC q k C (ix2 r j)) (fun j => stepA u q k v C A (ix2 r j)) := by
  obtain ⟨hC, hA⟩ := h
  have e1 : 128 * (n + 1) = 128 * n + 128 := by omega
  rw [e1] at hC hA ht
  have hl : ∀ s : Fin 128, left (score q k) (ix2 r s) = ((logL p Z (128 * n + s.val) : ℝ) : EReal) := fun s => by
    have := s.isLt
    rw [left_coe _ _ _ (hz s), logL, if_pos (by omega)]
  refine ⟨fun j => ?_, fun d => ?_⟩
  · refine (carryNext_coe _ _ r _ hl j _ (hC j)).trans ?_
    rw [← Finset.sum_Ico_consecutive _ (show 128 * n ≤ 128 * n + 128 by omega) ht, sum_tile, add_comm]
  · refine (accNext_apply _ _ _ r d).trans ?_
    rw [show A (ix2 r d) = _ from hA d, ← Finset.sum_Ico_consecutive _ (show 128 * n ≤ 128 * n + 128 by omega) ht, sum_tile, add_comm]
    congr 1
    refine Finset.sum_congr rfl fun s _ => ?_
    have := s.isLt
    rw [weight_coe u hu _ _ _ r _ hl s _ _ (hz s) (hC s), hv s d, wt, if_pos (by omega), sum_after _ _ _ s ht, add_assoc, add_assoc]

/-- The diagonal tile: the keys from the query on left out. -/
theorem diag_swept (m : IVec S512x128 1) (u : FVec Ideal S128x128 .bf16) (hu : IsTri u) (q : FVec Ideal S512x128 .bf16) (k v : FVec Ideal S128x128 .bf16)
    (r : Fin 512) (p n : ℕ) (Z : ℕ → ℝ) (V : ℕ → Fin 128 → EReal)
    (hz : ∀ s : Fin 128, score q k (ix2 r s) = ((Z (128 * n + s.val) : ℝ) : EReal)) (hv : ∀ (s d : Fin 128), v (ix2 s d) = V (128 * n + s.val) d)
    (hm : ∀ s : Fin 128, m (ix2 r s) = if 128 * n + s.val < p then 1#1 else 0#1) :
    Swept p (128 * (n + 1)) n Z V (fun j => diagC m q k zeros (ix2 r j)) (fun j => diagA m u q k v zeros zeros (ix2 r j)) := by
  have e1 : 128 * (n + 1) = 128 * n + 128 := by omega
  rw [e1]
  have sel : ∀ (x y : FVec Ideal S512x128 .f32) (s : Fin 128), select m x y (ix2 r s) = if 128 * n + s.val < p then x (ix2 r s) else y (ix2 r s) := fun x y s => by
    show (if m (ix2 r s) = 1#1 then _ else _) = _
    rw [hm s]
    by_cases hs : 128 * n + s.val < p <;> simp [hs]
  have hl : ∀ s : Fin 128, select m (left (score q k)) zeros (ix2 r s) = ((logL p Z (128 * n + s.val) : ℝ) : EReal) := fun s => by
    rw [sel, logL, left_coe _ _ _ (hz s), zeros_apply]
    by_cases hs : 128 * n + s.val < p <;> simp [hs]
  have h0 : ∀ j, (zeros : FVec Ideal S512x128 .f32) j = ((0 : ℝ) : EReal) := fun j => zeros_apply j
  refine ⟨fun j => ?_, fun d => ?_⟩
  · refine (carryNext_coe _ _ r _ hl j _ (h0 _)).trans ?_
    rw [sum_tile, zero_add]
  · refine (accNext_apply _ _ _ r d).trans ?_
    rw [h0, EReal.coe_zero, zero_add, sum_tile]
    refine Finset.sum_congr rfl fun s _ => ?_
    have := s.isLt
    rw [sel, zeros_apply, weight_coe u hu _ _ _ r _ hl s _ _ (hz s) (h0 _), hv s d, wt]
    by_cases hs : 128 * n + s.val < p
    · rw [if_pos hs, if_pos hs, sum_after _ _ _ s le_rfl, Finset.Ico_self, Finset.sum_empty, add_assoc, add_assoc]
    · rw [if_neg hs, if_neg hs, EReal.coe_zero]

/-- A real greatest carry passes the test against the named constant, whose value is minus infinity. -/
theorem greatest_pos (C0 C1 : FVec Ideal S512x128 .f32) (h : ∃ x : ℝ, C0 (ix2 (0 : Fin 512) (0 : Fin 128)) = (x : EReal)) :
    Scalar.cmpf .ogt (greatest C0 C1) (Named.named (F := Ideal) κ "exp_underflow" 0xC2D00000#32) = 1#1 := by
  unfold greatest
  pointwise
  obtain ⟨x, hx⟩ := h
  refine congrArg BitVec.ofBool (decide_eq_true ?_)
  refine lt_of_eq_of_lt (b := (⊥ : EReal)) (IdealRules.named_const.ideal_named_scalar _ _ _ _ rfl) ?_
  rw [Finset.lt_fold_max]
  refine Or.inr ⟨((0 : Fin 512), (0 : Fin 128)), Finset.mem_univ _, ?_⟩
  show (⊥ : EReal) < max (C0 (ix2 (0 : Fin 512) (0 : Fin 128))) _
  rw [hx]
  exact lt_max_of_lt_left (EReal.bot_lt_coe x)

end Cert.Proof.KI

end
-- ==== Proof.Sweep.lean ====
/-
  The whole sweep of one block of queries over the reals: the diagonal tile, the odd tile where there is one and the pairs of
  tiles of the while loop, whose test always passes, so that every key before the query is swept.
-/
module

public import proofs.«01_k».proof.Proof.Places
public import proofs.«01_k».proof.Proof.Real

@[expose] public section

set_option maxRecDepth 16384

noncomputable section

namespace Cert.Proof.KI

open Cert.KernelIdeal Cert.KernelIdeal.Gen
open Idealize.ShloMosaic
open Idealize.ShloMosaic.TcCoe

/-! ### The staged keys and values -/

/-- Every entry a real. -/
def AllReal {s : Shape} (x : s.Idx → EReal) : Prop := ∀ j, ∃ r : ℝ, x j = (r : EReal)

theorem AllReal.eq {s : Shape} {x : s.Idx → EReal} (h : AllReal x) (j : s.Idx) : x j = ((EReal.toReal (x j) : ℝ) : EReal) := by
  obtain ⟨r, hr⟩ := h j
  rw [hr, EReal.toReal_coe]

/-- Key (or value) `s`'s lane `l` of the pair of kv heads `kp`. -/
def lane (x : Vec Ideal S1x8192x256 .bf16) (kp : Fin 2) (s : ℕ) (l : Fin 128) : EReal :=
  if h : s < 8192 then x (ix3 (0 : Fin 1) (⟨s, h⟩ : Fin 8192) (⟨128 * kp.val + l.val, by omega⟩ : Fin 256)) else 0

/-- The score of a row against a key. -/
def keyZ (x2 : Vec Ideal S1x128x512 .bf16) (x3 : Vec Ideal S1x8192x256 .bf16) (kp : Fin 2) (r : Fin 512) (s : ℕ) : ℝ :=
  ∑ l : Fin 128, EReal.toReal (qm (F := Ideal) x2 (ix3 kp r l)) * EReal.toReal (lane x3 kp s l)

theorem keyTile_apply (x : Vec Ideal S1x8192x256 .bf16) (off : Fin 3 → ℕ) (inb) (n : ℕ) (kp : Fin 2) (hoff : off = ![0, 128 * n, 128 * kp.val]) (s l : Fin 128) :
    keyTile x off inb (ix2 s l) = lane x kp (128 * n + s.val) l := by
  subst hoff
  have hs := s.isLt
  have h1 : 128 * n + 128 ≤ 8192 := inb 1
  unfold keyTile lane
  rw [dif_pos (by omega), sq_apply]
  exact View.ld_unit_apply_of x _ S1x128x128.size inb _ _ (by intro a; fin_cases a <;> simp [ix3])

theorem qm_real (x2 : Vec Ideal S1x128x512 .bf16) (h : AllReal x2) : AllReal (qm (F := Ideal) x2) := by
  intro y
  unfold qm
  split
  · exact h _
  · exact ⟨0, Ideal.ofBits_zero_bf16⟩

theorem lane_real (x : Vec Ideal S1x8192x256 .bf16) (h : AllReal x) (kp : Fin 2) (s : ℕ) (l : Fin 128) : lane x kp s l = ((EReal.toReal (lane x kp s l) : ℝ) : EReal) := by
  unfold lane
  split
  · exact h.eq _
  · simp

theorem score_real (x2 : Vec Ideal S1x128x512 .bf16) (x3 : Vec Ideal S1x8192x256 .bf16) (h2 : AllReal x2) (h3 : AllReal x3) (q : FVec Ideal S512x128 .bf16) (kp : Fin 2)
    (hq : ∀ r l, q (ix2 r l) = qm (F := Ideal) x2 (ix3 kp r l)) (off : Fin 3 → ℕ) (inb) (n : ℕ) (hoff : off = ![0, 128 * n, 128 * kp.val]) (r : Fin 512) (s : Fin 128) :
    score q (keyTile x3 off inb) (ix2 r s) = ((keyZ x2 x3 kp r (128 * n + s.val) : ℝ) : EReal) := by
  rw [score_apply, keyZ, coe_sum]
  refine Finset.sum_congr rfl fun l _ => ?_
  rw [hq, keyTile_apply x3 off inb n kp hoff, EReal.coe_mul, ← (qm_real x2 h2).eq, ← lane_real x3 h3]

/-! ### The sweep -/

section
variable (x2 : Vec Ideal S1x128x512 .bf16) (x3 x4 : Vec Ideal S1x8192x256 .bf16) (h2 : AllReal x2) (h3 : AllReal x3) (u : FVec Ideal S128x128 .bf16) (hu : IsTri u)

/-- A row's carry and accumulator in a slab after the tiles from `n` up. -/
def RowsSwept (x2 : Vec Ideal S1x128x512 .bf16) (x3 x4 : Vec Ideal S1x8192x256 .bf16) (a n : ℕ) (kp : Fin 2) (C A : FVec Ideal S512x128 .f32) : Prop :=
  ∀ r : Fin 512, Swept (128 * a + r.val % 128) (128 * (a + 1)) n (keyZ x2 x3 kp r) (lane x4 kp) (fun j => C (ix2 r j)) (fun j => A (ix2 r j))

include h2 h3 hu in
theorem rows_step (q : FVec Ideal S512x128 .bf16) (kp : Fin 2) (hq : ∀ r l, q (ix2 r l) = qm (F := Ideal) x2 (ix3 kp r l)) (off : Fin 3 → ℕ) (inb inb') (a n : ℕ)
    (hoff : off = ![0, 128 * n, 128 * kp.val]) (hn : n < a) (C A : FVec Ideal S512x128 .f32) (h : RowsSwept x2 x3 x4 a (n + 1) kp C A) :
    RowsSwept x2 x3 x4 a n kp (stepC q (keyTile x3 off inb) C) (stepA u q (keyTile x3 off inb) (keyTile x4 off inb') C A) := fun r =>
  step_swept u hu q _ _ C A r _ _ n _ _ (fun s => score_real x2 x3 h2 h3 q kp hq off inb n hoff r s) (fun s d => keyTile_apply x4 off inb' n kp hoff s d)
    (by omega) (by omega) (h r)

include h2 h3 hu in
theorem rows_diag (q : FVec Ideal S512x128 .bf16) (kp : Fin 2) (hq : ∀ r l, q (ix2 r l) = qm (F := Ideal) x2 (ix3 kp r l)) (off : Fin 3 → ℕ) (inb inb') (a : ℕ)
    (hoff : off = ![0, 128 * a, 128 * kp.val]) (m : IVec S512x128 1)
    (hm : ∀ (r : Fin 512) (s : Fin 128), m (ix2 r s) = if 128 * a + s.val < 128 * a + r.val % 128 then 1#1 else 0#1) :
    RowsSwept x2 x3 x4 a a kp (diagC m q (keyTile x3 off inb) zeros) (diagA m u q (keyTile x3 off inb) (keyTile x4 off inb') zeros zeros) := fun r =>
  diag_swept m u hu q _ _ r _ a _ _ (fun s => score_real x2 x3 h2 h3 q kp hq off inb a hoff r s) (fun s d => keyTile_apply x4 off inb' a kp hoff s d) (hm r)

/-- The loop's state with the tiles from `n` up swept: the test passed, both slabs' rows swept. -/
def Good (x2 : Vec Ideal S1x128x512 .bf16) (x3 x4 : Vec Ideal S1x8192x256 .bf16) (a n : ℕ) (S : Vec Ideal S2x512x128 .f32 × Vec Ideal S2x512x128 .f32 × BitVec 1) : Prop :=
  S.2.2 = 1#1 ∧ RowsSwept x2 x3 x4 a n 0 (slab0 S.1) (slab0 S.2.1) ∧ RowsSwept x2 x3 x4 a n 1 (slab1 S.1) (slab1 S.2.1)

theorem rows_cast {a m n : ℕ} {kp : Fin 2} {C A : FVec Ideal S512x128 .f32} (e : m = n) (h : RowsSwept x2 x3 x4 a m kp C A) : RowsSwept x2 x3 x4 a n kp C A :=
  e ▸ h

theorem rows_test {a n : ℕ} {kp : Fin 2} {C A C1 : FVec Ideal S512x128 .f32} (h : RowsSwept x2 x3 x4 a n kp C A) :
    Scalar.cmpf .ogt (greatest C C1) (Named.named (F := Ideal) κ "exp_underflow" 0xC2D00000#32) = 1#1 :=
  greatest_pos C C1 ⟨_, (h 0).1 0⟩

variable (c : Dev nD) (i : grid0.Coords)
  (M2 : Memref sig .tc .vmem S1x128x512 .bf16) (w2 : M2.IsWhole)
  (M3 : Memref sig .tc .vmem S1x8192x256 .bf16) (w3 : M3.IsWhole) (M4 : Memref sig .tc .vmem S1x8192x256 .bf16) (w4 : M4.IsWhole)
  (M5 : Memref sig .tc .vmem S128x128 .bf16) (w5 : M5.IsWhole) (M6 : Memref sig .tc .vmem S1x128x512 .f32) (w6 : M6.IsWhole)
  (M7 : Memref sig .tc .vmem S2x512x128 .bf16) (w7 : M7.IsWhole) (M8 : Memref sig .tc .vmem S2x512x128 .f32) (w8 : M8.IsWhole)
  (M9 : Memref sig .tc .vmem S2x512x128 .f32) (w9 : M9.IsWhole)

include h2 h3 hu in
theorem loop_good : ∀ (n t : ℕ) (ht : t + n = (i 1).val / 2) (S : Vec Ideal S2x512x128 .f32 × Vec Ideal S2x512x128 .f32 × BitVec 1),
    Good x2 x3 x4 (i 1).val (2 * ((i 1).val / 2 - t)) S →
    Good x2 x3 x4 (i 1).val 0 (loopOut c i M3 w3 M4 w4 M7 w7 M8 w8 M9 w9 x3 x4 (qm (F := Ideal) x2) u n t S) := by
  have h64 : (i 1).val < 64 := (i 1).isLt
  intro n
  induction n with
  | zero =>
    intro t ht S h
    rw [show 2 * ((i 1).val / 2 - t) = 0 by omega] at h
    exact h
  | succ n ih =>
    intro t ht S h
    obtain ⟨hf, h0, h1⟩ := h
    have hlt : t < (i 1).val / 2 := by omega
    have ht32 : t < 32 := by omega
    rw [loopOut, dif_pos ⟨hlt, hf⟩]
    refine ih (t + 1) (by omega) _ ?_
    have e1 : 2 * ((i 1).val / 2 - t) = (2 * ((i 1).val / 2 - t) - 1) + 1 := by omega
    have e2 : 2 * ((i 1).val / 2 - t) - 1 = (2 * ((i 1).val / 2 - t) - 2) + 1 := by omega
    have e3 : 2 * ((i 1).val / 2 - (t + 1)) = 2 * ((i 1).val / 2 - t) - 2 := by omega
    rw [e1] at h0 h1
    have hchk := chk_of_lt i t hlt
    have g0 := rows_step x2 x3 x4 h2 h3 u hu (slab0 (qm (F := Ideal) x2)) 0 (slab0_apply _) (k0_off5 i (BitVec.ofNat 32 t)) (k0_off5_inb i _ hchk) (k0_off5_inb i _ hchk)
      (i 1).val _ (off5_pt (i 1) ⟨t, ht32⟩ hlt) (by omega) _ _ h0
    rw [e2] at g0
    have k0 := rows_step x2 x3 x4 h2 h3 u hu (slab0 (qm (F := Ideal) x2)) 0 (slab0_apply _) (k0_off7 i (BitVec.ofNat 32 t)) (k0_off7_inb i _ hchk) (k0_off7_inb i _ hchk)
      (i 1).val _ (off7_pt (i 1) ⟨t, ht32⟩ hlt) (by omega) _ _ g0
    have g1 := rows_step x2 x3 x4 h2 h3 u hu (slab1 (qm (F := Ideal) x2)) 1 (slab1_apply _) (k0_off6 i (BitVec.ofNat 32 t)) (k0_off6_inb i _ hchk) (k0_off6_inb i _ hchk)
      (i 1).val _ (off6_pt (i 1) ⟨t, ht32⟩ hlt) (by omega) _ _ h1
    rw [e2] at g1
    have k1 := rows_step x2 x3 x4 h2 h3 u hu (slab1 (qm (F := Ideal) x2)) 1 (slab1_apply _) (k0_off8 i (BitVec.ofNat 32 t)) (k0_off8_inb i _ hchk) (k0_off8_inb i _ hchk)
      (i 1).val _ (off8_pt (i 1) ⟨t, ht32⟩ hlt) (by omega) _ _ g1
    rw [e3]
    refine ⟨?_, ?_, ?_⟩
    · rw [trip_flag, trip_carry0]
      exact rows_test x2 x3 x4 k0
    · rw [trip_carry0, trip_acc0]
      exact k0
    · rw [trip_carry1, trip_acc1]
      exact k1

/-- The result's entry from a swept state: the weighted values of all keys up to the end of the query's tile. -/
theorem out_good (a : ℕ) (S : Vec Ideal S2x512x128 .f32 × Vec Ideal S2x512x128 .f32 × BitVec 1) (h : Good x2 x3 x4 a 0 S) (kp : Fin 2) (r : Fin 512) (d : Fin 128) :
    S.2.1 (ix3 kp r d) = ∑ s ∈ Finset.Ico 0 (128 * (a + 1)), ((wt (128 * a + r.val % 128) (128 * (a + 1)) (keyZ x2 x3 kp r) s : ℝ) : EReal) * lane x4 kp s d := by
  match kp with
  | 0 => exact (slab0_apply S.2.1 r d).symm.trans ((h.2.1 r).2 d)
  | 1 => exact (slab1_apply S.2.1 r d).symm.trans ((h.2.2 r).2 d)

include h2 h3 hu in
theorem even_good (heven : ¬ k0_cond1 i = 1#1) : ∃ S, Good x2 x3 x4 (i 1).val 0 S
    ∧ (bodyEven c i M2 w2 M3 w3 M4 w4 M5 w5 M6 w6 M7 w7 M8 w8 M9 w9 x2 x3 x4 u heven).1 = outOf S.2.1 := by
  obtain ⟨S, s0, s1, t0, t1, hf, ho⟩ := even_value c i M2 w2 M3 w3 M4 w4 M5 w5 M6 w6 M7 w7 M8 w8 M9 w9 x2 x3 x4 u heven
  refine ⟨_, loop_good x2 x3 x4 h2 h3 u hu c i M3 w3 M4 w4 M7 w7 M8 w8 M9 w9 ((i 1).val / 2) 0 (by omega) S ?_, ho⟩
  have hpar : ¬ (i 1).val % 2 = 1 := fun h => heven ((cond1_pt (i 1)).2 h)
  rw [show 2 * ((i 1).val / 2 - 0) = (i 1).val by omega]
  have k0 := rows_diag x2 x3 x4 h2 h3 u hu (slab0 (qm (F := Ideal) x2)) 0 (slab0_apply _) (k0_off1 i) (k0_off1_inb i) (k0_off1_inb i) (i 1).val (k0_off1_eq i) _ (even_mask i)
  have k1 := rows_diag x2 x3 x4 h2 h3 u hu (slab1 (qm (F := Ideal) x2)) 1 (slab1_apply _) (k0_off2 i) (k0_off2_inb i) (k0_off2_inb i) (i 1).val (k0_off2_eq i) _ (even_mask i)
  rw [← s0, ← t0] at k0
  rw [← s1, ← t1] at k1
  exact ⟨hf.trans (rows_test x2 x3 x4 k0), k0, k1⟩

include h2 h3 hu in
theorem odd_good (hodd : k0_cond1 i = 1#1) : ∃ S, Good x2 x3 x4 (i 1).val 0 S
    ∧ (bodyOdd c i M2 w2 M3 w3 M4 w4 M5 w5 M6 w6 M7 w7 M8 w8 M9 w9 x2 x3 x4 u hodd).1 = outOf S.2.1 := by
  obtain ⟨S, s0, s1, t0, t1, hf, ho⟩ := odd_value c i M2 w2 M3 w3 M4 w4 M5 w5 M6 w6 M7 w7 M8 w8 M9 w9 x2 x3 x4 u hodd
  refine ⟨_, loop_good x2 x3 x4 h2 h3 u hu c i M3 w3 M4 w4 M7 w7 M8 w8 M9 w9 ((i 1).val / 2) 0 (by omega) S ?_, ho⟩
  have hpar : (i 1).val % 2 = 1 := (cond1_pt (i 1)).1 hodd
  have e : (i 1).val = ((i 1).val - 1) + 1 := by omega
  rw [show 2 * ((i 1).val / 2 - 0) = (i 1).val - 1 by omega]
  have k0 := rows_diag x2 x3 x4 h2 h3 u hu (slab0 (qm (F := Ideal) x2)) 0 (slab0_apply _) (k0_off1 i) (k0_off1_inb i) (k0_off1_inb i) (i 1).val (k0_off1_eq i) _ (odd_mask i)
  have k1 := rows_diag x2 x3 x4 h2 h3 u hu (slab1 (qm (F := Ideal) x2)) 1 (slab1_apply _) (k0_off2 i) (k0_off2_inb i) (k0_off2_inb i) (i 1).val (k0_off2_eq i) _ (odd_mask i)
  have g0 := rows_step x2 x3 x4 h2 h3 u hu (slab0 (qm (F := Ideal) x2)) 0 (slab0_apply _) (k0_off3 i) (k0_off3_inb i hodd) (k0_off3_inb i hodd) (i 1).val ((i 1).val - 1)
    (off3_pt (i 1) hodd) (by omega) _ _ (rows_cast x2 x3 x4 e k0)
  have g1 := rows_step x2 x3 x4 h2 h3 u hu (slab1 (qm (F := Ideal) x2)) 1 (slab1_apply _) (k0_off4 i) (k0_off4_inb i hodd) (k0_off4_inb i hodd) (i 1).val ((i 1).val - 1)
    (off4_pt (i 1) hodd) (by omega) _ _ (rows_cast x2 x3 x4 e k1)
  rw [← s0, ← t0] at g0
  rw [← s1, ← t1] at g1
  exact ⟨hf.trans (rows_test x2 x3 x4 g0), g0, g1⟩

end

end Cert.Proof.KI

end
-- ==== Proof.Arrays.lean ====
/-
  The blocks of a grid point as parts of the arguments, and the output's array at an index as the block of its grid point.
-/
module

public import proofs.«01_k».proof.Proof.Launch
public import proofs.«01_k».proof.Proof.Sweep
public import Idealize.ShloMosaic.Lib.Pipeline.Value
public import Idealize.ShloMosaic.Lib.Pipeline.Covers
public import Idealize.ShloMosaic.Lib.StableHlo.Run

@[expose] public section

set_option maxRecDepth 16384

noncomputable section

namespace Cert.Proof.KI

open Cert.KernelIdeal Cert.KernelIdeal.Gen
open Idealize.ShloMosaic
open Idealize.ShloMosaic.TcCoe

theorem index0 : ∀ t : Fin grid0.N, win0_0.index t = ![(grid0.coords t 0).val, (grid0.coords t 1).val, 0] := by decide +kernel
theorem index1 : ∀ t : Fin grid0.N, win0_1.index t = ![(grid0.coords t 0).val, 0, 0] := by decide +kernel
theorem index2 : ∀ t : Fin grid0.N, win0_2.index t = ![(grid0.coords t 0).val, 0, 0] := by decide +kernel
theorem index3 : ∀ t : Fin grid0.N, win0_3.index t = ![0, 0] := by decide +kernel
theorem index4 : ∀ t : Fin grid0.N, win0_4.index t = ![(grid0.coords t 0).val, (grid0.coords t 1).val, 0] := by decide +kernel

variable (m : (ℓ : Loc nD τ sig) → Buf (Elt Ideal) ℓ) (c : Dev nD)

/-- The queries, the keys and the values. -/
abbrev argQ : FVec Ideal S2x8192x512 .bf16 := m ((c.tc : Thread nD τ).loc main_arg0)
abbrev argK : FVec Ideal S2x8192x256 .bf16 := m ((c.tc : Thread nD τ).loc main_arg1)
abbrev argV : FVec Ideal S2x8192x256 .bf16 := m ((c.tc : Thread nD τ).loc main_arg2)

theorem blk0_apply (t : Fin grid0.N) (a : Fin 128) (l : Fin 512) :
    (iblk m c 0 t : Vec Ideal S1x128x512 .bf16) (ix3 (0 : Fin 1) a l)
      = argQ m c (ix3 (⟨(grid0.coords t 0).val, (grid0.coords t 0).isLt⟩ : Fin 2)
          (⟨128 * (grid0.coords t 1).val + a.val, by have h : (grid0.coords t 1).val < 64 := (grid0.coords t 1).isLt; have := a.isLt; omega⟩ : Fin 8192) l) := by
  show (V m c main_arg0) (((win0_0.blk t).view.emb (ix3 (0 : Fin 1) a l))) = _
  rw [V_main_arg0]
  refine congrArg (argQ m c) (funext fun x => Fin.ext ?_)
  fin_cases x <;> blk_simp [index0 t] <;> simp [ix3, index0 t]
  exact Nat.mul_comm _ _

theorem blk1_apply (t : Fin grid0.N) (s : Fin 8192) (l : Fin 256) :
    (iblk m c 1 t : Vec Ideal S1x8192x256 .bf16) (ix3 (0 : Fin 1) s l)
      = argK m c (ix3 (⟨(grid0.coords t 0).val, (grid0.coords t 0).isLt⟩ : Fin 2) s l) := by
  show (V m c main_arg1) (((win0_1.blk t).view.emb (ix3 (0 : Fin 1) s l))) = _
  rw [V_main_arg1]
  refine congrArg (argK m c) (funext fun x => Fin.ext ?_)
  fin_cases x <;> blk_simp [index1 t] <;> simp [ix3, index1 t]

theorem blk2_apply (t : Fin grid0.N) (s : Fin 8192) (l : Fin 256) :
    (iblk m c 2 t : Vec Ideal S1x8192x256 .bf16) (ix3 (0 : Fin 1) s l)
      = argV m c (ix3 (⟨(grid0.coords t 0).val, (grid0.coords t 0).isLt⟩ : Fin 2) s l) := by
  show (V m c main_arg2) (((win0_2.blk t).view.emb (ix3 (0 : Fin 1) s l))) = _
  rw [V_main_arg2]
  refine congrArg (argV m c) (funext fun x => Fin.ext ?_)
  fin_cases x <;> blk_simp [index2 t] <;> simp [ix3, index2 t]

/-- The triangle as the host computes it. -/
def tri : FVec Ideal S128x128 .bf16 :=
  truncf .bf16 (uitofp .f32 (cmpi .sgt (broadcastInDim S128x128 ![0, 1] bcast_S128x1_S128x128_0_1 (broadcastInDim S128x1 ![0] bcast_S128_S128x1_0 (iotaInDim S128 32 0)))
        (broadcastInDim S128x128 ![0, 1] bcast_S1x128_S128x128_0_1 (broadcastInDim S1x128 ![1] bcast_S128_S1x128_1 (iotaInDim S128 32 0))))) bitsLt_bf16_f32

/-- What the host leaves in the triangle's array. -/
theorem V_tri : V m c main_v8 = tri := by
  unfold V tri
  simp only [hostOps0, List.flatten_cons, List.flatten_nil, List.append_nil]
  after_results_simp

theorem blk3_tri (t : Fin grid0.N) : IsTri (iblk m c 3 t : Vec Ideal S128x128 .bf16) := by
  intro a b
  have e : (iblk m c 3 t : Vec Ideal S128x128 .bf16) (ix2 a b) = (V m c main_v8 : FVec Ideal S128x128 .bf16) (ix2 a b) := by
    show (V m c main_v8) (((win0_3.blk t).view.emb (ix2 a b))) = _
    refine congrArg (V m c main_v8) (funext fun x => Fin.ext ?_)
    fin_cases x <;> blk_simp [index3 t] <;> simp [ix2, index3 t]
  rw [e, V_tri]
  pointwise [tri]
  have ha := a.isLt
  have hb := b.isLt
  have hc : IntOp.cmpi CmpIPredicate.sgt (BitVec.ofNat 32 a.val) (BitVec.ofNat 32 b.val) = BitVec.ofBool (decide (b.val < a.val)) :=
    congrArg BitVec.ofBool (slt_ofNat b.val a.val (by omega) (by omega))
  rw [hc]
  show (((BitVec.ofBool (decide (b.val < a.val))).toNat : ℝ) : EReal) = _
  by_cases h : b < a
  · rw [if_pos h, decide_eq_true (show b.val < a.val from h)]; simp
  · rw [if_neg h, decide_eq_false (show ¬ b.val < a.val from h)]; simp

/-- What a grid point leaves is the accumulator of a full sweep, laid out. -/
theorem outs_good (hq : AllReal (argQ m c)) (hk : AllReal (argK m c)) (t : Fin grid0.N) :
    ∃ S, Good (iblk m c 0 t) (iblk m c 1 t) (iblk m c 2 t) (grid0.coords t 1).val 0 S ∧ outsAt m c t = outOf S.2.1 := by
  have h2 : AllReal (s := S1x128x512) (iblk m c 0 t) := fun y => by
    rw [eq_ix3 (n0 := 1) (n1 := 128) (n2 := 512) y, Subsingleton.elim (α := Fin 1) (y 0) 0]
    exact ⟨_, (blk0_apply m c t (y 1) (y 2)).trans (hq.eq _)⟩
  have h3 : AllReal (s := S1x8192x256) (iblk m c 1 t) := fun y => by
    rw [eq_ix3 (n0 := 1) (n1 := 8192) (n2 := 256) y, Subsingleton.elim (α := Fin 1) (y 0) 0]
    exact ⟨_, (blk1_apply m c t (y 1) (y 2)).trans (hk.eq _)⟩
  unfold outsAt
  split
  · next h =>
    exact odd_good _ _ _ h2 h3 _ (blk3_tri m c t) c (grid0.coords t) _ _ _ _ _ _ _ _ _ _ _ _ _ _ _ _ h
  · next h =>
    exact even_good _ _ _ h2 h3 _ (blk3_tri m c t) c (grid0.coords t) _ _ _ _ _ _ _ _ _ _ _ _ _ _ _ _ h

/-- The output's array at an index is what the index's grid point left there. -/
theorem arr_apply (t : Fin grid0.N) (b : Fin 2) (T : Fin 8192) (col : Fin 512) (hb : (grid0.coords t 0).val = b.val) (hT : (grid0.coords t 1).val = T.val / 128) :
    ((dats m 0 c).arrAt 4 (cfg0 (F := Ideal)).N : FVec Ideal S2x8192x512 .f32) (ix3 b T col)
      = outsAt m c t (ix3 (0 : Fin 1) (⟨T.val % 128, Nat.mod_lt _ (by decide)⟩ : Fin 128) col) := by
  have e := congrFun (blocks4 m c t (flush0_4 t)) (ix3 (0 : Fin 1) (⟨T.val % 128, Nat.mod_lt _ (by decide)⟩ : Fin 128) col)
  refine Eq.trans ?_ (e.trans rfl)
  show _ = ((dats m 0 c).arrAt 4 (cfg0 (F := Ideal)).N) ((win0_4.blk t).view.emb (ix3 (0 : Fin 1) (⟨T.val % 128, Nat.mod_lt _ (by decide)⟩ : Fin 128) col))
  refine congrArg ((dats m 0 c).arrAt 4 (cfg0 (F := Ideal)).N) (funext fun x => Fin.ext ?_)
  fin_cases x <;> blk_simp [index4 t] <;> simp [ix3, index4 t]
  · exact hb.symm
  · omega

end Cert.Proof.KI

end
-- ==== Proof.Ref.lean ====
/-
  The reference read at an index: the scores, the softplus, the running sum from the last key down, the weights, and the
  weighted sum of the values.
-/
module

public import proofs.«01_k».proof.Proof.Gen.ReferenceIdeal.Run
public import proofs.«01_k».proof.Proof.Places
public import proofs.«01_k».proof.Proof.Real
public import Idealize.ShloMosaic.Lib.Pointwise

@[expose] public section

set_option maxRecDepth 16384

noncomputable section

namespace Cert.Proof.RI

open Cert.ReferenceIdeal Cert.ReferenceIdeal.Gen
open Idealize.ShloMosaic
open Idealize.ShloMosaic.TcCoe
open Cert.Proof.KI (spR lR coe_max coe_sum abs_coe)

/-- A weight for every batch, kv head, query head, query and key. -/
abbrev W5 : Type := FVec Ideal S2x4x2x8192x8192 .f32

/-- Zero everywhere. -/
def zero5 : W5 := broadcastInDim S2x4x2x8192x8192 ![] bcast_S_S2x4x2x8192x8192 (constant S_ .f32 0x00000000#32)

/-- The queries by batch, query, kv head, query head and channel. -/
def heads (q : FVec Ideal S2x8192x512 .bf16) : FVec Ideal S2x8192x4x2x64 .f32 :=
  shapeCast _ (transpose S2x8192x2x2x2x64 [0, 1, 2, 4, 3, 5] (shapeCast _ (extf .f32 q bitsLt_bf16_f32) shapeCasts_S2x8192x512_S2x8192x2x2x2x64)
    transposes_S2x8192x2x2x2x64_S2x8192x2x2x2x64_0_1_2_4_3_5) shapeCasts_S2x8192x2x2x2x64_S2x8192x4x2x64

/-- The keys (or the values) by batch, key, kv head and channel. -/
def kvs (k : FVec Ideal S2x8192x256 .bf16) : FVec Ideal S2x8192x4x64 .f32 :=
  shapeCast _ (extf .f32 k bitsLt_bf16_f32) shapeCasts_S2x8192x256_S2x8192x4x64

/-- The scores. -/
def scores (q : FVec Ideal S2x8192x512 .bf16) (k : FVec Ideal S2x8192x256 .bf16) : W5 :=
  transpose S2x4x2x8192x8192 [0, 1, 4, 3, 2] (Host.dotGeneral dot_S2x8192x4x64_S2x8192x4x2x64_S2x4x8192x8192x2_3_4_1_13_02_02 none (kvs k) (heads q))
    transposes_S2x4x8192x8192x2_S2x4x2x8192x8192_0_1_4_3_2

/-- Softplus. -/
def softplus (x : W5) : W5 :=
  select (cmpf .une (subf x zero5) (subf x zero5)) (addf x zero5)
    (addf (maximumf x zero5) (Host.log1p (Host.exp (Host.negf (Host.absf (subf x zero5))))))

/-- Which keys come before the query. -/
def causal : IVec S2x4x2x8192x8192 1 :=
  broadcastInDim S2x4x2x8192x8192 ![3, 4] bcast_S8192x8192_S2x4x2x8192x8192_3_4
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The log of the share each key leaves. -/
def log1m (z : W5) : W5 := select causal (Host.negf (softplus (Host.negf (Host.negf z)))) zero5

/-- The running sum from the last key down. -/
def runSum (x : W5) : W5 :=
  Host.reduceWindowAdd ![1, 1, 1, 1, 8192] ![1, 1, 1, 1, 1] ![0, 0, 0, 0, 0] ![0, 0, 0, 0, 8191] x
    (broadcastInDim S_ ![] bcast_S_S_ (constant S_ .f32 0x00000000#32))
    reduceWindows_S2x4x2x8192x8192_S2x4x2x8192x8192_w1s1p0_0_w1s1p0_0_w1s1p0_0_w1s1p0_0_w8192s1p0_8191 h_S_

/-- The weights. -/
def weights (z : W5) : W5 :=
  select causal (Host.exp (addf (Host.negf (softplus (Host.negf z))) (subf (runSum (log1m z)) (log1m z)))) zero5

/-- The layout of the result. -/
def laid (o : FVec Ideal S2x4x64x2x8192 .f32) : FVec Ideal S2x8192x512 .f32 :=
  shapeCast _ (transpose S2x8192x2x2x2x64 [0, 1, 2, 4, 3, 5] (shapeCast _ (transpose S2x8192x4x2x64 [0, 4, 1, 3, 2] o
    transposes_S2x4x64x2x8192_S2x8192x4x2x64_0_4_1_3_2) shapeCasts_S2x8192x4x2x64_S2x8192x2x2x2x64)
    transposes_S2x8192x2x2x2x64_S2x8192x2x2x2x64_0_1_2_4_3_5) shapeCasts_S2x8192x2x2x2x64_S2x8192x512

/-- The values under the weights. -/
def mixed (v : FVec Ideal S2x8192x256 .bf16) (a : W5) : FVec Ideal S2x4x64x2x8192 .f32 :=
  Host.dotGeneral dot_S2x8192x4x64_S2x4x2x8192x8192_S2x4x64x2x8192_1_4_3_23_02_01 none (kvs v) a

/-- The reference's result is the values under the weights, laid out. -/
theorem result_eq (m : (ℓ : Loc nD τ sig) → Buf (Elt Ideal) ℓ) (c : Dev nD) :
    Cert.ReferenceIdeal.Value.res_out0 m c
      = laid (mixed (m ((c.tc : Thread nD τ).loc main_arg2)) (weights (scores (m ((c.tc : Thread nD τ).loc main_arg0)) (m ((c.tc : Thread nD τ).loc main_arg1))))) := by
  unfold Cert.ReferenceIdeal.Value.res_out0 Cert.ReferenceIdeal.Value.res_main_v30
  rfl

theorem laid_apply (o : FVec Ideal S2x4x64x2x8192 .f32) (b : Fin 2) (t : Fin 8192) (col : Fin 512) :
    laid o (ix3 b t col) = o (ix5 b ⟨col.val / 256 * 2 + col.val / 64 % 2, by have := col.isLt; omega⟩ ⟨col.val % 64, by omega⟩ ⟨col.val / 128 % 2, by omega⟩ t) := by
  pointwise [laid]

theorem heads_apply (q : FVec Ideal S2x8192x512 .bf16) (b : Fin 2) (t : Fin 8192) (g : Fin 4) (r : Fin 2) (d : Fin 64) :
    heads q (ix5 b t g r d) = q (ix3 b t ⟨g.val / 2 * 256 + r.val * 128 + g.val % 2 * 64 + d.val, by have := g.isLt; have := r.isLt; have := d.isLt; omega⟩) := by
  pointwise [heads]

theorem kvs_apply (k : FVec Ideal S2x8192x256 .bf16) (b : Fin 2) (s : Fin 8192) (g : Fin 4) (d : Fin 64) :
    kvs k (ix4 b s g d) = k (ix3 b s ⟨g.val * 64 + d.val, by have := g.isLt; have := d.isLt; omega⟩) := by
  pointwise [kvs]

theorem scores_apply (q : FVec Ideal S2x8192x512 .bf16) (k : FVec Ideal S2x8192x256 .bf16) (b : Fin 2) (g : Fin 4) (r : Fin 2) (t s : Fin 8192) :
    scores q k (ix5 b g r t s) = ∑ d : Fin 64, kvs k (ix4 b s g d) * heads q (ix5 b t g r d) := by
  pointwise [scores]

theorem mixed_apply (v : FVec Ideal S2x8192x256 .bf16) (a : W5) (b : Fin 2) (g : Fin 4) (d : Fin 64) (r : Fin 2) (t : Fin 8192) :
    mixed v a (ix5 b g d r t) = ∑ s : Fin 8192, kvs v (ix4 b s g d) * a (ix5 b g r t s) := by
  pointwise [mixed]

theorem causal_apply (b : Fin 2) (g : Fin 4) (r : Fin 2) (t s : Fin 8192) :
    causal (ix5 b g r t s) = BitVec.ofBool (decide (s.val < t.val)) := by
  pointwise [causal]
  exact congrArg BitVec.ofBool (Cert.Proof.KI.slt_ofNat _ _ (by have := s.isLt; omega) (by have := t.isLt; omega))

theorem zero5_apply (j : S2x4x2x8192x8192.Idx) : zero5 j = 0 := Ideal.ofBits_zero_f32

theorem softplus_coe (x : W5) (j : S2x4x2x8192x8192.Idx) (r : ℝ) (h : x j = (r : EReal)) : softplus x j = ((spR r : ℝ) : EReal) := by
  pointwise [softplus, zero5_apply]
  rw [if_neg (fun e => e rfl), h]
  show max (r : EReal) 0 + Ideal.log (1 + Ideal.exp (-(max (r : EReal) (-(r : EReal))))) = _
  rw [abs_coe, ← EReal.coe_neg, Ideal.exp_coe, ← EReal.coe_one, ← EReal.coe_add, Ideal.log_coe, if_neg (by have := Real.exp_pos (-|r|); linarith),
    ← EReal.coe_zero, ← coe_max, ← EReal.coe_add]
  rfl

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A windowed sum from zero is the sum over the places of the window, a place outside the operand counting nothing. -/
theorem window_sum {s t : Shape} (window strides lo hi : Fin s.rank → Nat) (h : s.ReduceWindows window strides lo hi t) (x : s.Idx → EReal) (j : t.Idx)
    (v : EReal) (hv : v = 0) (G : Shape.Idx ⟨s.rank, window⟩ → EReal)
    (hG : ∀ i, ∀ hin : ∀ a, lo a ≤ (j (a.cast h.1.symm)).val * strides a + (i a).val
          ∧ (j (a.cast h.1.symm)).val * strides a + (i a).val - lo a < s.size a,
        x (fun a => ⟨(j (a.cast h.1.symm)).val * strides a + (i a).val - lo a, (hin a).2⟩) = G i)
    (h0 : ∀ i, (¬ ∀ a, lo a ≤ (j (a.cast h.1.symm)).val * strides a + (i a).val
          ∧ (j (a.cast h.1.symm)).val * strides a + (i a).val - lo a < s.size a) → G i = 0) :
    Ideal.hostReduceWindowAdd window strides lo hi h x v j = ∑ i : Shape.Idx ⟨s.rank, window⟩, G i := by
  subst hv
  unfold Ideal.hostReduceWindowAdd Host.reduceWindow
  refine (foldl_sum _ _ _).trans ?_
  rw [zero_add, ← Fin.sum_univ_def, ← Equiv.sum_comp (Shape.rowMajor ⟨s.rank, window⟩).symm G]
  refine Finset.sum_congr rfl fun n _ => ?_
  dsimp only
  split
  · next hin => exact hG _ hin
  · next hin => exact (h0 _ hin).symm

/-- The window of the running sum. -/
abbrev Win : Shape := ⟨5, ![1, 1, 1, 1, 8192]⟩

/-- A place in the window is its last coordinate. -/
def winEquiv : Win.Idx ≃ Fin 8192 where
  toFun i := i 4
  invFun s := ix5 (0 : Fin 1) (0 : Fin 1) (0 : Fin 1) (0 : Fin 1) s
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl
  right_inv s := rfl

/-- The running sum at a key is the sum over the key and the later ones. -/
theorem runSum_apply (x : W5) (b : Fin 2) (g : Fin 4) (r : Fin 2) (t s : Fin 8192) (X : ℕ → EReal) (h : ∀ s' : Fin 8192, x (ix5 b g r t s') = X s'.val) :
    runSum x (ix5 b g r t s) = ∑ s' ∈ Finset.Ico s.val 8192, X s' := by
  have hs := s.isLt
  have hb := b.isLt
  have hg := g.isLt
  have hr := r.isLt
  have ht := t.isLt
  have e2 : ∑ k ∈ Finset.range (8192 - s.val), X (s.val + k) = ∑ k : Fin 8192, if s.val + k.val < 8192 then X (s.val + k.val) else 0 := by
    rw [Fin.sum_univ_eq_sum_range (fun k => if s.val + k < 8192 then X (s.val + k) else 0) 8192, ← Finset.sum_filter]
    refine Finset.sum_congr (Finset.ext fun k => ?_) fun _ _ => rfl
    rw [Finset.mem_range, Finset.mem_filter, Finset.mem_range]
    omega
  rw [Finset.sum_Ico_eq_sum_range, e2]
  have step : runSum x (ix5 b g r t s) = Ideal.hostReduceWindowAdd (s := S2x4x2x8192x8192) (t := S2x4x2x8192x8192) ![1, 1, 1, 1, 8192] ![1, 1, 1, 1, 1] ![0, 0, 0, 0, 0] ![0, 0, 0, 0, 8191]
    reduceWindows_S2x4x2x8192x8192_S2x4x2x8192x8192_w1s1p0_0_w1s1p0_0_w1s1p0_0_w1s1p0_0_w8192s1p0_8191 x (Ideal.ofBits .f32 0x00000000#32) (ix5 b g r t s) := by
    unfold runSum Host.reduceWindowAdd
    exact congrFun (Ideal.hostReduceWindowAdd_def _ _ _ _ _ _ _ _) _
  rw [step]
  have w := window_sum (s := S2x4x2x8192x8192) (t := S2x4x2x8192x8192) ![1, 1, 1, 1, 8192] ![1, 1, 1, 1, 1] ![0, 0, 0, 0, 0] ![0, 0, 0, 0, 8191]
    reduceWindows_S2x4x2x8192x8192_S2x4x2x8192x8192_w1s1p0_0_w1s1p0_0_w1s1p0_0_w1s1p0_0_w8192s1p0_8191 x (ix5 b g r t s) (Ideal.ofBits .f32 0x00000000#32) Ideal.ofBits_zero_f32
    (fun i : Win.Idx => if s.val + (i 4).val < 8192 then X (s.val + (i 4).val) else 0) (fun i hin => ?g) (fun i hin => ?z)
  case g =>
    have i0 : (i 0).val = 0 := by have := (i 0).isLt; change (i 0).val < 1 at this; omega
    have i1 : (i 1).val = 0 := by have := (i 1).isLt; change (i 1).val < 1 at this; omega
    have i2 : (i 2).val = 0 := by have := (i 2).isLt; change (i 2).val < 1 at this; omega
    have i3 : (i 3).val = 0 := by have := (i 3).isLt; change (i 3).val < 1 at this; omega
    have h4 : s.val * 1 + (i 4).val - 0 < 8192 := (hin 4).2
    have hk : s.val + (i 4).val < 8192 := by omega
    refine Eq.trans ?_ (if_pos hk).symm
    refine Eq.trans (congrArg x ?_) (h ⟨s.val + (i 4).val, hk⟩)
    funext a
    match a with
    | ⟨0, _⟩ => exact Fin.ext (show b.val * 1 + (i 0).val - 0 = b.val by omega)
    | ⟨1, _⟩ => exact Fin.ext (show g.val * 1 + (i 1).val - 0 = g.val by omega)
    | ⟨2, _⟩ => exact Fin.ext (show r.val * 1 + (i 2).val - 0 = r.val by omega)
    | ⟨3, _⟩ => exact Fin.ext (show t.val * 1 + (i 3).val - 0 = t.val by omega)
    | ⟨4, _⟩ => exact Fin.ext (show s.val * 1 + (i 4).val - 0 = s.val + (i 4).val by omega)
  case z =>
    have i0 : (i 0).val = 0 := by have := (i 0).isLt; change (i 0).val < 1 at this; omega
    have i1 : (i 1).val = 0 := by have := (i 1).isLt; change (i 1).val < 1 at this; omega
    have i2 : (i 2).val = 0 := by have := (i 2).isLt; change (i 2).val < 1 at this; omega
    have i3 : (i 3).val = 0 := by have := (i 3).isLt; change (i 3).val < 1 at this; omega
    refine if_neg fun hk => hin fun a => ?_
    match a with
    | ⟨0, _⟩ => exact ⟨Nat.zero_le _, show b.val * 1 + (i 0).val - 0 < 2 by omega⟩
    | ⟨1, _⟩ => exact ⟨Nat.zero_le _, show g.val * 1 + (i 1).val - 0 < 4 by omega⟩
    | ⟨2, _⟩ => exact ⟨Nat.zero_le _, show r.val * 1 + (i 2).val - 0 < 2 by omega⟩
    | ⟨3, _⟩ => exact ⟨Nat.zero_le _, show t.val * 1 + (i 3).val - 0 < 8192 by omega⟩
    | ⟨4, _⟩ => exact ⟨Nat.zero_le _, show s.val * 1 + (i 4).val - 0 < 8192 by omega⟩
  exact w.trans (Fintype.sum_equiv winEquiv _ _ fun i => rfl)

/-- The softplus of minus a real is the softplus of the real less the real. -/
theorem spR_neg (x : ℝ) : -spR (-x) = x + lR x := by
  show -(max (-x) 0 + Real.log (1 + Real.exp (-|-x|))) = x + -(max x 0 + Real.log (1 + Real.exp (-|x|)))
  rw [abs_neg]
  rcases le_total x 0 with h | h
  · rw [max_eq_left (by linarith), max_eq_right h]; ring
  · rw [max_eq_right (by linarith), max_eq_left h]; ring

theorem neg_coe (x : W5) (j : S2x4x2x8192x8192.Idx) (r : ℝ) (h : x j = (r : EReal)) : Host.negf x j = ((-r : ℝ) : EReal) := by
  rw [EReal.coe_neg, ← h]
  rfl

theorem causal_select (x : W5) (b : Fin 2) (g : Fin 4) (r : Fin 2) (t s : Fin 8192) :
    select causal x zero5 (ix5 b g r t s) = if s.val < t.val then x (ix5 b g r t s) else 0 := by
  show (if causal (ix5 b g r t s) = 1#1 then x (ix5 b g r t s) else zero5 (ix5 b g r t s)) = _
  rw [causal_apply, zero5_apply]
  by_cases h : s.val < t.val
  · rw [decide_eq_true h, if_pos h]; rfl
  · rw [decide_eq_false h, if_neg h]; rfl

/-- Where the scores of a query are real the log shares are the logs the kernel's carry sums. -/
theorem log1m_coe (z : W5) (b : Fin 2) (g : Fin 4) (r : Fin 2) (t s : Fin 8192) (Z : ℕ → ℝ) (h : z (ix5 b g r t s) = ((Z s.val : ℝ) : EReal)) :
    log1m z (ix5 b g r t s) = ((Cert.Proof.KI.logL t.val Z s.val : ℝ) : EReal) := by
  unfold log1m Cert.Proof.KI.logL
  rw [causal_select]
  by_cases hs : s.val < t.val
  · rw [if_pos hs, if_pos hs, neg_coe _ _ _ (softplus_coe _ _ (Z s.val) (by rw [neg_coe _ _ _ (neg_coe _ _ _ h), neg_neg]))]
    rfl
  · rw [if_neg hs, if_neg hs]; rfl

/-- Where the scores of a query are real the weight of a key is the kernel's, the logs summed over all the later keys. -/
theorem weights_coe (z : W5) (b : Fin 2) (g : Fin 4) (r : Fin 2) (t s : Fin 8192) (Z : ℕ → ℝ) (h : ∀ s' : Fin 8192, z (ix5 b g r t s') = ((Z s'.val : ℝ) : EReal)) :
    weights z (ix5 b g r t s) = ((Cert.Proof.KI.wt t.val 8192 Z s.val : ℝ) : EReal) := by
  unfold weights Cert.Proof.KI.wt
  rw [causal_select]
  have hs8 := s.isLt
  by_cases hs : s.val < t.val
  · rw [if_pos hs, if_pos hs]
    have e1 : Host.negf (softplus (Host.negf z)) (ix5 b g r t s) = ((Z s.val + lR (Z s.val) : ℝ) : EReal) := by
      rw [neg_coe _ _ _ (softplus_coe _ _ _ (neg_coe _ _ _ (h s))), spR_neg]
    have e2 := runSum_apply (log1m z) b g r t s (fun s' => ((Cert.Proof.KI.logL t.val Z s' : ℝ) : EReal)) (fun s' => log1m_coe z b g r t s' Z (h s'))
    rw [← coe_sum, ← Finset.sum_Ioo_add_eq_sum_Ico hs8] at e2
    show Ideal.exp (Host.negf (softplus (Host.negf z)) (ix5 b g r t s) + (runSum (log1m z) (ix5 b g r t s) - log1m z (ix5 b g r t s))) = _
    rw [e1, e2, log1m_coe z b g r t s Z (h s), ← EReal.coe_sub, ← EReal.coe_add, Ideal.exp_coe, add_sub_cancel_right]
    rfl
  · rw [if_neg hs, if_neg hs]; rfl

end Cert.Proof.RI

end
-- ==== Proof.Equal.lean ====
/-
  The kernel's result is the reference's: the scores of a row against the keys are the reference's, the keys after the query
  count nothing on either side, and the weighted sums agree.
-/
module

public import proofs.«01_k».proof.Proof.Arrays
public import proofs.«01_k».proof.Proof.Ref

@[expose] public section

set_option maxRecDepth 16384

noncomputable section

namespace Cert.Proof.KI

open Cert.KernelIdeal Cert.KernelIdeal.Gen
open Idealize.ShloMosaic
open Idealize.ShloMosaic.TcCoe

/-- The logs past the row's keys count nothing. -/
theorem wt_top (p top : ℕ) (h : p ≤ top) (Z : ℕ → ℝ) (s : ℕ) : wt p top Z s = wt p p Z s := by
  unfold wt
  by_cases hs : s < p
  · rw [if_pos hs, if_pos hs, ← Finset.sum_Ico_consecutive (logL p Z) (show s + 1 ≤ p by omega) h,
      Finset.sum_eq_zero (s := Finset.Ico p top) (fun x hx => by
        unfold logL
        rw [if_neg (by have := (Finset.mem_Ico.1 hx).1; omega)]), add_zero]
  · rw [if_neg hs, if_neg hs]

/-- The keys past the row's count nothing. -/
theorem sum_keys (p n : ℕ) (h : p ≤ n) (Z : ℕ → ℝ) (V : ℕ → EReal) :
    ∑ s ∈ Finset.Ico 0 n, ((wt p n Z s : ℝ) : EReal) * V s = ∑ s ∈ Finset.range p, ((wt p p Z s : ℝ) : EReal) * V s := by
  rw [Nat.Ico_zero_eq_range]
  rw [Finset.sum_congr rfl (fun s _ => by rw [wt_top p n h Z s] : ∀ s ∈ Finset.range n, ((wt p n Z s : ℝ) : EReal) * V s = ((wt p p Z s : ℝ) : EReal) * V s)]
  refine (Finset.sum_subset (Finset.range_mono h) fun s _ hs => ?_).symm
  unfold wt
  rw [if_neg (fun e => hs (Finset.mem_range.2 e)), EReal.coe_zero, zero_mul]

/-- A sum over the 128 lanes of which one half counts. -/
theorem sum_half (F : ℕ → EReal) (e : ℕ) (he : e < 2) :
    (∑ l : Fin 128, if (l.val < 64 ↔ e = 0) then F l.val else 0) = ∑ d : Fin 64, F (64 * e + d.val) := by
  rw [Fin.sum_univ_add (fun l : Fin (64 + 64) => if (l.val < 64 ↔ e = 0) then F l.val else 0)]
  have hc : e = 0 ∨ e = 1 := by omega
  rcases hc with rfl | rfl
  · rw [Finset.sum_eq_zero (f := fun i : Fin 64 => if ((Fin.natAdd 64 i).val < 64 ↔ 0 = 0) then F (Fin.natAdd 64 i).val else 0) (fun i _ => if_neg (by simp)), add_zero]
    exact Finset.sum_congr rfl fun i _ => by
      rw [if_pos (by simp), Nat.mul_zero, Nat.zero_add]; rfl
  · rw [Finset.sum_eq_zero (f := fun i : Fin 64 => if ((Fin.castAdd 64 i).val < 64 ↔ 1 = 0) then F (Fin.castAdd 64 i).val else 0) (fun i _ => if_neg (by simp)), zero_add]
    exact Finset.sum_congr rfl fun i _ => by
      rw [if_pos (by simp), Nat.mul_one]; rfl

theorem at3 {n0 n1 n2 : ℕ} {α : Type} (x : (⟨3, ![n0, n1, n2]⟩ : Shape).Idx → α) {a a' : Fin n0} {b b' : Fin n1} {d d' : Fin n2} (h0 : a.val = a'.val) (h1 : b.val = b'.val)
    (h2 : d.val = d'.val) : x (ix3 a b d) = x (ix3 a' b' d') := by
  rw [Fin.ext h0, Fin.ext h1, Fin.ext h2]

variable (m : (ℓ : Loc nD τ sig) → Buf (Elt Ideal) ℓ) (c : Dev nD)

/-- A key's lane is the key's column of the kv head's half of the pair. -/
theorem lane1 (t : Fin grid0.N) (b : Fin 2) (hb : (grid0.coords t 0).val = b.val) (kp : Fin 2) (s : Fin 8192) (l : Fin 128) :
    lane (iblk m c 1 t) kp s.val l = argK m c (ix3 b s (⟨128 * kp.val + l.val, by have := kp.isLt; have := l.isLt; omega⟩ : Fin 256)) := by
  unfold lane
  rw [dif_pos s.isLt]
  exact (blk1_apply m c t s _).trans (at3 (argK m c) hb rfl rfl)

theorem lane2 (t : Fin grid0.N) (b : Fin 2) (hb : (grid0.coords t 0).val = b.val) (kp : Fin 2) (s : Fin 8192) (l : Fin 128) :
    lane (iblk m c 2 t) kp s.val l = argV m c (ix3 b s (⟨128 * kp.val + l.val, by have := kp.isLt; have := l.isLt; omega⟩ : Fin 256)) := by
  unfold lane
  rw [dif_pos s.isLt]
  exact (blk2_apply m c t s _).trans (at3 (argV m c) hb rfl rfl)

/-- The slab of a column. -/
abbrev slabOf (col : Fin 512) : Fin 2 := ⟨col.val / 256, by have := col.isLt; omega⟩
/-- The row of a query and a column. -/
abbrev rowOf (T : Fin 8192) (col : Fin 512) : Fin 512 :=
  ⟨256 * (col.val / 128 % 2) + 128 * (col.val % 128 / 64) + T.val % 128, by omega⟩
/-- The kv head of a column. -/
abbrev kvOf (col : Fin 512) : Fin 4 := ⟨col.val / 256 * 2 + col.val / 64 % 2, by have := col.isLt; omega⟩
/-- The query head of a column among its kv head's. -/
abbrev headOf (col : Fin 512) : Fin 2 := ⟨col.val / 128 % 2, by omega⟩

/-- The product of a key's and a query's entry in a lane. -/
def laneProd (b : Fin 2) (T : Fin 8192) (col : Fin 512) (s : Fin 8192) (n : ℕ) : EReal :=
  if h : n < 128 then argK m c (ix3 b s (⟨128 * (col.val / 256) + n, by have := col.isLt; omega⟩ : Fin 256))
    * argQ m c (ix3 b T (⟨128 * (2 * (col.val / 256) + col.val / 128 % 2) + n, by have := col.isLt; omega⟩ : Fin 512)) else 0

section Row

variable (hq : AllReal (argQ m c)) (hk : AllReal (argK m c)) (t : Fin grid0.N) (b : Fin 2) (T : Fin 8192) (col : Fin 512)
  (hb : (grid0.coords t 0).val = b.val) (hT : (grid0.coords t 1).val = T.val / 128)

include hq hk hb hT in
/-- The score of a row against a key is the reference's. -/
theorem scores_eq (s : Fin 8192) :
    Cert.Proof.RI.scores (argQ m c) (argK m c) (ix5 b (kvOf col) (headOf col) T s)
      = ((keyZ (iblk m c 0 t) (iblk m c 1 t) (slabOf col) (rowOf T col) s.val : ℝ) : EReal) := by
  have hcol := col.isLt
  rw [Cert.Proof.RI.scores_apply]
  unfold keyZ
  rw [coe_sum]
  have e1 : ∀ l : Fin 128, ((EReal.toReal (qm (F := Ideal) (iblk m c 0 t) (ix3 (slabOf col) (rowOf T col) l)) * EReal.toReal (lane (iblk m c 1 t) (slabOf col) s.val l) : ℝ) : EReal)
      = if (l.val < 64 ↔ col.val / 64 % 2 = 0) then
          laneProd m c b T col s l.val else 0 := by
    intro l
    have hl := l.isLt
    have el : ((EReal.toReal (lane (iblk m c 1 t) (slabOf col) s.val l) : ℝ) : EReal) = argK m c (ix3 b s (⟨128 * (col.val / 256) + l.val, by omega⟩ : Fin 256)) := by
      rw [lane1 m c t b hb (slabOf col) s l, ← hk.eq]
    rw [EReal.coe_mul, el]
    by_cases hh : (l.val < 64 ↔ col.val / 64 % 2 = 0)
    · have eq1 : qm (F := Ideal) (iblk m c 0 t) (ix3 (slabOf col) (rowOf T col) l)
          = argQ m c (ix3 b T (⟨128 * (2 * (col.val / 256) + col.val / 128 % 2) + l.val, by omega⟩ : Fin 512)) := by
        unfold qm
        refine (if_pos (show l.val < 64 ↔ (256 * (col.val / 128 % 2) + 128 * (col.val % 128 / 64) + T.val % 128) / 128 % 2 = 0 by
          rw [hh]; constructor <;> intro h <;> omega)).trans ?_
        refine (blk0_apply m c t _ _).trans (at3 (argQ m c) hb ?_ ?_)
        · show 128 * (grid0.coords t 1).val + (256 * (col.val / 128 % 2) + 128 * (col.val % 128 / 64) + T.val % 128) % 128 = T.val
          omega
        · show 128 * (2 * (col.val / 256) + (256 * (col.val / 128 % 2) + 128 * (col.val % 128 / 64) + T.val % 128) / 256) + l.val
            = 128 * (2 * (col.val / 256) + col.val / 128 % 2) + l.val
          omega
      rw [if_pos hh, eq1, ← hq.eq]
      unfold laneProd
      rw [dif_pos hl, mul_comm]
    · have eq0 : qm (F := Ideal) (iblk m c 0 t) (ix3 (slabOf col) (rowOf T col) l) = 0 := by
        unfold qm
        refine (if_neg (show ¬ (l.val < 64 ↔ (256 * (col.val / 128 % 2) + 128 * (col.val % 128 / 64) + T.val % 128) / 128 % 2 = 0) from fun h =>
          hh (h.trans (by constructor <;> intro h <;> omega)))).trans ?_
        exact Ideal.ofBits_zero_bf16
      rw [if_neg hh, eq0, EReal.toReal_zero, EReal.coe_zero, zero_mul]
  refine Eq.trans ?_ ((Finset.sum_congr rfl fun l _ => e1 l).trans (sum_half (laneProd m c b T col s) (col.val / 64 % 2) (by omega))).symm
  refine Finset.sum_congr rfl fun d _ => ?_
  have hd := d.isLt
  rw [Cert.Proof.RI.kvs_apply, Cert.Proof.RI.heads_apply]
  unfold laneProd
  rw [dif_pos (by omega)]
  refine congrArg₂ (· * ·) (at3 (argK m c) rfl rfl ?_) (at3 (argQ m c) rfl rfl ?_)
  · show (col.val / 256 * 2 + col.val / 64 % 2) * 64 + d.val = 128 * (col.val / 256) + (64 * (col.val / 64 % 2) + d.val)
    omega
  · show (col.val / 256 * 2 + col.val / 64 % 2) / 2 * 256 + col.val / 128 % 2 * 128 + (col.val / 256 * 2 + col.val / 64 % 2) % 2 * 64 + d.val
      = 128 * (2 * (col.val / 256) + col.val / 128 % 2) + (64 * (col.val / 64 % 2) + d.val)
    omega

include hq hk hb hT in
/-- The reference's result at the index is the sum over the keys before the query. -/
theorem ref_row :
    Cert.Proof.RI.laid (Cert.Proof.RI.mixed (argV m c) (Cert.Proof.RI.weights (Cert.Proof.RI.scores (argQ m c) (argK m c)))) (ix3 b T col)
      = ∑ s ∈ Finset.range T.val, ((wt T.val T.val (keyZ (iblk m c 0 t) (iblk m c 1 t) (slabOf col) (rowOf T col)) s : ℝ) : EReal)
          * lane (iblk m c 2 t) (slabOf col) s (⟨col.val % 128, Nat.mod_lt _ (by decide)⟩ : Fin 128) := by
  have hcol := col.isLt
  rw [← sum_keys T.val 8192 (by have := T.isLt; omega), Nat.Ico_zero_eq_range, Cert.Proof.RI.laid_apply, Cert.Proof.RI.mixed_apply,
    ← Fin.sum_univ_eq_sum_range (fun s => ((wt T.val 8192 (keyZ (iblk m c 0 t) (iblk m c 1 t) (slabOf col) (rowOf T col)) s : ℝ) : EReal)
          * lane (iblk m c 2 t) (slabOf col) s (⟨col.val % 128, Nat.mod_lt _ (by decide)⟩ : Fin 128)) 8192]
  refine Finset.sum_congr rfl fun s _ => ?_
  rw [Cert.Proof.RI.weights_coe _ b (kvOf col) (headOf col) T s (keyZ (iblk m c 0 t) (iblk m c 1 t) (slabOf col) (rowOf T col))
    (fun s' => scores_eq m c hq hk t b T col hb hT s'), mul_comm, lane2 m c t b hb, Cert.Proof.RI.kvs_apply]
  refine congrArg₂ (· * ·) rfl (at3 (argV m c) rfl rfl ?_)
  show (col.val / 256 * 2 + col.val / 64 % 2) * 64 + col.val % 64 = 128 * (col.val / 256) + col.val % 128
  omega

include hq hk hb hT in
/-- The kernel's result at the index is the same sum. -/
theorem kernel_row :
    ((dats m 0 c).arrAt 4 (cfg0 (F := Ideal)).N : FVec Ideal S2x8192x512 .f32) (ix3 b T col)
      = ∑ s ∈ Finset.range T.val, ((wt T.val T.val (keyZ (iblk m c 0 t) (iblk m c 1 t) (slabOf col) (rowOf T col)) s : ℝ) : EReal)
          * lane (iblk m c 2 t) (slabOf col) s (⟨col.val % 128, Nat.mod_lt _ (by decide)⟩ : Fin 128) := by
  obtain ⟨S, hS, ho⟩ := outs_good m c hq hk t
  rw [arr_apply m c t b T col hb hT, ho]
  have e := out_good (iblk m c 0 t) (iblk m c 1 t) (iblk m c 2 t) (grid0.coords t 1).val S hS (slabOf col) (rowOf T col) (⟨col.val % 128, Nat.mod_lt _ (by decide)⟩ : Fin 128)
  have hp : 128 * (grid0.coords t 1).val + (rowOf T col).val % 128 = T.val := by
    show 128 * (grid0.coords t 1).val + (256 * (col.val / 128 % 2) + 128 * (col.val % 128 / 64) + T.val % 128) % 128 = T.val
    omega
  rw [hp, sum_keys T.val _ (by omega)] at e
  exact e

end Row

/-- Where the queries and the keys are real, the kernel's result is the reference's. -/
theorem results_eq (hq : AllReal (argQ m c)) (hk : AllReal (argK m c)) :
    ((dats m 0 c).arrAt 4 (cfg0 (F := Ideal)).N : FVec Ideal S2x8192x512 .f32)
      = Cert.Proof.RI.laid (Cert.Proof.RI.mixed (argV m c) (Cert.Proof.RI.weights (Cert.Proof.RI.scores (argQ m c) (argK m c)))) := by
  funext j
  rw [eq_ix3 (n0 := 2) (n1 := 8192) (n2 := 512) j]
  obtain ⟨t, ht⟩ := Pipeline.Grid.coords_surjective grid0 (fun a => match a with
    | ⟨0, _⟩ => (j 0 : Fin 2)
    | ⟨1, _⟩ => (⟨(j 1).val / 128, by have h : (j 1).val < 8192 := (j 1).isLt; show _ < 64; omega⟩ : Fin 64))
  have h0 : (grid0.coords t 0).val = (j 0).val := by rw [ht]
  have h1 : (grid0.coords t 1).val = (j 1).val / 128 := by rw [ht]
  exact (kernel_row m c hq hk t (j 0) (j 1) (j 2) h0 h1).trans (ref_row m c hq hk t (j 0) (j 1) (j 2) h0 h1).symm

end Cert.Proof.KI

end
-- ==== Proof.Finite.lean ====
/-
  The precondition read back: the printed predicate says that every query and every key is finite; at the ideal
  instance that is: a real.
-/
module

public import proofs.«01_k».proof.Pre_finite_queries_and_keys
public import proofs.«01_k».proof.Proof.Sweep
public import Idealize.ShloMosaic.Lib.ReduceAll

@[expose] public section

noncomputable section

namespace Cert.Proof.Pre

open Idealize.ShloMosaic Cert.Pre_finite_queries_and_keys

/-- The precondition's side conditions. -/
instance preFacts : Cert.Pre_finite_queries_and_keys.Facts where
  bitsLt_bf16_f32 := by decide
  bcast_S_S2x8192x512 := by decide
  reducesTo_S2x8192x512_S_d0_1_2 := by decide
  h_S_ := by decide
  bcast_S_S2x8192x256 := by decide
  reducesTo_S2x8192x256_S_d0_1_2 := by decide

/-- An extended real whose absolute value compares below the infinity constant is a real. -/
theorem real_of_abs (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

instance : Subsingleton S_.Idx := ⟨fun a b => funext fun d => d.elim0⟩

/-- Under the precondition the queries and the keys are reals. -/
theorem real_of_pre (q : FVec Ideal S2x8192x512 .bf16) (k v : FVec Ideal S2x8192x256 .bf16)
    (h : Cert.Pre_finite_queries_and_keys.fn (F := Ideal) q k v = (fun _ => 1#1)) :
    Cert.Proof.KI.AllReal q ∧ Cert.Proof.KI.AllReal k := by
  obtain ⟨hq, hk⟩ := IntOp.andi_eq_one.1 (congrFun h (fun d => d.elim0))
  exact ⟨fun i => real_of_abs _ (Host.reduce_andi_all _ _ _ _ _ hq i), fun i => real_of_abs _ (Host.reduce_andi_all _ _ _ _ _ hk i)⟩

end Cert.Proof.Pre

end
-- ==== Proof.Proj.Spec.lean ====
/-
  What a token's row becomes: its RMS norm, its product with a column of the weights, the RMS norm of a head of 64 of these.
  With real tokens, gains and weights the products are real.
-/
module

public import proofs.«01_k».proof.Proof.Real

@[expose] public section

set_option maxRecDepth 16384

noncomputable section

namespace Cert.Proof.PJ

open Idealize.ShloMosaic
open Idealize.ShloMosaic.TcCoe

/-- The constant added to a mean square. -/
abbrev eps : EReal := Ideal.ofBits .f32 0x358637BD#32

/-- The scale of the queries. -/
abbrev scale : EReal := Ideal.ofBits .f32 0x3E000000#32

/-- A row after its RMS norm. -/
def normed (x g : Fin 1024 → EReal) (d : Fin 1024) : EReal :=
  x d * Ideal.rsqrt (Ideal.div (∑ k, x k * x k) (Ideal.ofBits .f32 0x44800000#32) + eps) * g d

/-- Column `n` of the weights (the columns counted around). -/
def column (w : FVec Ideal ⟨2, ![1024, 3456]⟩ .bf16) (n : ℕ) (d : Fin 1024) : EReal :=
  w (ix2 d (⟨n % 3456, Nat.mod_lt _ (by decide)⟩ : Fin 3456))

/-- A normed row times column `n` of the weights. -/
def proj (x g : Fin 1024 → EReal) (w : FVec Ideal ⟨2, ![1024, 3456]⟩ .bf16) (n : ℕ) : EReal :=
  ∑ d, normed x g d * column w n d

/-- Entry `n` of a projected row after the RMS norm of its head of 64 entries. -/
def headn (L : ℕ → EReal) (γ : EReal) (n : ℕ) : EReal :=
  L n * Ideal.rsqrt (Ideal.div (∑ e : Fin 64, L (64 * (n / 64) + e.val) * L (64 * (n / 64) + e.val)) (Ideal.ofBits .f32 0x42800000#32) + eps) * γ

/-- A gate of a value. -/
def silu (z : EReal) : EReal := z * Ideal.logistic z

/-! What the call's outputs hold at column `y`, from a row's products `L` and a head's gains `q` by lane. -/

/-- The queries: each head's norm, scaled. -/
def oQuery (L q : ℕ → EReal) (y : ℕ) : EReal := headn L (q y) y * scale
/-- A stretch of the products from column `a` on. -/
def oRaw (a : ℕ) (L : ℕ → EReal) (y : ℕ) : EReal := L (a + y)
/-- The heads' norm of a stretch. -/
def oHead (a : ℕ) (L q : ℕ → EReal) (y : ℕ) : EReal := headn L (q y) (a + y)
/-- Normed keys, then the values beside them. -/
def oPair (a : ℕ) (L q : ℕ → EReal) (y : ℕ) : EReal := if y < 128 then headn L (q y) (a + y) else L (a + y)
/-- Two heads of values, each beside ones. -/
def oBeside (a : ℕ) (L : ℕ → EReal) (y : ℕ) : EReal := if y < 64 then L (a + y) else if y < 192 then 1 else L (a + (y - 128))
/-- The sigmoid of a stretch. -/
def oShare (a : ℕ) (L : ℕ → EReal) (y : ℕ) : EReal := Ideal.logistic (L (a + y))
/-- The gates of a stretch. -/
def oGate (a : ℕ) (L : ℕ → EReal) (y : ℕ) : EReal := silu (L (a + y))
/-- A stretch scaled. -/
def oScaled (a : ℕ) (L : ℕ → EReal) (y : ℕ) : EReal := L (a + y) * scale

/-- The gains of a head by lane. -/
def gains (g : FVec Ideal ⟨1, ![64]⟩ .f32) (y : ℕ) : EReal := g (ix1 (⟨y % 64, Nat.mod_lt _ (by decide)⟩ : Fin 64))

theorem ofBits_1024 : Ideal.ofBits .f32 0x44800000#32 = ((1024 : ℝ) : EReal) := by
  simp [Ideal.ofBits, Ideal.ieee]; norm_num; rw [← EReal.coe_mul]; norm_num

theorem ofBits_64 : Ideal.ofBits .f32 0x42800000#32 = ((64 : ℝ) : EReal) := by
  simp [Ideal.ofBits, Ideal.ieee]; norm_num; rw [← EReal.coe_mul]; norm_num

theorem ofBits_64th : Ideal.ofBits .f32 0x3C800000#32 = ((1 / 64 : ℝ) : EReal) := by
  simp [Ideal.ofBits, Ideal.ieee]; norm_num; rw [← EReal.coe_mul]; norm_num

theorem eps_pos : ∃ e : ℝ, 0 < e ∧ eps = (e : EReal) := by
  refine ⟨(8796093 : ℝ) * 2 ^ (-43 : ℤ), by positivity, ?_⟩
  simp [eps, Ideal.ofBits, Ideal.ieee]

/-- Dividing by 64 is multiplying by the constant 1/64. -/
theorem div_64 (s : EReal) : Ideal.div s (Ideal.ofBits .f32 0x42800000#32) = s * Ideal.ofBits .f32 0x3C800000#32 := by
  rw [ofBits_64, ofBits_64th]
  unfold Ideal.div
  rw [if_neg (by norm_cast), ← EReal.coe_inv]
  norm_num

/-- A real row of which every part is real has a real norm. -/
theorem normed_real (x g : Fin 1024 → EReal) (hx : ∀ k, ∃ r : ℝ, x k = (r : EReal)) (hg : ∀ k, ∃ r : ℝ, g k = (r : EReal)) (d : Fin 1024) :
    ∃ r : ℝ, normed x g d = (r : EReal) := by
  choose X hX using hx
  choose G hG using hg
  obtain ⟨e, he, hE⟩ := eps_pos
  unfold normed
  simp only [hX, hG, hE, ofBits_1024]
  simp only [← EReal.coe_mul, ← KI.coe_sum]
  unfold Ideal.div
  rw [if_neg (by norm_cast), ← EReal.coe_inv, ← EReal.coe_mul, ← EReal.coe_add]
  have hpos : 0 < (∑ i : Fin 1024, X i * X i) * (1024 : ℝ)⁻¹ + e := by
    have : 0 ≤ ∑ i : Fin 1024, X i * X i := Finset.sum_nonneg fun i _ => mul_self_nonneg _
    positivity
  have hq : Ideal.rsqrt (((∑ i : Fin 1024, X i * X i) * (1024 : ℝ)⁻¹ + e : ℝ) : EReal)
      = ((Real.sqrt ((∑ i : Fin 1024, X i * X i) * (1024 : ℝ)⁻¹ + e))⁻¹ : ℝ) :=
    (if_neg (not_lt.2 hpos.le)).trans (if_neg hpos.ne')
  rw [hq]
  exact ⟨_, by rw [← EReal.coe_mul, ← EReal.coe_mul]⟩

/-- A real row's products with real weights are real. -/
theorem proj_real (x g : Fin 1024 → EReal) (w : FVec Ideal ⟨2, ![1024, 3456]⟩ .bf16) (hx : ∀ k, ∃ r : ℝ, x k = (r : EReal))
    (hg : ∀ k, ∃ r : ℝ, g k = (r : EReal)) (hw : ∀ j, ∃ r : ℝ, w j = (r : EReal)) (n : ℕ) : ∃ r : ℝ, proj x g w n = (r : EReal) := by
  choose N hN using normed_real x g hx hg
  choose W hW using hw
  unfold proj column
  simp only [hN, hW, ← EReal.coe_mul, ← KI.coe_sum]
  exact ⟨_, rfl⟩

/-- A sum over 128 lanes that keeps the lanes of lane `l`'s half is the sum over that half. -/
theorem sum_half (f : ℕ → EReal) (l : Fin 128) :
    ∑ k : Fin 128, f k.val * (if (k.val < 64 ↔ l.val < 64) then (1 : EReal) else 0) = ∑ e : Fin 64, f (64 * (l.val / 64) + e.val) := by
  have hl := l.isLt
  refine (Fin.sum_univ_add (a := 64) (b := 64) _).trans ?_
  simp only [Fin.val_castAdd, Fin.val_natAdd]
  by_cases h : l.val < 64
  · have h1 : ∀ k : Fin 64, f k.val * (if (k.val < 64 ↔ l.val < 64) then (1 : EReal) else 0) = f (64 * (l.val / 64) + k.val) := fun k => by
      rw [if_pos (by have := k.isLt; omega), mul_one, show 64 * (l.val / 64) + k.val = k.val by omega]
    have h2 : ∀ k : Fin 64, f (64 + k.val) * (if (64 + k.val < 64 ↔ l.val < 64) then (1 : EReal) else 0) = 0 := fun k => by
      rw [if_neg (by omega), mul_zero]
    simp only [h1, h2, Finset.sum_const_zero, add_zero]
  · have h1 : ∀ k : Fin 64, f k.val * (if (k.val < 64 ↔ l.val < 64) then (1 : EReal) else 0) = 0 := fun k => by
      rw [if_neg (by have := k.isLt; omega), mul_zero]
    have h2 : ∀ k : Fin 64, f (64 + k.val) * (if (64 + k.val < 64 ↔ l.val < 64) then (1 : EReal) else 0) = f (64 * (l.val / 64) + k.val) := fun k => by
      rw [if_pos (by omega), mul_one, show 64 * (l.val / 64) + k.val = 64 + k.val by omega]
    simp only [h1, h2, Finset.sum_const_zero, zero_add]

end Cert.Proof.PJ

end
-- ==== Proof.Proj.Pay.lean ====
/-
  The vectors a grid point of the projection call stores, read at an entry: a column section of the products, a head's norm,
  a gate.
-/
module

public import proofs.«01_k».proof.Proof.Proj.Spec
public import proofs.«01_k».proof.Proof.Gen.Kernel2Ideal.Value
public import Idealize.ShloMosaic.Lib.Pointwise
public import Idealize.ShloMosaic.Lib.IdealHost
public import Idealize.ShloMosaic.PureOps.Ideal.Laws

@[expose] public section

set_option maxRecDepth 16384

noncomputable section

namespace Cert.Proof.PJ

open Cert.Kernel2Ideal Cert.Kernel2Ideal.Gen
open Idealize.ShloMosaic
open Idealize.ShloMosaic.TcCoe

/-- The halves' table: 1 where both lanes are of one half. -/
def IsHalves (u : FVec Ideal S128x128 .bf16) : Prop := ∀ k l : Fin 128, u (ix2 k l) = if (k.val < 64 ↔ l.val < 64) then 1 else 0

/-- The normed rows of a block. -/
theorem rows_apply (x : Vec Ideal S256x1024 .f32) (g : Vec Ideal S1x1024 .f32) (i : Fin 256) (d : Fin 1024) :
    k0_pay2 (F := Ideal) x g (ix2 i d) = normed (fun k => x (ix2 i k)) (fun k => g (ix2 (0 : Fin 1) k)) d := by
  unfold k0_pay2
  pointwise
  rfl

/-- A column section of the products. -/
theorem sect_apply (X : FVec Ideal S256x1024 .bf16) (w : Vec Ideal S1024x128 .bf16) (i : Fin 256) (l : Fin 128) :
    k0_pay18 (F := Ideal) X w (ix2 i l) = ∑ d : Fin 1024, X (ix2 i d) * w (ix2 d l) := by
  unfold k0_pay18
  simp only [shapeCast_self]
  pointwise

/-- A section of the products with the norm of its heads, its own square kept in two parts. -/
theorem norm_apply (X : FVec Ideal S256x1024 .bf16) (u : FVec Ideal S128x128 .bf16) (w : Vec Ideal S1024x128 .bf16) (γ : Vec Ideal S1x128 .f32)
    (hu : IsHalves u) (i : Fin 256) (L : ℕ → EReal) (a : ℕ) (ha : a % 64 = 0) (hL : ∀ k : Fin 128, k0_pay18 (F := Ideal) X w (ix2 i k) = L (a + k.val)) (hr : ∀ n, ∃ r : ℝ, L n = (r : EReal)) (l : Fin 128) :
    k0_pay17 (F := Ideal) X u w γ (ix2 i l) = headn L (γ (ix2 (0 : Fin 1) l)) (a + l.val) := by
  have e : k0_pay17 (F := Ideal) X u w γ (ix2 i l) = k0_pay18 (F := Ideal) X w (ix2 i l)
      * Ideal.rsqrt ((∑ k : Fin 128, (k0_pay18 (F := Ideal) X w (ix2 i k) * k0_pay18 (F := Ideal) X w (ix2 i k)) * u (ix2 k l)
        + ∑ k : Fin 128, (k0_pay18 (F := Ideal) X w (ix2 i k) * k0_pay18 (F := Ideal) X w (ix2 i k) - k0_pay18 (F := Ideal) X w (ix2 i k) * k0_pay18 (F := Ideal) X w (ix2 i k)) * u (ix2 k l))
          * Ideal.ofBits .f32 0x3C800000#32 + eps) * γ (ix2 (0 : Fin 1) l) := by
    unfold k0_pay17
    simp only [shapeCast_self]
    pointwise
    simp only [sect_apply]
  have hz : ∀ n, L n * L n - L n * L n = 0 := fun n => by
    obtain ⟨r, h⟩ := hr n
    rw [h, ← EReal.coe_mul, ← EReal.coe_sub, sub_self, EReal.coe_zero]
  rw [e]
  unfold headn
  simp only [hL, hz, zero_mul, Finset.sum_const_zero, add_zero, hu _ _, div_64]
  rw [sum_half (fun k => L (a + k) * L (a + k)) l]
  have hn : ∀ k : Fin 64, a + (64 * (l.val / 64) + k.val) = 64 * ((a + l.val) / 64) + k.val := fun k => by omega
  simp only [hn]

/-- The same section scaled. -/
theorem query_apply (X : FVec Ideal S256x1024 .bf16) (u : FVec Ideal S128x128 .bf16) (w : Vec Ideal S1024x128 .bf16) (γ : Vec Ideal S1x128 .f32) (i : Fin 256) (l : Fin 128) :
    k0_pay14 (F := Ideal) X u w γ (ix2 i l) = k0_pay17 (F := Ideal) X u w γ (ix2 i l) * scale := rfl

/-- A section scaled. -/
theorem scaled_apply (X : FVec Ideal S256x1024 .bf16) (w : Vec Ideal S1024x128 .bf16) (i : Fin 256) (l : Fin 128) :
    k0_pay34 (F := Ideal) X w (ix2 i l) = k0_pay18 (F := Ideal) X w (ix2 i l) * scale := rfl

/-- A section's gates. -/
theorem gate_apply (X : FVec Ideal S256x1024 .bf16) (w : Vec Ideal S1024x128 .bf16) (i : Fin 256) (l : Fin 128) :
    k0_pay46 (F := Ideal) X w (ix2 i l) = silu (k0_pay18 (F := Ideal) X w (ix2 i l)) := rfl

/-- A section's shares. -/
theorem share_apply (X : FVec Ideal S256x1024 .bf16) (w : Vec Ideal S1024x128 .bf16) (i : Fin 256) (l : Fin 128) :
    k0_pay1 (F := Ideal) X w (ix2 i l) = Ideal.logistic (k0_pay18 (F := Ideal) X w (ix2 i l)) := rfl

/-- The lanes of the first half. -/
theorem mask_apply (i : Fin 256) (l : Fin 128) : k0_pay4 (ix2 i l) = BitVec.ofBool (decide (l.val < 64)) := by
  have h : ∀ l : Fin 128, IntOp.cmpi CmpIPredicate.slt (BitVec.ofNat 32 l.val) 64#32 = BitVec.ofBool (decide (l.val < 64)) := by decide +kernel
  unfold k0_pay4
  pointwise
  exact h l

/-- The values beside ones, the first head. -/
theorem beside0_apply (T : FVec Ideal S256x128 .f32) (i : Fin 256) (l : Fin 128) :
    k0_pay21 (F := Ideal) k0_pay4 T (ix2 i l) = if l.val < 64 then T (ix2 i l) else 1 := by
  show Scalar.select (k0_pay4 (ix2 i l)) (T (ix2 i l)) (Ideal.ofBits .f32 0x3F800000#32) = _
  rw [mask_apply, Ideal.ofBits_one_f32]
  by_cases h : l.val < 64 <;> simp [h, Scalar.select]

/-- The values beside ones, the second head. -/
theorem beside1_apply (T : FVec Ideal S256x128 .f32) (i : Fin 256) (l : Fin 128) :
    k0_pay22 (F := Ideal) k0_pay4 T (ix2 i l) = if l.val < 64 then 1 else T (ix2 i l) := by
  show Scalar.select (k0_pay4 (ix2 i l)) (Ideal.ofBits .f32 0x3F800000#32) (T (ix2 i l)) = _
  rw [mask_apply, Ideal.ofBits_one_f32]
  by_cases h : l.val < 64 <;> simp [h, Scalar.select]

end Cert.Proof.PJ

end
-- ==== Proof.Proj.Block.lean ====
/-
  The blocks a grid point of the projection call leaves, each read at an entry as a function of the row's products.
-/
module

public import proofs.«01_k».proof.Proof.Proj.Pay
public import Idealize.ShloMosaic.Lib.Pipeline.Value
public import Idealize.ShloMosaic.Lib.Pipeline.ValueKit.Tiles

@[expose] public section

set_option maxRecDepth 16384

noncomputable section

namespace Cert.Proof.PJ

open Cert.Kernel2Ideal Cert.Kernel2Ideal.Gen
open Idealize.ShloMosaic
open Idealize.ShloMosaic.TcCoe

/-! A block stored in column sections of 128. -/

theorem piece_at {e : EltTy} {n : ℕ} (a : ℕ) (inb) (P : Vec Ideal S256x128 e) (G : Fin 256 → ℕ → Elt Ideal e)
    (h : ∀ (i : Fin 256) (l : Fin 128), P (ix2 i l) = G i (a + l.val)) (x : S256x128.Idx) :
    P x = (fun y : (⟨2, ![256, n]⟩ : Shape).Idx => G (y 0) (y 1).val) ((Rect.unit (s := ⟨2, ![256, n]⟩) ![0, a] S256x128.size inb).emb x) := by
  have hx := h (x 0) (x 1)
  rw [← eq_ix2 (n0 := 256) (n1 := 128) x] at hx
  refine hx.trans ?_
  show G (x 0) (a + (x 1).val) = G ⟨0 + 1 * (x 0).val, _⟩ (a + 1 * (x 1).val)
  congr 1
  · exact Fin.ext (by show (x 0).val = 0 + 1 * (x 0).val; omega)
  · omega

theorem canon1 {e : EltTy} (P0 : Vec Ideal S256x128 e) (G : Fin 256 → ℕ → Elt Ideal e) (h0 : ∀ (i : Fin 256) (l : Fin 128), P0 (ix2 i l) = G i (0 + l.val))
    (i : Fin 256) (y : Fin 128) : View.canon (Val := Elt Ideal) (e := e) [⟨r0_18, P0⟩] (ix2 i y) = G i y.val :=
  View.canon_apply_of_pieces (Val := Elt Ideal) (e := e) (fun y : S256x128.Idx => G (y 0) (y 1).val) [⟨r0_18, P0⟩]
    (fun p hp => by rcases List.mem_cons.1 hp with rfl | hp
                    · exact piece_at 0 inb_S256x128_S256x128_0_0 P0 G h0
                    · cases hp)
    (ix2 i y) (View.cover_of_tiled (Val := Elt Ideal) (e := e) [⟨r0_18, P0⟩] S256x128.size (by rfl) (ix2 i y))

theorem canon2 {e : EltTy} (P0 P1 : Vec Ideal S256x128 e) (G : Fin 256 → ℕ → Elt Ideal e) (h0 : ∀ (i : Fin 256) (l : Fin 128), P0 (ix2 i l) = G i (0 + l.val))
    (h1 : ∀ (i : Fin 256) (l : Fin 128), P1 (ix2 i l) = G i (128 + l.val))
    (i : Fin 256) (y : Fin 256) : View.canon (Val := Elt Ideal) (e := e) [⟨r0_15, P1⟩, ⟨r0_13, P0⟩] (ix2 i y) = G i y.val :=
  View.canon_apply_of_pieces (Val := Elt Ideal) (e := e) (fun y : S256x256.Idx => G (y 0) (y 1).val) [⟨r0_15, P1⟩, ⟨r0_13, P0⟩]
    (fun p hp => by
      rcases List.mem_cons.1 hp with rfl | hp
      · exact piece_at 128 inb_S256x256_S256x128_0_128 P1 G h1
      rcases List.mem_cons.1 hp with rfl | hp
      · exact piece_at 0 inb_S256x256_S256x128_0_0 P0 G h0
      cases hp)
    (ix2 i y) (View.cover_of_tiled (Val := Elt Ideal) (e := e) [⟨r0_15, P1⟩, ⟨r0_13, P0⟩] S256x128.size (by rfl) (ix2 i y))

theorem canon4 {e : EltTy} (P0 P1 P2 P3 : Vec Ideal S256x128 e) (G : Fin 256 → ℕ → Elt Ideal e) (h0 : ∀ (i : Fin 256) (l : Fin 128), P0 (ix2 i l) = G i (0 + l.val))
    (h1 : ∀ (i : Fin 256) (l : Fin 128), P1 (ix2 i l) = G i (128 + l.val)) (h2 : ∀ (i : Fin 256) (l : Fin 128), P2 (ix2 i l) = G i (256 + l.val))
    (h3 : ∀ (i : Fin 256) (l : Fin 128), P3 (ix2 i l) = G i (384 + l.val)) (L : List (View.Piece (Elt Ideal) S256x512 e))
    (hL : ∀ p ∈ L, p ∈ ([⟨r0_11, P3⟩, ⟨r0_9, P2⟩, ⟨r0_7, P1⟩, ⟨r0_5, P0⟩] : List (View.Piece (Elt Ideal) S256x512 e)))
    (cover : ∀ y : S256x512.Idx, ∃ p ∈ L, y ∈ p.1.set) (i : Fin 256) (y : Fin 512) : View.canon L (ix2 i y) = G i y.val :=
  View.canon_apply_of_pieces (Val := Elt Ideal) (e := e) (fun y : S256x512.Idx => G (y 0) (y 1).val) L
    (fun p hp => by
      rcases List.mem_cons.1 (hL p hp) with rfl | hp
      · exact piece_at 384 inb_S256x512_S256x128_0_384 P3 G h3
      rcases List.mem_cons.1 hp with rfl | hp
      · exact piece_at 256 inb_S256x512_S256x128_0_256 P2 G h2
      rcases List.mem_cons.1 hp with rfl | hp
      · exact piece_at 128 inb_S256x512_S256x128_0_128 P1 G h1
      rcases List.mem_cons.1 hp with rfl | hp
      · exact piece_at 0 inb_S256x512_S256x128_0_0 P0 G h0
      cases hp)
    (ix2 i y) (cover (ix2 i y))

section Blocks

variable (x0 : Vec Ideal S256x1024 .f32) (x1 : Vec Ideal S1x1024 .f32) (x2 : Vec Ideal S1024x3456 .bf16) (x3 x4 x5 : Vec Ideal S1x128 .f32) (x6 : Vec Ideal S128x128 .bf16)

/-- The products of row `i` of the block. -/
def row (i : Fin 256) : ℕ → EReal := proj (fun k => x0 (ix2 i k)) (fun k => x1 (ix2 (0 : Fin 1) k)) x2

/-- The gains by lane. -/
def lanes (γ : Vec Ideal S1x128 .f32) (l : ℕ) : EReal := γ (ix2 (0 : Fin 1) (⟨l % 128, Nat.mod_lt _ (by decide)⟩ : Fin 128))

theorem lanes_lane (γ : Vec Ideal S1x128 .f32) (l : Fin 128) : γ (ix2 (0 : Fin 1) l) = lanes γ l.val :=
  congrArg (fun j => γ (ix2 (0 : Fin 1) j)) (Fin.ext (Nat.mod_eq_of_lt l.isLt).symm)

/-- A column section of the products is the rows' products from the section's first column on. -/
theorem sect_row (a : ℕ) (ha : a + 128 ≤ 3456) (inb) (i : Fin 256) (l : Fin 128) :
    k0_pay18 (F := Ideal) (k0_pay50 x0 x1 x2 x3 x4 x5 x6) (View.ld x2 (Rect.unit (s := S1024x3456) ![0, a] S1024x128.size inb)) (ix2 i l) = row x0 x1 x2 i (a + l.val) := by
  rw [sect_apply]
  unfold row proj
  refine Finset.sum_congr rfl fun d _ => congrArg₂ (· * ·) ?_ ?_
  · unfold k0_pay50
    rw [View.ld_unit_lit inb_S256x1024_S256x1024_0_0 x0 (by decide), View.ld_unit_lit inb_S1x1024_S1x1024_0_0 x1 (by decide)]
    exact rows_apply x0 x1 i d
  · refine View.ld_unit_apply_of x2 _ _ _ _ _ fun b => ?_
    have hl := l.isLt
    fin_cases b
    · show d.val = 0 + d.val
      omega
    · show (a + l.val) % 3456 = a + l.val
      exact Nat.mod_eq_of_lt (by omega)

variable (hu : IsHalves x6) (hr : ∀ i n, ∃ r : ℝ, row x0 x1 x2 i n = (r : EReal))
include hu hr

/-- A section with its heads' norm. -/
theorem norm_row (γ : Vec Ideal S1x128 .f32) (a : ℕ) (h64 : a % 64 = 0) (ha : a + 128 ≤ 3456) (inb) (i : Fin 256) (l : Fin 128) :
    k0_pay17 (F := Ideal) (k0_pay50 x0 x1 x2 x3 x4 x5 x6) (k0_pay51 x0 x1 x2 x3 x4 x5 x6)
        (View.ld x2 (Rect.unit (s := S1024x3456) ![0, a] S1024x128.size inb)) (View.ld γ r0_4) (ix2 i l)
      = headn (row x0 x1 x2 i) (lanes γ l.val) (a + l.val) := by
  have h51 : k0_pay51 x0 x1 x2 x3 x4 x5 x6 = x6 := by
    unfold k0_pay51 k0_pay3
    rw [View.ld_unit_lit inb_S128x128_S128x128_0_0 x6 (by decide)]
    exact shapeCast_self x6 _
  rw [h51, View.ld_unit_lit inb_S1x128_S1x128_0_0 γ (by decide), ← lanes_lane]
  exact norm_apply _ _ _ _ hu i (row x0 x1 x2 i) a h64 (sect_row x0 x1 x2 x3 x4 x5 x6 a ha inb i) (hr i) l

end Blocks

end Cert.Proof.PJ

end
-- ==== Proof.Proj.Outs.lean ====
/-
  The fifteen blocks a grid point of the projection call leaves, entry by entry.
-/
module

public import proofs.«01_k».proof.Proof.Proj.Block

@[expose] public section

set_option maxRecDepth 16384

noncomputable section

namespace Cert.Proof.PJ

open Cert.Kernel2Ideal Cert.Kernel2Ideal.Gen
open Idealize.ShloMosaic
open Idealize.ShloMosaic.TcCoe

variable (x0 : Vec Ideal S256x1024 .f32) (x1 : Vec Ideal S1x1024 .f32) (x2 : Vec Ideal S1024x3456 .bf16) (x3 x4 x5 : Vec Ideal S1x128 .f32) (x6 : Vec Ideal S128x128 .bf16)

/-! ## The blocks without a norm -/

/-- A section as it is, starting `b` columns into an output that starts at column `a` of the products. -/
theorem raw_at (a b : ℕ) (h : a + b + 128 ≤ 3456) (inb) (i : Fin 256) (l : Fin 128) :
    k0_pay18 (F := Ideal) (k0_pay50 x0 x1 x2 x3 x4 x5 x6) (View.ld x2 (Rect.unit (s := S1024x3456) ![0, a + b] S1024x128.size inb)) (ix2 i l)
      = oRaw a (row x0 x1 x2 i) (b + l.val) :=
  (sect_row x0 x1 x2 x3 x4 x5 x6 (a + b) h inb i l).trans (congrArg (row x0 x1 x2 i) (Nat.add_assoc a b l.val))

/-- A section scaled. -/
theorem scaled_at (a b : ℕ) (h : a + b + 128 ≤ 3456) (inb) (i : Fin 256) (l : Fin 128) :
    k0_pay34 (F := Ideal) (k0_pay50 x0 x1 x2 x3 x4 x5 x6) (View.ld x2 (Rect.unit (s := S1024x3456) ![0, a + b] S1024x128.size inb)) (ix2 i l)
      = oScaled a (row x0 x1 x2 i) (b + l.val) :=
  congrArg (· * scale) (raw_at x0 x1 x2 x3 x4 x5 x6 a b h inb i l)

/-- A section's gates. -/
theorem gate_at (a b : ℕ) (h : a + b + 128 ≤ 3456) (inb) (i : Fin 256) (l : Fin 128) :
    k0_pay46 (F := Ideal) (k0_pay50 x0 x1 x2 x3 x4 x5 x6) (View.ld x2 (Rect.unit (s := S1024x3456) ![0, a + b] S1024x128.size inb)) (ix2 i l)
      = oGate a (row x0 x1 x2 i) (b + l.val) :=
  (gate_apply _ _ i l).trans (congrArg silu (raw_at x0 x1 x2 x3 x4 x5 x6 a b h inb i l))

/-- A section's values, with ones in place of the second half. -/
theorem beside0_at (a : ℕ) (h : a + 128 ≤ 3456) (inb) (i : Fin 256) (l : Fin 128) :
    k0_pay21 (F := Ideal) k0_pay4 (k0_pay18 (F := Ideal) (k0_pay50 x0 x1 x2 x3 x4 x5 x6) (View.ld x2 (Rect.unit (s := S1024x3456) ![0, a] S1024x128.size inb))) (ix2 i l)
      = oBeside a (row x0 x1 x2 i) (0 + l.val) := by
  rw [beside0_apply, sect_row x0 x1 x2 x3 x4 x5 x6 a h inb i l, Nat.zero_add]
  have hl := l.isLt
  unfold oBeside
  by_cases h6 : l.val < 64
  · rw [if_pos h6, if_pos h6]
  · rw [if_neg h6, if_neg h6, if_pos (by omega)]

/-- A section's values, with ones in place of the first half. -/
theorem beside1_at (a : ℕ) (h : a + 128 ≤ 3456) (inb) (i : Fin 256) (l : Fin 128) :
    k0_pay22 (F := Ideal) k0_pay4 (k0_pay18 (F := Ideal) (k0_pay50 x0 x1 x2 x3 x4 x5 x6) (View.ld x2 (Rect.unit (s := S1024x3456) ![0, a] S1024x128.size inb))) (ix2 i l)
      = oBeside a (row x0 x1 x2 i) (128 + l.val) := by
  rw [beside1_apply, sect_row x0 x1 x2 x3 x4 x5 x6 a h inb i l]
  have hl := l.isLt
  unfold oBeside
  rw [if_neg (show ¬ 128 + l.val < 64 by omega)]
  by_cases h6 : l.val < 64
  · rw [if_pos h6, if_pos (by omega)]
  · rw [if_neg h6, if_neg (by omega), Nat.add_sub_cancel_left]

theorem cmp_block (i : Fin 256) (y : Fin 256) : out0_8 x0 x1 x2 x3 x4 x5 x6 (ix2 i y) = oRaw 512 (row x0 x1 x2 i) y.val :=
  canon2 (e := .f32) _ _ (fun i => oRaw 512 (row x0 x1 x2 i))
    (raw_at x0 x1 x2 x3 x4 x5 x6 512 0 (by decide) inb_S1024x3456_S1024x128_0_512)
    (raw_at x0 x1 x2 x3 x4 x5 x6 512 128 (by decide) inb_S1024x3456_S1024x128_0_640) i y

theorem slcV_block (i : Fin 256) (y : Fin 256) : out0_12 x0 x1 x2 x3 x4 x5 x6 (ix2 i y) = oBeside 896 (row x0 x1 x2 i) y.val :=
  canon2 (e := .bf16) _ _ (fun i => oBeside 896 (row x0 x1 x2 i))
    (beside0_at x0 x1 x2 x3 x4 x5 x6 896 (by decide) inb_S1024x3456_S1024x128_0_896)
    (beside1_at x0 x1 x2 x3 x4 x5 x6 896 (by decide) inb_S1024x3456_S1024x128_0_896) i y

theorem winV_block (i : Fin 256) (y : Fin 256) : out0_14 x0 x1 x2 x3 x4 x5 x6 (ix2 i y) = oBeside 1152 (row x0 x1 x2 i) y.val :=
  canon2 (e := .bf16) _ _ (fun i => oBeside 1152 (row x0 x1 x2 i))
    (beside0_at x0 x1 x2 x3 x4 x5 x6 1152 (by decide) inb_S1024x3456_S1024x128_0_1152)
    (beside1_at x0 x1 x2 x3 x4 x5 x6 1152 (by decide) inb_S1024x3456_S1024x128_0_1152) i y

theorem share_block (i : Fin 256) (y : Fin 128) : out0_15 x0 x1 x2 x3 x4 x5 x6 (ix2 i y) = oShare 3328 (row x0 x1 x2 i) y.val :=
  canon1 (e := .f32) _ (fun i => oShare 3328 (row x0 x1 x2 i))
    (fun i l => (share_apply _ _ i l).trans (congrArg Ideal.logistic (raw_at x0 x1 x2 x3 x4 x5 x6 3328 0 (by decide) inb_S1024x3456_S1024x128_0_3328 i l))) i y

theorem gateA_block (i : Fin 256) (y : Fin 512) : out0_16 x0 x1 x2 x3 x4 x5 x6 (ix2 i y) = oGate 1280 (row x0 x1 x2 i) y.val :=
  canon4 (e := .f32) _ _ _ _ (fun i => oGate 1280 (row x0 x1 x2 i))
    (gate_at x0 x1 x2 x3 x4 x5 x6 1280 0 (by decide) inb_S1024x3456_S1024x128_0_1280)
    (gate_at x0 x1 x2 x3 x4 x5 x6 1280 128 (by decide) inb_S1024x3456_S1024x128_0_1408)
    (gate_at x0 x1 x2 x3 x4 x5 x6 1280 256 (by decide) inb_S1024x3456_S1024x128_0_1536)
    (gate_at x0 x1 x2 x3 x4 x5 x6 1280 384 (by decide) inb_S1024x3456_S1024x128_0_1664) _ (fun p hp => hp) (cover0_16 _ _ _ _) i y

theorem sbQuery_block (i : Fin 256) (y : Fin 512) : out0_17 x0 x1 x2 x3 x4 x5 x6 (ix2 i y) = oScaled 1792 (row x0 x1 x2 i) y.val :=
  canon4 (e := .bf16) _ _ _ _ (fun i => oScaled 1792 (row x0 x1 x2 i))
    (scaled_at x0 x1 x2 x3 x4 x5 x6 1792 0 (by decide) inb_S1024x3456_S1024x128_0_1792)
    (scaled_at x0 x1 x2 x3 x4 x5 x6 1792 128 (by decide) inb_S1024x3456_S1024x128_0_1920)
    (scaled_at x0 x1 x2 x3 x4 x5 x6 1792 256 (by decide) inb_S1024x3456_S1024x128_0_2048)
    (scaled_at x0 x1 x2 x3 x4 x5 x6 1792 384 (by decide) inb_S1024x3456_S1024x128_0_2176) _ (fun p hp => hp) (cover0_17 _ _ _ _) i y

theorem sb_block (i : Fin 256) (y : Fin 512) : out0_18 x0 x1 x2 x3 x4 x5 x6 (ix2 i y) = oRaw 2304 (row x0 x1 x2 i) y.val :=
  canon4 (e := .f32) _ _ _ _ (fun i => oRaw 2304 (row x0 x1 x2 i))
    (raw_at x0 x1 x2 x3 x4 x5 x6 2304 0 (by decide) inb_S1024x3456_S1024x128_0_2304)
    (raw_at x0 x1 x2 x3 x4 x5 x6 2304 128 (by decide) inb_S1024x3456_S1024x128_0_2432)
    (raw_at x0 x1 x2 x3 x4 x5 x6 2304 256 (by decide) inb_S1024x3456_S1024x128_0_2560)
    (raw_at x0 x1 x2 x3 x4 x5 x6 2304 384 (by decide) inb_S1024x3456_S1024x128_0_2688) _
    (fun p hp => by
      rcases List.mem_cons.1 hp with h | hp
      · exact List.mem_cons.2 (Or.inl h)
      rcases List.mem_cons.1 hp with h | hp
      · exact List.mem_cons_of_mem _ (List.mem_cons_of_mem _ (List.mem_cons.2 (Or.inl h)))
      rcases List.mem_cons.1 hp with h | hp
      · exact List.mem_cons_of_mem _ (List.mem_cons.2 (Or.inl h))
      exact List.mem_cons_of_mem _ (List.mem_cons_of_mem _ (List.mem_cons_of_mem _ hp))) (cover0_18 _ _ _ _) i y

theorem sbK_block (i : Fin 256) (y : Fin 256) : out0_19 x0 x1 x2 x3 x4 x5 x6 (ix2 i y) = oRaw 2304 (row x0 x1 x2 i) y.val :=
  canon2 (e := .bf16) _ _ (fun i => oRaw 2304 (row x0 x1 x2 i))
    (raw_at x0 x1 x2 x3 x4 x5 x6 2304 0 (by decide) inb_S1024x3456_S1024x128_0_2304)
    (raw_at x0 x1 x2 x3 x4 x5 x6 2304 128 (by decide) inb_S1024x3456_S1024x128_0_2432) i y

theorem sbV_block (i : Fin 256) (y : Fin 256) : out0_20 x0 x1 x2 x3 x4 x5 x6 (ix2 i y) = oRaw 2560 (row x0 x1 x2 i) y.val :=
  canon2 (e := .bf16) _ _ (fun i => oRaw 2560 (row x0 x1 x2 i))
    (raw_at x0 x1 x2 x3 x4 x5 x6 2560 0 (by decide) inb_S1024x3456_S1024x128_0_2560)
    (raw_at x0 x1 x2 x3 x4 x5 x6 2560 128 (by decide) inb_S1024x3456_S1024x128_0_2688) i y

theorem gateB_block (i : Fin 256) (y : Fin 512) : out0_21 x0 x1 x2 x3 x4 x5 x6 (ix2 i y) = oGate 2816 (row x0 x1 x2 i) y.val :=
  canon4 (e := .f32) _ _ _ _ (fun i => oGate 2816 (row x0 x1 x2 i))
    (gate_at x0 x1 x2 x3 x4 x5 x6 2816 0 (by decide) inb_S1024x3456_S1024x128_0_2816)
    (gate_at x0 x1 x2 x3 x4 x5 x6 2816 128 (by decide) inb_S1024x3456_S1024x128_0_2944)
    (gate_at x0 x1 x2 x3 x4 x5 x6 2816 256 (by decide) inb_S1024x3456_S1024x128_0_3072)
    (gate_at x0 x1 x2 x3 x4 x5 x6 2816 384 (by decide) inb_S1024x3456_S1024x128_0_3200) _ (fun p hp => hp) (cover0_21 _ _ _ _) i y

/-! ## The blocks with a norm -/

section

variable (hu : IsHalves x6) (hr : ∀ i n, ∃ r : ℝ, row x0 x1 x2 i n = (r : EReal))
include hu hr

/-- A part of the queries: a gain of the wrapped lane. -/
theorem query_at (q : ℕ → EReal) (hq : ∀ n, q (n % 128) = q n) (hx : ∀ l : Fin 128, lanes x3 l.val = q l.val) (b : ℕ) (hb : b % 128 = 0) (h : b + 128 ≤ 3456) (inb) (i : Fin 256) (l : Fin 128) :
    k0_pay14 (F := Ideal) (k0_pay50 x0 x1 x2 x3 x4 x5 x6) (k0_pay51 x0 x1 x2 x3 x4 x5 x6)
        (View.ld x2 (Rect.unit (s := S1024x3456) ![0, b] S1024x128.size inb)) (View.ld x3 r0_4) (ix2 i l)
      = oQuery (row x0 x1 x2 i) q (b + l.val) := by
  have e : q l.val = q (b + l.val) := by
    rw [← hq (b + l.val), show (b + l.val) % 128 = l.val by have := l.isLt; omega]
  rw [query_apply, norm_row x0 x1 x2 x3 x4 x5 x6 hu hr x3 b (by omega) h inb i l, hx, e]
  rfl

theorem query_block (q : ℕ → EReal) (hq : ∀ n, q (n % 128) = q n) (hx : ∀ l : Fin 128, lanes x3 l.val = q l.val) (i : Fin 256) (y : Fin 512) :
    out0_7 x0 x1 x2 x3 x4 x5 x6 (ix2 i y) = oQuery (row x0 x1 x2 i) q y.val :=
  canon4 (e := .bf16) _ _ _ _ (fun i => oQuery (row x0 x1 x2 i) q)
    (query_at x0 x1 x2 x3 x4 x5 x6 hu hr q hq hx 0 (by decide) (by decide) inb_S1024x3456_S1024x128_0_0)
    (query_at x0 x1 x2 x3 x4 x5 x6 hu hr q hq hx 128 (by decide) (by decide) inb_S1024x3456_S1024x128_0_128)
    (query_at x0 x1 x2 x3 x4 x5 x6 hu hr q hq hx 256 (by decide) (by decide) inb_S1024x3456_S1024x128_0_256)
    (query_at x0 x1 x2 x3 x4 x5 x6 hu hr q hq hx 384 (by decide) (by decide) inb_S1024x3456_S1024x128_0_384) _ (fun p hp => hp) (cover0_7 _ _ _ _) i y

/-- The keys' section. -/
theorem head_at (γ : Vec Ideal S1x128 .f32) (q : ℕ → EReal) (hx : ∀ l : Fin 128, lanes γ l.val = q l.val) (a : ℕ) (h64 : a % 64 = 0) (h : a + 128 ≤ 3456) (inb) (i : Fin 256) (l : Fin 128) :
    k0_pay17 (F := Ideal) (k0_pay50 x0 x1 x2 x3 x4 x5 x6) (k0_pay51 x0 x1 x2 x3 x4 x5 x6)
        (View.ld x2 (Rect.unit (s := S1024x3456) ![0, a] S1024x128.size inb)) (View.ld γ r0_4) (ix2 i l)
      = oHead a (row x0 x1 x2 i) q (0 + l.val) := by
  rw [norm_row x0 x1 x2 x3 x4 x5 x6 hu hr γ a h64 h inb i l, hx, Nat.zero_add]
  rfl

/-- The keys' section as the first half of keys beside values. -/
theorem pair0_at (γ : Vec Ideal S1x128 .f32) (q : ℕ → EReal) (hx : ∀ l : Fin 128, lanes γ l.val = q l.val) (a : ℕ) (h64 : a % 64 = 0) (h : a + 128 ≤ 3456) (inb) (i : Fin 256) (l : Fin 128) :
    k0_pay17 (F := Ideal) (k0_pay50 x0 x1 x2 x3 x4 x5 x6) (k0_pay51 x0 x1 x2 x3 x4 x5 x6)
        (View.ld x2 (Rect.unit (s := S1024x3456) ![0, a] S1024x128.size inb)) (View.ld γ r0_4) (ix2 i l)
      = oPair a (row x0 x1 x2 i) q (0 + l.val) :=
  (head_at x0 x1 x2 x3 x4 x5 x6 hu hr γ q hx a h64 h inb i l).trans (if_pos (show 0 + l.val < 128 by have := l.isLt; omega)).symm

omit hu hr in
/-- The values' section as the second half. -/
theorem pair1_at (q : ℕ → EReal) (a : ℕ) (h : a + 128 + 128 ≤ 3456) (inb) (i : Fin 256) (l : Fin 128) :
    k0_pay18 (F := Ideal) (k0_pay50 x0 x1 x2 x3 x4 x5 x6) (View.ld x2 (Rect.unit (s := S1024x3456) ![0, a + 128] S1024x128.size inb)) (ix2 i l)
      = oPair a (row x0 x1 x2 i) q (128 + l.val) :=
  (raw_at x0 x1 x2 x3 x4 x5 x6 a 128 h inb i l).trans (if_neg (show ¬ 128 + l.val < 128 by omega)).symm

theorem slc_block (q : ℕ → EReal) (hx : ∀ l : Fin 128, lanes x4 l.val = q l.val) (i : Fin 256) (y : Fin 256) :
    out0_9 x0 x1 x2 x3 x4 x5 x6 (ix2 i y) = oPair 768 (row x0 x1 x2 i) q y.val :=
  canon2 (e := .f32) _ _ (fun i => oPair 768 (row x0 x1 x2 i) q)
    (pair0_at x0 x1 x2 x3 x4 x5 x6 hu hr x4 q hx 768 (by decide) (by decide) inb_S1024x3456_S1024x128_0_768)
    (pair1_at x0 x1 x2 x3 x4 x5 x6 q 768 (by decide) inb_S1024x3456_S1024x128_0_896) i y

theorem win_block (q : ℕ → EReal) (hx : ∀ l : Fin 128, lanes x5 l.val = q l.val) (i : Fin 256) (y : Fin 256) :
    out0_10 x0 x1 x2 x3 x4 x5 x6 (ix2 i y) = oPair 1024 (row x0 x1 x2 i) q y.val :=
  canon2 (e := .f32) _ _ (fun i => oPair 1024 (row x0 x1 x2 i) q)
    (pair0_at x0 x1 x2 x3 x4 x5 x6 hu hr x5 q hx 1024 (by decide) (by decide) inb_S1024x3456_S1024x128_0_1024)
    (pair1_at x0 x1 x2 x3 x4 x5 x6 q 1024 (by decide) inb_S1024x3456_S1024x128_0_1152) i y

theorem slcK_block (q : ℕ → EReal) (hx : ∀ l : Fin 128, lanes x4 l.val = q l.val) (i : Fin 256) (y : Fin 128) :
    out0_11 x0 x1 x2 x3 x4 x5 x6 (ix2 i y) = oHead 768 (row x0 x1 x2 i) q y.val :=
  canon1 (e := .bf16) _ (fun i => oHead 768 (row x0 x1 x2 i) q)
    (head_at x0 x1 x2 x3 x4 x5 x6 hu hr x4 q hx 768 (by decide) (by decide) inb_S1024x3456_S1024x128_0_768) i y

theorem winK_block (q : ℕ → EReal) (hx : ∀ l : Fin 128, lanes x5 l.val = q l.val) (i : Fin 256) (y : Fin 128) :
    out0_13 x0 x1 x2 x3 x4 x5 x6 (ix2 i y) = oHead 1024 (row x0 x1 x2 i) q y.val :=
  canon1 (e := .bf16) _ (fun i => oHead 1024 (row x0 x1 x2 i) q)
    (head_at x0 x1 x2 x3 x4 x5 x6 hu hr x5 q hx 1024 (by decide) (by decide) inb_S1024x3456_S1024x128_0_1024) i y

end

end Cert.Proof.PJ

end
-- ==== Proof.Proj.Tower.lean ====
/-
  The reference's host operations for any number `n` of rows, each read at an entry.
-/
module

public import proofs.«01_k».proof.Proof.Proj.Spec
public import Idealize.ShloMosaic.Lib.Pointwise
public import Idealize.ShloMosaic.Lib.IdealHost
public import Idealize.ShloMosaic.PureOps.Ideal.Laws

@[expose] public section

set_option maxRecDepth 16384

noncomputable section

namespace Cert.Proof.PJ.Host

open Idealize.ShloMosaic
open Idealize.ShloMosaic.TcCoe

/-- Matrices, and matrices of heads. -/
abbrev M2 (n k : ℕ) : Shape := ⟨2, ![n, k]⟩
abbrev M3 (n k l : ℕ) : Shape := ⟨3, ![n, k, l]⟩
abbrev M1 (n : ℕ) : Shape := ⟨1, ![n]⟩
abbrev M0 : Shape := ⟨0, ![]⟩

/-- The array that holds `o` of a token's products, by column. -/
def results {n k : ℕ} (f : FTy) (o : (ℕ → EReal) → ℕ → EReal) (x : FVec Ideal (M2 n 1024) .f32) (g : FVec Ideal (M1 1024) .f32) (w : FVec Ideal (M2 1024 3456) .bf16) : FVec Ideal (M2 n k) f :=
  fun j => o (proj (fun d => x (ix2 (j 0 : Fin n) d)) (fun d => g (ix1 d)) w) (j 1).val

/-- Two arrays agree when every row is a row of one grid point's block of 256 and the blocks agree. -/
theorem array_ext {n : ℕ} {T : Type} {k : ℕ} {α : Type} (A B : (M2 n k).Idx → α) (row : T → Fin 256 → Fin n) (hrow : ∀ r, ∃ t i, row t i = r) (E : T → (M2 256 k).Idx → (M2 n k).Idx)
    (hE : ∀ t i y, E t (ix2 i y) = ix2 (row t i) y) (out : T → (M2 256 k).Idx → α) (hb : ∀ t j, A (E t j) = out t j) (ho : ∀ t i (y : Fin k), out t (ix2 i y) = B (ix2 (row t i) y)) : A = B := by
  have entries : ∀ (r : Fin n) (y : Fin k), A (ix2 r y) = B (ix2 r y) := fun r y => by
    obtain ⟨t, i, rfl⟩ := hrow r
    exact (congrArg A (hE t i y)).symm.trans ((hb t _).trans (ho t i y))
  funext j
  rw [eq_ix2 (n0 := n) (n1 := k) j]
  exact entries (j 0) (j 1)

variable {n : ℕ} (hn : n ≠ 1)
include hn

/-- The normed rows. -/
def normRows (h0 : 0 < M0.numel) (hred : (M2 n 1024).ReducesTo [1] (M1 n)) (hcol : (M1 n).BroadcastsInDim (M2 n 1) (![0] : Fin 1 → Fin (M2 n 1).rank))
    (hone : M0.BroadcastsInDim (M2 n 1) (![] : Fin 0 → Fin (M2 n 1).rank)) (hwide : (M2 n 1).BroadcastsInDim (M2 n 1024) (![0, 1] : Fin 2 → Fin (M2 n 1024).rank))
    (hrow : (M1 1024).BroadcastsInDim (M2 1 1024) (![1] : Fin 1 → Fin (M2 1 1024).rank)) (hdown : (M2 1 1024).BroadcastsInDim (M2 n 1024) (![0, 1] : Fin 2 → Fin (M2 n 1024).rank))
    (x : FVec Ideal (M2 n 1024) .f32) (g : FVec Ideal (M1 1024) .f32) : FVec Ideal (M2 n 1024) .f32 :=
  mulf (mulf x (broadcastInDim (M2 n 1024) ![0, 1] hwide (Host.rsqrt (addf (Host.divf (broadcastInDim (M2 n 1) ![0] hcol
      (Host.reduceAdd (mulf x x) (constant M0 .f32 0x00000000#32) hred h0)) (broadcastInDim (M2 n 1) ![] hone (constant M0 .f32 0x44800000#32)))
      (broadcastInDim (M2 n 1) ![] hone (constant M0 .f32 0x358637BD#32))))))
    (broadcastInDim (M2 n 1024) ![0, 1] hdown (broadcastInDim (M2 1 1024) ![1] hrow g))

theorem normRows_apply (h0 hred hcol hone hwide hrow hdown) (x : FVec Ideal (M2 n 1024) .f32) (g : FVec Ideal (M1 1024) .f32) (i : Fin n) (d : Fin 1024) :
    normRows h0 hred hcol hone hwide hrow hdown x g (ix2 i d) = normed (fun k => x (ix2 i k)) (fun k => g (ix1 k)) d := by
  pointwise [normRows]
  simp [Shape.Idx.norm, hn, normed]

/-- The contraction of the rows with the weights. -/
def rowsDot (wf : DotDims.WF (M2 n 1024) (M2 1024 3352) (M2 n 3352) [1] [0] [0] [1] [] []) : DotDims (M2 n 1024) (M2 1024 3352) (M2 n 3352) where
  lhsContracting := [1]
  rhsContracting := [0]
  lhsNonContracting := [0]
  rhsNonContracting := [1]
  lhsBatch := []
  rhsBatch := []
  wf := wf

theorem product_apply (wf h0 hred hcol hone hwide hrow hdown) (x : FVec Ideal (M2 n 1024) .f32) (g : FVec Ideal (M1 1024) .f32) (w : FVec Ideal (M2 1024 3352) .f32) (i : Fin n) (k : Fin 3352) :
    Host.dotGeneral (rowsDot wf) none (normRows h0 hred hcol hone hwide hrow hdown x g) w (ix2 i k)
      = ∑ d, normed (fun k => x (ix2 i k)) (fun k => g (ix1 k)) d * w (ix2 d k) := by
  pointwise [rowsDot]
  refine Finset.sum_congr rfl fun d _ => congrArg₂ (· * ·) ((congrArg (normRows h0 hred hcol hone hwide hrow hdown x g) (?_ : _ = ix2 i d)).trans (normRows_apply hn h0 hred hcol hone hwide hrow hdown x g i d)) ?_
  · exact funext fun a => Fin.ext (by fin_cases a <;> rfl)
  exact congrArg w (funext fun a => Fin.ext (by fin_cases a <;> rfl))

omit hn in
theorem split_apply {p c : ℕ} (hc : c = p * 64) (h : (M2 n c).ShapeCasts (M3 n p 64)) (i : Fin n) (a : Fin p) (e : Fin 64) :
    Shape.reshapeEquiv h (ix3 i a e) = ix2 i (⟨a.val * 64 + e.val, by have := a.isLt; have := e.isLt; omega⟩ : Fin c) :=
  Shape.reshapeEquiv_eq_of_rowMajor h (by
    rw [Shape.rowMajor_val_three, Shape.rowMajor_val_two]
    show i.val * c + (a.val * 64 + e.val) = (i.val * p + a.val) * 64 + e.val
    rw [hc]; ring)

omit hn in
theorem join_apply {p c : ℕ} (hc : c = p * 64) (h : (M3 n p 64).ShapeCasts (M2 n c)) (i : Fin n) (y : Fin c) :
    Shape.reshapeEquiv h (ix2 i y) = ix3 i (⟨y.val / 64, by have := y.isLt; omega⟩ : Fin p) (⟨y.val % 64, Nat.mod_lt _ (by decide)⟩ : Fin 64) :=
  Shape.reshapeEquiv_eq_of_rowMajor h (by
    rw [Shape.rowMajor_val_three, Shape.rowMajor_val_two]
    show (i.val * p + y.val / 64) * 64 + y.val % 64 = i.val * c + y.val
    have := Nat.div_add_mod y.val 64
    have e : i.val * c = i.val * p * 64 := by rw [hc, Nat.mul_assoc]
    rw [e, Nat.add_mul]
    omega)

/-- Matrices of heads in two and in three axes. -/
abbrev M4 (n k l m : ℕ) : Shape := ⟨4, ![n, k, l, m]⟩
abbrev M5 (n k l m p : ℕ) : Shape := ⟨5, ![n, k, l, m, p]⟩

/-- The column of eight heads that stands in place `l`: the heads of two groups of four by turns. -/
def turnsA (l : ℕ) : ℕ := 64 * (4 * (l / 64 % 2) + l / 64 / 2) + l % 64
/-- The same for two pairs of pairs of heads: the two inner axes by turns. -/
def turnsB (l : ℕ) : ℕ := 64 * (4 * (l / 64 / 4) + 2 * (l / 64 % 2) + l / 64 / 2 % 2) + l % 64

omit hn in
theorem turnsA_lt {l : ℕ} (h : l < 512) : turnsA l < 512 := by
  unfold turnsA
  omega
omit hn in
theorem turnsB_lt {l : ℕ} (h : l < 512) : turnsB l < 512 := by
  unfold turnsB
  omega

omit hn in
/-- Two groups of four heads by turns. -/
theorem turnsA_apply {α : Type} (h : (M2 n 512).ShapeCasts (M4 n 2 4 64)) (ht : (M4 n 2 4 64).Transposes [0, 2, 1, 3] (M4 n 4 2 64)) (h' : (M4 n 4 2 64).ShapeCasts (M2 n 512))
    (T : (M2 n 512).Idx → α) (i : Fin n) (l : Fin 512) :
    shapeCast (M2 n 512) (transpose (M4 n 4 2 64) [0, 2, 1, 3] (shapeCast (M4 n 2 4 64) T h) ht) h' (ix2 i l) = T (ix2 i (⟨turnsA l.val, turnsA_lt l.isLt⟩ : Fin 512)) := by
  have hl := l.isLt
  have e' : Shape.reshapeEquiv h' (ix2 i l) = ix4 i (⟨l.val / 128, by omega⟩ : Fin 4) (⟨l.val / 64 % 2, by omega⟩ : Fin 2) (⟨l.val % 64, by omega⟩ : Fin 64) :=
    Shape.reshapeEquiv_eq_of_rowMajor h' (by
      rw [Shape.rowMajor_val_two, Shape.rowMajor_val_four]
      show ((i.val * 4 + l.val / 128) * 2 + l.val / 64 % 2) * 64 + l.val % 64 = i.val * 512 + l.val
      omega)
  have e : Shape.reshapeEquiv h (ix4 i (⟨l.val / 64 % 2, by omega⟩ : Fin 2) (⟨l.val / 128, by omega⟩ : Fin 4) (⟨l.val % 64, by omega⟩ : Fin 64)) = ix2 i (⟨turnsA l.val, turnsA_lt l.isLt⟩ : Fin 512) :=
    Shape.reshapeEquiv_eq_of_rowMajor h (by
      rw [Shape.rowMajor_val_two, Shape.rowMajor_val_four]
      show i.val * 512 + turnsA l.val = ((i.val * 2 + l.val / 64 % 2) * 4 + l.val / 128) * 64 + l.val % 64
      unfold turnsA
      omega)
  pointwise
  rw [e']
  refine (congrArg (fun j => T (Shape.reshapeEquiv h j)) (?_ : _ = ix4 i (⟨l.val / 64 % 2, by omega⟩ : Fin 2) (⟨l.val / 128, by omega⟩ : Fin 4) (⟨l.val % 64, by omega⟩ : Fin 64))).trans (congrArg T e)
  exact funext fun a => Fin.ext (by fin_cases a <;> rfl)

omit hn in
/-- Two pairs of pairs of heads, the inner axes by turns. -/
theorem turnsB_apply {α : Type} (h : (M2 n 512).ShapeCasts (M5 n 2 2 2 64)) (ht : (M5 n 2 2 2 64).Transposes [0, 1, 3, 2, 4] (M5 n 2 2 2 64)) (h' : (M5 n 2 2 2 64).ShapeCasts (M2 n 512))
    (T : (M2 n 512).Idx → α) (i : Fin n) (l : Fin 512) :
    shapeCast (M2 n 512) (transpose (M5 n 2 2 2 64) [0, 1, 3, 2, 4] (shapeCast (M5 n 2 2 2 64) T h) ht) h' (ix2 i l) = T (ix2 i (⟨turnsB l.val, turnsB_lt l.isLt⟩ : Fin 512)) := by
  have hl := l.isLt
  have e' : Shape.reshapeEquiv h' (ix2 i l) = ix5 i (⟨l.val / 256, by omega⟩ : Fin 2) (⟨l.val / 128 % 2, by omega⟩ : Fin 2) (⟨l.val / 64 % 2, by omega⟩ : Fin 2) (⟨l.val % 64, by omega⟩ : Fin 64) :=
    Shape.reshapeEquiv_eq_of_rowMajor h' (by
      rw [Shape.rowMajor_val_two, Shape.rowMajor_val_five]
      show (((i.val * 2 + l.val / 256) * 2 + l.val / 128 % 2) * 2 + l.val / 64 % 2) * 64 + l.val % 64 = i.val * 512 + l.val
      omega)
  have e : Shape.reshapeEquiv h (ix5 i (⟨l.val / 256, by omega⟩ : Fin 2) (⟨l.val / 64 % 2, by omega⟩ : Fin 2) (⟨l.val / 128 % 2, by omega⟩ : Fin 2) (⟨l.val % 64, by omega⟩ : Fin 64)) = ix2 i (⟨turnsB l.val, turnsB_lt l.isLt⟩ : Fin 512) :=
    Shape.reshapeEquiv_eq_of_rowMajor h (by
      rw [Shape.rowMajor_val_two, Shape.rowMajor_val_five]
      show i.val * 512 + turnsB l.val = (((i.val * 2 + l.val / 256) * 2 + l.val / 64 % 2) * 2 + l.val / 128 % 2) * 64 + l.val % 64
      unfold turnsB
      omega)
  pointwise
  rw [e']
  refine (congrArg (fun j => T (Shape.reshapeEquiv h j)) (?_ : _ = ix5 i (⟨l.val / 256, by omega⟩ : Fin 2) (⟨l.val / 64 % 2, by omega⟩ : Fin 2) (⟨l.val / 128 % 2, by omega⟩ : Fin 2) (⟨l.val % 64, by omega⟩ : Fin 64))).trans (congrArg T e)
  exact funext fun a => Fin.ext (by fin_cases a <;> rfl)

/-- The heads' norm of `p` heads. -/
def normHeads (p c : ℕ) (h0 : 0 < M0.numel) (hin : (M2 n c).ShapeCasts (M3 n p 64)) (hred : (M3 n p 64).ReducesTo [2] (M2 n p))
    (hcol : (M2 n p).BroadcastsInDim (M3 n p 1) (![0, 1] : Fin 2 → Fin (M3 n p 1).rank))
    (hone : M0.BroadcastsInDim (M3 n p 1) (![] : Fin 0 → Fin (M3 n p 1).rank))
    (hwide : (M3 n p 1).BroadcastsInDim (M3 n p 64) (![0, 1, 2] : Fin 3 → Fin (M3 n p 64).rank))
    (hrow : (M1 64).BroadcastsInDim (M3 1 1 64) (![2] : Fin 1 → Fin (M3 1 1 64).rank)) (hdown : (M3 1 1 64).BroadcastsInDim (M3 n p 64) (![0, 1, 2] : Fin 3 → Fin (M3 n p 64).rank))
    (hout : (M3 n p 64).ShapeCasts (M2 n c)) (T : FVec Ideal (M2 n c) .f32) (g : FVec Ideal (M1 64) .f32) : FVec Ideal (M2 n c) .f32 :=
  shapeCast _ (mulf (mulf (shapeCast _ T hin) (broadcastInDim (M3 n p 64) ![0, 1, 2] hwide (Host.rsqrt (addf (Host.divf (broadcastInDim (M3 n p 1) ![0, 1] hcol
      (Host.reduceAdd (mulf (shapeCast _ T hin) (shapeCast _ T hin)) (constant M0 .f32 0x00000000#32) hred h0)) (broadcastInDim (M3 n p 1) ![] hone (constant M0 .f32 0x42800000#32)))
      (broadcastInDim (M3 n p 1) ![] hone (constant M0 .f32 0x358637BD#32))))))
    (broadcastInDim (M3 n p 64) ![0, 1, 2] hdown (broadcastInDim (M3 1 1 64) ![2] hrow g))) hout

theorem normHeads_apply {p c : ℕ} (hp : p ≠ 1) (hc : c = p * 64) (h0 hin hred hcol hone hwide hrow hdown hout) (T : FVec Ideal (M2 n c) .f32) (g : FVec Ideal (M1 64) .f32)
    (i : Fin n) (L : ℕ → EReal) (a : ℕ) (ha : a % 64 = 0) (hT : ∀ l : Fin c, T (ix2 i l) = L (a + l.val)) (y : Fin c) :
    normHeads p c h0 hin hred hcol hone hwide hrow hdown hout T g (ix2 i y) = headn L (gains g y.val) (a + y.val) := by
  pointwise [normHeads]
  simp [Shape.Idx.norm, hn, hp, join_apply hc hout, split_apply hc hin, hT]
  unfold headn
  have e : ∀ x : Fin 64, a + (y.val / 64 * 64 + x.val) = 64 * ((a + y.val) / 64) + x.val := fun x => by omega
  simp only [e]
  rfl

omit hn in
/-- Two parts side by side. -/
theorem side_apply {α : Type} {c d e : ℕ} (he : e = c + d) (h : Shape.Concatenates [M2 n c, M2 n d] (M2 n e) 1) (x : (M2 n c).Idx → α) (y : (M2 n d).Idx → α) (i : Fin n) (k : Fin e) :
    concatenate (M2 n e) 1 [⟨M2 n c, x⟩, ⟨M2 n d, y⟩] h (ix2 i k)
      = if hk : k.val < c then x (ix2 i ⟨k.val, hk⟩) else y (ix2 i ⟨k.val - c, by have := k.isLt; omega⟩) := by
  pointwise
  by_cases hk : k.val < c
  · rw [dif_pos hk, dif_pos hk]
    exact congrArg x (funext fun b => Fin.ext (by fin_cases b <;> rfl))
  · rw [dif_neg hk, dif_neg hk]
    exact congrArg y (funext fun b => Fin.ext (by fin_cases b <;> rfl))

omit hn in
/-- Four parts of 64 columns side by side. -/
theorem four_apply {α : Type} (h : Shape.Concatenates [M2 n 64, M2 n 64, M2 n 64, M2 n 64] (M2 n 256) 1) (x y z w : (M2 n 64).Idx → α) (i : Fin n) (k : Fin 256) :
    concatenate (M2 n 256) 1 [⟨M2 n 64, x⟩, ⟨M2 n 64, y⟩, ⟨M2 n 64, z⟩, ⟨M2 n 64, w⟩] h (ix2 i k)
      = (if k.val < 64 then x else if k.val < 128 then y else if k.val < 192 then z else w) (ix2 i (⟨k.val % 64, Nat.mod_lt _ (by decide)⟩ : Fin 64)) := by
  have hk := k.isLt
  pointwise
  by_cases h1 : k.val < 64
  · rw [dif_pos h1, if_pos h1]
    exact congrArg x (funext fun b => Fin.ext (by fin_cases b; exacts [rfl, (Nat.mod_eq_of_lt h1).symm]))
  rw [dif_neg h1, if_neg h1]
  by_cases h2 : k.val < 128
  · rw [dif_pos (show k.val - 64 < 64 by omega), if_pos h2]
    exact congrArg y (funext fun b => Fin.ext (by fin_cases b; exacts [rfl, (show k.val - 64 = k.val % 64 by omega)]))
  rw [dif_neg (show ¬ k.val - 64 < 64 by omega), if_neg h2]
  by_cases h3 : k.val < 192
  · rw [dif_pos (show k.val - 64 - 64 < 64 by omega), if_pos h3]
    exact congrArg z (funext fun b => Fin.ext (by fin_cases b; exacts [rfl, (show k.val - 64 - 64 = k.val % 64 by omega)]))
  rw [dif_neg (show ¬ k.val - 64 - 64 < 64 by omega), if_neg h3]
  exact congrArg w (funext fun b => Fin.ext (by fin_cases b; exacts [rfl, (show k.val - 64 - 64 - 64 = k.val % 64 by omega)]))

omit hn in
/-- The sigmoid as the host computes it. -/
theorem share_apply {c : ℕ} (hone : M0.BroadcastsInDim (M2 n c) (![] : Fin 0 → Fin (M2 n c).rank)) (z : FVec Ideal (M2 n c) .f32) (j : (M2 n c).Idx) :
    Host.divf (broadcastInDim (M2 n c) ![] hone (constant M0 .f32 0x3F800000#32)) (addf (broadcastInDim (M2 n c) ![] hone (constant M0 .f32 0x3F800000#32)) (Host.exp (Host.negf z))) j
      = Ideal.logistic (z j) := by
  show Ideal.div (Ideal.ofBits .f32 0x3F800000#32) (Ideal.ofBits .f32 0x3F800000#32 + Ideal.exp (-(z j))) = _
  rw [Ideal.ofBits_one_f32]
  rfl

/-! ## The outputs -/

omit hn in
/-- Columns of an array from `a` on. -/
theorem cut_apply {α : Type} {w c : ℕ} (T : (M2 n w).Idx → α) (a : ℕ) (ha : a + c ≤ w) (h : (M2 n w).Slices ![0, a] (M2 n c)) (i : Fin n) (l : Fin c) :
    extractStridedSlice (M2 n c) ![0, a] T h (ix2 i l) = T (ix2 i ⟨a + l.val, by have := l.isLt; omega⟩) := by
  refine congrArg T (funext fun b => Fin.ext ?_)
  fin_cases b
  · show 0 + i.val = i.val
    omega
  · rfl

section

variable (i : Fin n) (L : ℕ → EReal)

omit hn in
/-- A stretch of the products in two parts. -/
theorem rawPair_apply {c d e : ℕ} (he : e = c + d) (a b : ℕ) (hab : b = a + c) (x : FVec Ideal (M2 n c) .f32) (hx : ∀ l : Fin c, x (ix2 i l) = L (a + l.val))
    (y : FVec Ideal (M2 n d) .f32) (hy : ∀ l : Fin d, y (ix2 i l) = L (b + l.val)) (h : Shape.Concatenates [M2 n c, M2 n d] (M2 n e) 1) (k : Fin e) :
    concatenate (M2 n e) 1 [⟨M2 n c, x⟩, ⟨M2 n d, y⟩] h (ix2 i k) = oRaw a L k.val := by
  rw [side_apply he]
  have hk' := k.isLt
  unfold oRaw
  by_cases hk : k.val < c
  · rw [dif_pos hk]
    exact hx ⟨k.val, hk⟩
  · rw [dif_neg hk]
    refine (hy ⟨k.val - c, by omega⟩).trans (congrArg L ?_)
    show b + (k.val - c) = a + k.val
    omega

/-- Normed keys beside the values. -/
theorem pair_apply (a b : ℕ) (h64 : a % 64 = 0) (hab : b = a + 128) (h0 hin hred hcol hone hwide hrow hdown hout)
    (x : FVec Ideal (M2 n 128) .f32) (hx : ∀ l : Fin 128, x (ix2 i l) = L (a + l.val)) (y : FVec Ideal (M2 n 128) .f32) (hy : ∀ l : Fin 128, y (ix2 i l) = L (b + l.val))
    (h : Shape.Concatenates [M2 n 128, M2 n 128] (M2 n 256) 1) (g : FVec Ideal (M1 64) .f32) (k : Fin 256) :
    concatenate (M2 n 256) 1 [⟨M2 n 128, normHeads 2 128 h0 hin hred hcol hone hwide hrow hdown hout x g⟩, ⟨M2 n 128, y⟩] h (ix2 i k) = oPair a L (gains g) k.val := by
  rw [side_apply (c := 128) (d := 128) rfl]
  have hk' := k.isLt
  unfold oPair
  by_cases hk : k.val < 128
  · rw [dif_pos hk, if_pos hk]
    exact normHeads_apply hn (by decide) rfl h0 hin hred hcol hone hwide hrow hdown hout _ g i L a h64 hx ⟨k.val, hk⟩
  · rw [dif_neg hk, if_neg hk]
    refine (hy ⟨k.val - 128, by omega⟩).trans (congrArg L ?_)
    show b + (k.val - 128) = a + k.val
    omega

omit hn in
/-- Two heads of values, each beside ones. -/
theorem beside_apply (a : ℕ) (x : FVec Ideal (M2 n 128) .f32) (hx : ∀ l : Fin 128, x (ix2 i l) = L (a + l.val)) (h1 : (M2 n 128).Slices ![0, 0] (M2 n 64)) (h2 : (M2 n 128).Slices ![0, 64] (M2 n 64))
    (hone : M0.BroadcastsInDim (M2 n 64) (![] : Fin 0 → Fin (M2 n 64).rank)) (h : Shape.Concatenates [M2 n 64, M2 n 64, M2 n 64, M2 n 64] (M2 n 256) 1) (y : Fin 256) :
    concatenate (M2 n 256) 1 [⟨M2 n 64, extractStridedSlice (M2 n 64) ![0, 0] x h1⟩,
      ⟨M2 n 64, broadcastInDim (M2 n 64) ![] hone (constant (F := Ideal) M0 .f32 0x3F800000#32)⟩, ⟨M2 n 64, broadcastInDim (M2 n 64) ![] hone (constant (F := Ideal) M0 .f32 0x3F800000#32)⟩,
      ⟨M2 n 64, extractStridedSlice (M2 n 64) ![0, 64] x h2⟩] h (ix2 i y) = oBeside a L y.val := by
  have hy := y.isLt
  have part : ∀ (b : ℕ) (hb : b + 64 ≤ 128) (hs' : (M2 n 128).Slices ![0, b] (M2 n 64)) (l : Fin 64),
      extractStridedSlice (M2 n 64) ![0, b] x hs' (ix2 i l) = L (a + (b + l.val)) := fun b hb hs' l => by
    rw [cut_apply _ b hb]
    exact hx _
  have one : ∀ l, broadcastInDim (M2 n 64) ![] hone (constant (F := Ideal) M0 .f32 0x3F800000#32) l = (1 : EReal) := fun l => Ideal.ofBits_one_f32
  rw [four_apply]
  unfold oBeside
  by_cases h64 : y.val < 64
  · rw [if_pos h64, if_pos h64]
    refine (part 0 (by decide) h1 _).trans (congrArg L ?_)
    show a + (0 + y.val % 64) = a + y.val
    omega
  rw [if_neg h64, if_neg h64]
  by_cases h128 : y.val < 128
  · rw [if_pos h128, if_pos (show y.val < 192 by omega)]
    exact one _
  rw [if_neg h128]
  by_cases h192 : y.val < 192
  · rw [if_pos h192, if_pos h192]
    exact one _
  rw [if_neg h192, if_neg h192]
  refine (part 64 (by decide) h2 _).trans (congrArg L ?_)
  show a + (64 + y.val % 64) = a + (y.val - 128)
  omega

end

end Cert.Proof.PJ.Host

end
-- ==== Proof.Proj.Weights.lean ====
/-
  The weights as the host lays them out for the projection's call: which column of the layer's weights stands in which place,
  and the columns of zeros behind them.
-/
module

public import proofs.«01_k».proof.Proof.Gen.Kernel2Ideal
public import proofs.«01_k».proof.Proof.Proj.Tower
public import Idealize.ShloMosaic.Lib.KernelVsHost

@[expose] public section

set_option maxRecDepth 16384

noncomputable section

namespace Cert.Proof.PJ.Host

open Idealize.ShloMosaic
open Idealize.ShloMosaic.TcCoe

/-! ## The places -/

/-- The column of the layer's weights that stands in column `k` of the call's. -/
def place (k : ℕ) : ℕ :=
  if k < 512 then turnsA k
  else if k < 1280 then k
  else if k < 1792 then 1304 + turnsA (k - 1280)
  else if k < 2304 then 1816 + turnsB (k - 1792)
  else if k < 2816 then k + 24
  else if k < 3328 then 2840 + turnsB (k - 2816)
  else k - 2048

/-- The call's weights: the columns in their places, then zeros. -/
def laid (w : FVec Ideal (M2 1024 3352) .f32) : FVec Ideal (M2 1024 3456) .bf16 :=
  fun j => if (j 1).val < 3352 then w (ix2 (j 0 : Fin 1024) (⟨place (j 1).val % 3352, Nat.mod_lt _ (by decide)⟩ : Fin 3352)) else 0

/-- Weights laid out are reals where the weights are. -/
theorem laid_real (w : FVec Ideal (M2 1024 3352) .f32) (h : ∀ i, ∃ r : ℝ, w i = (r : EReal)) (j) : ∃ r : ℝ, laid w j = (r : EReal) := by
  unfold laid
  split
  · exact h _
  · exact ⟨0, rfl⟩

/-! ## The host's operations -/

/-- Columns picked by a list. -/
theorem pick_apply {R N C w : ℕ} {α : Type} (hN : 0 < N)
    (wf : GatherDims.WF (M2 R N) (M2 C 1) (M2 R C) [0] [1] [] [1] [] 1 ![R, 1])
    (x : (M2 R N).Idx → α) (idx : IVec (M2 C 1) w) (i : Fin R) (k : Fin C) :
    Host.gather (⟨[0], [1], [], [], [1], 1, ![R, 1], wf⟩ : GatherDims (M2 R N) (M2 C 1) (M2 R C)) x idx (ix2 i k)
      = x (ix2 i ⟨min (idx (ix2 k (0 : Fin 1))).toInt.toNat (N - 1), by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ [(1 : Fin 2)] by decide)]
    unfold GatherDims.offCoord
    rw [dif_pos ((GatherDims.mem_sKept _ _).mpr ⟨show (0 : Fin 2) ∉ [(1 : Fin 2)] by decide, List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ [(1 : Fin 2)] from List.mem_singleton.mpr rfl)]
    refine congrArg (fun b : (M2 C 1).Idx => min (idx b).toInt.toNat (N - 1)) ?_
    funext b
    refine Fin.ext ?_
    match b with
    | ⟨0, _⟩ => rfl
    | ⟨1, _⟩ => rfl

end Cert.Proof.PJ.Host

namespace Cert.Proof.PJ

open Cert.Kernel2Ideal Cert.Kernel2Ideal.Gen
open Idealize.ShloMosaic
open Idealize.ShloMosaic.TcCoe
open Cert.Proof.PJ.Host

/-- The host's list of columns is the list of the places. -/
theorem list_eq : ∀ k : Fin 3352, lit0 k = BitVec.ofNat 32 (place k.val) := by decide +kernel

theorem place_lt : ∀ k : Fin 3352, place k.val < 3352 := by decide +kernel

/-- The host's list of columns, as it stands in the program, lists the places. -/
theorem listed (i : S3352.Idx) : lit0 (S3352.rowMajor i) = BitVec.ofNat 32 (place (i 0).val) :=
  (congrArg lit0 (Fin.ext (Shape.rowMajor_val_one i))).trans (list_eq (i 0))

/-- A list of columns as the operation takes it. -/
def picked (p : S3352.Idx → BitVec 32) : IVec S3352x1 32 :=
  broadcastInDim S3352x1 ![0] bcast_S3352_S3352x1_0 (select (constantI S3352 1 0#1) (addi p (broadcastInDim S3352 ![] bcast_S_S3352 (constantI S_ 32 3352#32))) p)

theorem picked_apply (p : S3352.Idx → BitVec 32) (hp : ∀ i, p i = BitVec.ofNat 32 (place (i 0).val)) (k : Fin 3352) : picked p (ix2 k (0 : Fin 1)) = BitVec.ofNat 32 (place k.val) := by
  pointwise [picked]
  exact hp _

/-- The weights as the host lays them out. -/
def hostWeights (p : S3352.Idx → BitVec 32) (w : FVec Ideal S1024x3352 .f32) : FVec Ideal S1024x3456 .bf16 :=
  truncf .bf16 (pad S1024x3456 ![0, 0] ![0, 104] ![0, 0] (Host.gather gather_S1024x3352_S3352x1_S1024x3352_0_1_n_n_1_1_10241 w (picked p))
    (sitofp (F := Ideal) .f32 (constantI S_ 32 0#32)) pads_S1024x3352_S1024x3456_000_01040 h_S_) bitsLt_bf16_f32

/-- Where the list is that of the places, they are laid out by place. -/
theorem hostWeights_eq (p : S3352.Idx → BitVec 32) (hp : ∀ i, p i = BitVec.ofNat 32 (place (i 0).val)) (w : FVec Ideal S1024x3352 .f32) : hostWeights p w = laid w := by
  have entry : ∀ (d : Fin 1024) (k : Fin 3456), hostWeights p w (ix2 d k) = laid w (ix2 d k) := fun d k => by
    show pad (s := S1024x3352) S1024x3456 ![0, 0] ![0, 104] ![0, 0] _ _ pads_S1024x3352_S1024x3456_000_01040 h_S_ (ix2 d k) = if k.val < 3352 then _ else _
    by_cases hk : k.val < 3352
    · rw [if_pos hk]
      refine (pad_apply_of_inside _ _ _ _ _ _ _ _ (ix2 d (⟨k.val, hk⟩ : Fin 3352)) ?_).trans ((pick_apply (by decide) _ w (picked p) d ⟨k.val, hk⟩).trans (congrArg w (congrArg (ix2 d) (Fin.ext ?_))))
      · intro a
        fin_cases a
        · show d.val = 0 + d.val * 1
          omega
        · show k.val = 0 + k.val * 1
          omega
      · have hlt := place_lt ⟨k.val, hk⟩
        show min (picked p (ix2 (⟨k.val, hk⟩ : Fin 3352) (0 : Fin 1))).toInt.toNat (3352 - 1) = place k.val % 3352
        rw [picked_apply p hp]
        simp only at hlt
        have e : (BitVec.ofNat 32 (place k.val)).toInt = place k.val := by
          have t : (BitVec.ofNat 32 (place k.val)).toNat = place k.val := by
            rw [BitVec.toNat_ofNat]
            exact Nat.mod_eq_of_lt (by omega)
          rw [BitVec.toInt_eq_toNat_of_lt (by rw [t]; omega), t]
        rw [e, Nat.mod_eq_of_lt hlt]
        omega
    · rw [if_neg hk]
      refine (pad_apply_of_not_inside _ _ _ _ _ _ _ _ (1 : Fin 2) ?_).trans ?_
      · intro h
        have := h.2.2
        have e : (k.val - 0) / (0 + 1) < 3352 := this
        omega
      · show (((0#32).toInt : ℝ) : EReal) = 0
        simp
  funext j
  rw [eq_ix2 (n0 := 1024) (n1 := 3456) j]
  exact entry (j 0) (j 1)

end Cert.Proof.PJ

end
-- ==== Proof.Proj.Refs.lean ====
/-
  The reference's results for any number `n` of rows, read at an entry, and what the fifteen outputs hold.
-/
module

public import proofs.«01_k».proof.Proof.Proj.Weights

@[expose] public section

set_option maxRecDepth 16384

noncomputable section

namespace Cert.Proof.PJ.Ref

open Idealize.ShloMosaic
open Idealize.ShloMosaic.TcCoe
open Cert.Proof.PJ.Host

/-- What the reference's shapes have to satisfy at `n` rows. -/
structure Sides (n : ℕ) : Prop where
  many : n ≠ 1
  bcast_S1024_S1x1024_1 : (M1 1024).BroadcastsInDim (M2 1 1024) (![1] : Fin 1 → Fin (M2 1 1024).rank)
  bcast_Sn_Snx1_0 : (M1 n).BroadcastsInDim (M2 n 1) (![0] : Fin 1 → Fin (M2 n 1).rank)
  bcast_Snx1_Snx1024_0_1 : (M2 n 1).BroadcastsInDim (M2 n 1024) (![0, 1] : Fin 2 → Fin (M2 n 1024).rank)
  bcast_Snx2_Snx2x1_0_1 : (M2 n 2).BroadcastsInDim (M3 n 2 1) (![0, 1] : Fin 2 → Fin (M3 n 2 1).rank)
  bcast_Snx2x1_Snx2x64_0_1_2 : (M3 n 2 1).BroadcastsInDim (M3 n 2 64) (![0, 1, 2] : Fin 3 → Fin (M3 n 2 64).rank)
  bcast_Snx8_Snx8x1_0_1 : (M2 n 8).BroadcastsInDim (M3 n 8 1) (![0, 1] : Fin 2 → Fin (M3 n 8 1).rank)
  bcast_Snx8x1_Snx8x64_0_1_2 : (M3 n 8 1).BroadcastsInDim (M3 n 8 64) (![0, 1, 2] : Fin 3 → Fin (M3 n 8 64).rank)
  bcast_S1x1024_Snx1024_0_1 : (M2 1 1024).BroadcastsInDim (M2 n 1024) (![0, 1] : Fin 2 → Fin (M2 n 1024).rank)
  bcast_S1x1x64_Snx2x64_0_1_2 : (M3 1 1 64).BroadcastsInDim (M3 n 2 64) (![0, 1, 2] : Fin 3 → Fin (M3 n 2 64).rank)
  bcast_S1x1x64_Snx8x64_0_1_2 : (M3 1 1 64).BroadcastsInDim (M3 n 8 64) (![0, 1, 2] : Fin 3 → Fin (M3 n 8 64).rank)
  bcast_S64_S1x1x64_2 : (M1 64).BroadcastsInDim (M3 1 1 64) (![2] : Fin 1 → Fin (M3 1 1 64).rank)
  bcast_S_Snx1 : M0.BroadcastsInDim (M2 n 1) (![] : Fin 0 → Fin (M2 n 1).rank)
  bcast_S_Snx128 : M0.BroadcastsInDim (M2 n 128) (![] : Fin 0 → Fin (M2 n 128).rank)
  bcast_S_Snx2x1 : M0.BroadcastsInDim (M3 n 2 1) (![] : Fin 0 → Fin (M3 n 2 1).rank)
  bcast_S_Snx512 : M0.BroadcastsInDim (M2 n 512) (![] : Fin 0 → Fin (M2 n 512).rank)
  bcast_S_Snx64 : M0.BroadcastsInDim (M2 n 64) (![] : Fin 0 → Fin (M2 n 64).rank)
  bcast_S_Snx8x1 : M0.BroadcastsInDim (M3 n 8 1) (![] : Fin 0 → Fin (M3 n 8 1).rank)
  bitsLt_bf16_f32 : FTy.bits .bf16 < FTy.bits .f32
  concatenates_Snx128_Snx128_Snx256_d1 : Shape.Concatenates [(M2 n 128), (M2 n 128)] (M2 n 256) 1
  concatenates_Snx64_Snx64_Snx64_Snx64_Snx256_d1 : Shape.Concatenates [(M2 n 64), (M2 n 64), (M2 n 64), (M2 n 64)] (M2 n 256) 1
  dot_wf : DotDims.WF (M2 n 1024) (M2 1024 3352) (M2 n 3352) [1] [0] [0] [1] [] []
  h_S_ : 0 < M0.numel
  reducesTo_Snx1024_Sn_d1 : (M2 n 1024).ReducesTo [1] (M1 n)
  reducesTo_Snx2x64_Snx2_d2 : (M3 n 2 64).ReducesTo [2] (M2 n 2)
  reducesTo_Snx8x64_Snx8_d2 : (M3 n 8 64).ReducesTo [2] (M2 n 8)
  shapeCasts_Snx128_Snx2x64 : (M2 n 128).ShapeCasts (M3 n 2 64)
  shapeCasts_Snx2x64_Snx128 : (M3 n 2 64).ShapeCasts (M2 n 128)
  shapeCasts_Snx512_Snx8x64 : (M2 n 512).ShapeCasts (M3 n 8 64)
  shapeCasts_Snx8x64_Snx512 : (M3 n 8 64).ShapeCasts (M2 n 512)
  slices_Snx128_Snx64_0_0 : (M2 n 128).Slices ![0, 0] (M2 n 64)
  slices_Snx128_Snx64_0_64 : (M2 n 128).Slices ![0, 64] (M2 n 64)
  shapeCasts_Snx512_Snx2x4x64 : (M2 n 512).ShapeCasts (M4 n 2 4 64)
  transposes_Snx2x4x64_Snx4x2x64 : (M4 n 2 4 64).Transposes [0, 2, 1, 3] (M4 n 4 2 64)
  shapeCasts_Snx4x2x64_Snx512 : (M4 n 4 2 64).ShapeCasts (M2 n 512)
  shapeCasts_Snx512_Snx2x2x2x64 : (M2 n 512).ShapeCasts (M5 n 2 2 2 64)
  transposes_Snx2x2x2x64_Snx2x2x2x64 : (M5 n 2 2 2 64).Transposes [0, 1, 3, 2, 4] (M5 n 2 2 2 64)
  shapeCasts_Snx2x2x2x64_Snx512 : (M5 n 2 2 2 64).ShapeCasts (M2 n 512)
  slices_Snx3352_Snx24_0_1280 : (M2 n 3352).Slices ![0, 1280] (M2 n 24)
  pads_Snx24_Snx128 : (M2 n 24).Pads (![0, 0] : Fin 2 → Nat) ![0, 104] ![0, 0] (M2 n 128)

variable {n : ℕ} (H : Sides n)

/-- The products of the normed rows with the layer's weights. -/
def products (x : FVec Ideal (M2 n 1024) .f32) (g : FVec Ideal (M1 1024) .f32) (w : FVec Ideal (M2 1024 3352) .f32) : FVec Ideal (M2 n 3352) .f32 :=
  Host.dotGeneral (rowsDot H.dot_wf) none
    (normRows (n := n) H.h_S_ H.reducesTo_Snx1024_Sn_d1 H.bcast_Sn_Snx1_0 H.bcast_S_Snx1 H.bcast_Snx1_Snx1024_0_1 H.bcast_S1024_S1x1024_1 H.bcast_S1x1024_Snx1024_0_1 x g) w

/-- The heads' norms of eight heads and of two. -/
def heads8 (T : FVec Ideal (M2 n 512) .f32) (g : FVec Ideal (M1 64) .f32) : FVec Ideal (M2 n 512) .f32 :=
  normHeads (n := n) 8 512 H.h_S_ H.shapeCasts_Snx512_Snx8x64 H.reducesTo_Snx8x64_Snx8_d2 H.bcast_Snx8_Snx8x1_0_1 H.bcast_S_Snx8x1 H.bcast_Snx8x1_Snx8x64_0_1_2
    H.bcast_S64_S1x1x64_2 H.bcast_S1x1x64_Snx8x64_0_1_2 H.shapeCasts_Snx8x64_Snx512 T g
def heads2 (T : FVec Ideal (M2 n 128) .f32) (g : FVec Ideal (M1 64) .f32) : FVec Ideal (M2 n 128) .f32 :=
  normHeads (n := n) 2 128 H.h_S_ H.shapeCasts_Snx128_Snx2x64 H.reducesTo_Snx2x64_Snx2_d2 H.bcast_Snx2_Snx2x1_0_1 H.bcast_S_Snx2x1 H.bcast_Snx2x1_Snx2x64_0_1_2
    H.bcast_S64_S1x1x64_2 H.bcast_S1x1x64_Snx2x64_0_1_2 H.shapeCasts_Snx2x64_Snx128 T g

section

variable (x : FVec Ideal (M2 n 1024) .f32) (g : FVec Ideal (M1 1024) .f32) (w : FVec Ideal (M2 1024 3352) .f32)

/-- The products of token `i` with the weights as they are laid out for the call, by column. -/
def line (i : Fin n) : ℕ → EReal := proj (fun d => x (ix2 i d)) (fun d => g (ix1 d)) (laid w)

/-- A product at a row and a column of the layer's weights is the one at the column's place. -/
theorem products_apply (i : Fin n) (j : Fin 3352) (k : ℕ) (hk : k < 3352) (hj : place k = j.val) : products H x g w (ix2 i j) = line x g w i k := by
  have e : k % 3456 = k := Nat.mod_eq_of_lt (by omega)
  refine (product_apply H.many _ _ _ _ _ _ _ _ x g w i j).trans (Finset.sum_congr rfl fun d _ => congrArg (normed _ _ d * ·) ?_)
  show _ = if k % 3456 < 3352 then _ else _
  rw [if_pos (by omega)]
  refine congrArg w (congrArg (ix2 d) (Fin.ext ?_))
  show j.val = place (k % 3456) % 3352
  rw [e, hj, Nat.mod_eq_of_lt j.isLt]

/-- Behind the weights' columns the products are zero. -/
theorem line_zero (i : Fin n) (k : ℕ) (hk : 3352 ≤ k) (hk' : k < 3456) : line x g w i k = 0 := by
  have e : k % 3456 = k := Nat.mod_eq_of_lt hk'
  unfold line proj
  refine (Finset.sum_congr rfl fun d _ => ?_).trans Finset.sum_const_zero
  refine (congrArg (normed _ _ d * ·) (?_ : _ = (0 : EReal))).trans (mul_zero _)
  show (if k % 3456 < 3352 then _ else _) = _
  rw [if_neg (by omega)]

/-! ## Parts of the products -/

/-- An array holds every token's products from column `a` on. -/
def Sec (a : ℕ) {c : ℕ} (T : FVec Ideal (M2 n c) .f32) : Prop := ∀ (i : Fin n) (l : Fin c), T (ix2 i l) = line x g w i (a + l.val)

/-- Columns that stand together. -/
theorem cut {a b c : ℕ} (hb : b + c ≤ 3352) (hp : ∀ l, l < c → a + l < 3352 ∧ place (a + l) = b + l) (h : (M2 n 3352).Slices ![0, b] (M2 n c)) :
    Sec x g w a (extractStridedSlice (M2 n c) ![0, b] (products H x g w) h) := fun i l => by
  rw [cut_apply _ b hb]
  exact products_apply H x g w i _ _ (hp l.val l.isLt).1 (hp l.val l.isLt).2

/-- Two groups of four heads, by turns. -/
theorem cutA {a b : ℕ} (hb : b + 512 ≤ 3352) (hp : ∀ l, l < 512 → a + l < 3352 ∧ place (a + l) = b + turnsA l) (h : (M2 n 3352).Slices ![0, b] (M2 n 512)) :
    Sec x g w a (shapeCast (M2 n 512) (transpose (M4 n 4 2 64) [0, 2, 1, 3] (shapeCast (M4 n 2 4 64) (extractStridedSlice (M2 n 512) ![0, b] (products H x g w) h) H.shapeCasts_Snx512_Snx2x4x64)
      H.transposes_Snx2x4x64_Snx4x2x64) H.shapeCasts_Snx4x2x64_Snx512) := fun i l => by
  rw [turnsA_apply, cut_apply _ b hb]
  exact products_apply H x g w i _ _ (hp l.val l.isLt).1 (hp l.val l.isLt).2

/-- Two pairs of pairs of heads, the inner axes by turns. -/
theorem cutB {a b : ℕ} (hb : b + 512 ≤ 3352) (hp : ∀ l, l < 512 → a + l < 3352 ∧ place (a + l) = b + turnsB l) (h : (M2 n 3352).Slices ![0, b] (M2 n 512)) :
    Sec x g w a (shapeCast (M2 n 512) (transpose (M5 n 2 2 2 64) [0, 1, 3, 2, 4] (shapeCast (M5 n 2 2 2 64) (extractStridedSlice (M2 n 512) ![0, b] (products H x g w) h) H.shapeCasts_Snx512_Snx2x2x2x64)
      H.transposes_Snx2x2x2x64_Snx2x2x2x64) H.shapeCasts_Snx2x2x2x64_Snx512) := fun i l => by
  rw [turnsB_apply, cut_apply _ b hb]
  exact products_apply H x g w i _ _ (hp l.val l.isLt).1 (hp l.val l.isLt).2

/-- The branches' shares, with zeros behind them. -/
theorem cutShare :
    Sec x g w 3328 (pad (s := M2 n 24) (M2 n 128) ![0, 0] ![0, 104] ![0, 0] (extractStridedSlice (M2 n 24) ![0, 1280] (products H x g w) H.slices_Snx3352_Snx24_0_1280)
      (sitofp (F := Ideal) .f32 (constantI M0 32 0#32)) H.pads_Snx24_Snx128 H.h_S_) := fun i l => by
  have hl := l.isLt
  by_cases hk : l.val < 24
  · refine (pad_apply_of_inside _ _ _ _ _ _ _ _ (ix2 i (⟨l.val, hk⟩ : Fin 24)) ?_).trans ((cut_apply _ 1280 (by decide) _ i _).trans ?_)
    · intro a
      fin_cases a
      · show i.val = 0 + i.val * 1
        omega
      · show l.val = 0 + l.val * 1
        omega
    · refine products_apply H x g w i _ _ (by omega) ?_
      show place (3328 + l.val) = 1280 + l.val
      unfold place
      split_ifs <;> omega
  · refine (pad_apply_of_not_inside _ _ _ _ _ _ _ _ (1 : Fin 2) ?_).trans (Eq.trans ?_ (line_zero x g w i _ (by omega) (by omega)).symm)
    · intro h
      have e : (l.val - 0) / (0 + 1) < 24 := h.2.2
      omega
    · show (((0#32).toInt : ℝ) : EReal) = 0
      simp

/-- An array known at its entries. -/
theorem ext2 {k : ℕ} {f : FTy} (o : (ℕ → EReal) → ℕ → EReal) (T : FVec Ideal (M2 n k) f)
    (h : ∀ (i : Fin n) (y : Fin k), T (ix2 i y) = o (line x g w i) y.val) : T = results f o x g (laid w) := by
  funext j
  rw [eq_ix2 (n0 := n) (n1 := k) j]
  exact h (j 0) (j 1)

variable {x g w}

theorem query_eq {T : FVec Ideal (M2 n 512) .f32} (hT : Sec x g w 0 T) (q : FVec Ideal (M1 64) .f32) :
    truncf .bf16 (mulf (heads8 H T q) (broadcastInDim (M2 n 512) ![] H.bcast_S_Snx512 (constant M0 .f32 0x3E000000#32))) H.bitsLt_bf16_f32
      = results .bf16 (fun L => oQuery L (gains q)) x g (laid w) :=
  ext2 x g w _ _ fun i y => by
    have e := normHeads_apply H.many (by decide) rfl H.h_S_ H.shapeCasts_Snx512_Snx8x64 H.reducesTo_Snx8x64_Snx8_d2 H.bcast_Snx8_Snx8x1_0_1 H.bcast_S_Snx8x1 H.bcast_Snx8x1_Snx8x64_0_1_2
      H.bcast_S64_S1x1x64_2 H.bcast_S1x1x64_Snx8x64_0_1_2 H.shapeCasts_Snx8x64_Snx512 _ q i _ 0 rfl (hT i) y
    rw [Nat.zero_add] at e
    exact congrArg (· * scale) e

theorem raw_eq {a c : ℕ} {T : FVec Ideal (M2 n c) .f32} (hT : Sec x g w a T) : truncf .bf16 T H.bitsLt_bf16_f32 = results .bf16 (fun L => oRaw a L) x g (laid w) :=
  ext2 x g w _ _ hT

theorem scaled_eq {T : FVec Ideal (M2 n 512) .f32} (hT : Sec x g w 1792 T) :
    truncf .bf16 (mulf T (broadcastInDim (M2 n 512) ![] H.bcast_S_Snx512 (constant M0 .f32 0x3E000000#32))) H.bitsLt_bf16_f32 = results .bf16 (fun L => oScaled 1792 L) x g (laid w) :=
  ext2 x g w _ _ fun i y => congrArg (· * scale) (hT i y)

theorem rawPair_eq {c e a b : ℕ} {T U : FVec Ideal (M2 n c) .f32} (he : e = c + c) (hab : b = a + c) (hT : Sec x g w a T) (hU : Sec x g w b U) (h : Shape.Concatenates [M2 n c, M2 n c] (M2 n e) 1) :
    (concatenate (M2 n e) 1 [⟨M2 n c, T⟩, ⟨M2 n c, U⟩] h : FVec Ideal (M2 n e) .f32) = results .f32 (fun L => oRaw a L) x g (laid w) :=
  ext2 x g w _ _ fun i y => rawPair_apply i _ he a b hab T (hT i) U (hU i) h y

theorem pair_eq {a b : ℕ} {T U : FVec Ideal (M2 n 128) .f32} (h64 : a % 64 = 0) (hab : b = a + 128) (hT : Sec x g w a T) (hU : Sec x g w b U) (q : FVec Ideal (M1 64) .f32) :
    (concatenate (M2 n 256) 1 [⟨(M2 n 128), heads2 H T q⟩, ⟨(M2 n 128), U⟩] H.concatenates_Snx128_Snx128_Snx256_d1 : FVec Ideal (M2 n 256) .f32)
      = results .f32 (fun L => oPair a L (gains q)) x g (laid w) :=
  ext2 x g w _ _ fun i y => pair_apply H.many i _ a b h64 hab _ _ _ _ _ _ _ _ _ T (hT i) U (hU i) _ q y

theorem head_eq {a : ℕ} {T : FVec Ideal (M2 n 128) .f32} (h64 : a % 64 = 0) (hT : Sec x g w a T) (q : FVec Ideal (M1 64) .f32) :
    truncf .bf16 (heads2 H T q) H.bitsLt_bf16_f32 = results .bf16 (fun L => oHead a L (gains q)) x g (laid w) :=
  ext2 x g w _ _ fun i y => normHeads_apply H.many (by decide) rfl H.h_S_ H.shapeCasts_Snx128_Snx2x64 H.reducesTo_Snx2x64_Snx2_d2 H.bcast_Snx2_Snx2x1_0_1 H.bcast_S_Snx2x1 H.bcast_Snx2x1_Snx2x64_0_1_2
    H.bcast_S64_S1x1x64_2 H.bcast_S1x1x64_Snx2x64_0_1_2 H.shapeCasts_Snx2x64_Snx128 _ q i _ a h64 (hT i) y

theorem beside_eq {a : ℕ} {T : FVec Ideal (M2 n 128) .f32} (hT : Sec x g w a T) :
    truncf .bf16 (concatenate (M2 n 256) 1 [⟨(M2 n 64), extractStridedSlice (M2 n 64) ![0, 0] T H.slices_Snx128_Snx64_0_0⟩,
      ⟨(M2 n 64), broadcastInDim (M2 n 64) ![] H.bcast_S_Snx64 (constant (F := Ideal) M0 .f32 0x3F800000#32)⟩,
      ⟨(M2 n 64), broadcastInDim (M2 n 64) ![] H.bcast_S_Snx64 (constant (F := Ideal) M0 .f32 0x3F800000#32)⟩,
      ⟨(M2 n 64), extractStridedSlice (M2 n 64) ![0, 64] T H.slices_Snx128_Snx64_0_64⟩]
      H.concatenates_Snx64_Snx64_Snx64_Snx64_Snx256_d1 : FVec Ideal (M2 n 256) .f32) H.bitsLt_bf16_f32 = results .bf16 (fun L => oBeside a L) x g (laid w) :=
  ext2 x g w _ _ fun i y => beside_apply i _ a T (hT i) H.slices_Snx128_Snx64_0_0 H.slices_Snx128_Snx64_0_64 H.bcast_S_Snx64 H.concatenates_Snx64_Snx64_Snx64_Snx64_Snx256_d1 y

theorem share_eq {T : FVec Ideal (M2 n 128) .f32} (hT : Sec x g w 3328 T) :
    Host.divf (broadcastInDim (M2 n 128) ![] H.bcast_S_Snx128 (constant M0 .f32 0x3F800000#32)) (addf (broadcastInDim (M2 n 128) ![] H.bcast_S_Snx128 (constant M0 .f32 0x3F800000#32))
      (Host.exp (Host.negf T))) = results .f32 (fun L => oShare 3328 L) x g (laid w) :=
  ext2 x g w _ _ fun i y => (share_apply _ _ _).trans (congrArg Ideal.logistic (hT i y))

theorem gate_eq {a : ℕ} {T : FVec Ideal (M2 n 512) .f32} (hT : Sec x g w a T) :
    mulf T (Host.divf (broadcastInDim (M2 n 512) ![] H.bcast_S_Snx512 (constant M0 .f32 0x3F800000#32))
      (addf (broadcastInDim (M2 n 512) ![] H.bcast_S_Snx512 (constant M0 .f32 0x3F800000#32)) (Host.exp (Host.negf T))))
      = results .f32 (fun L => oGate a L) x g (laid w) :=
  ext2 x g w _ _ fun i y => congrArg₂ (· * ·) (hT i y) ((share_apply _ _ _).trans (congrArg Ideal.logistic (hT i y)))

/-! The places of the parts. -/

theorem place_early (b : ℕ) (hb : 512 ≤ b ∧ b ≤ 1152) (l : ℕ) (h : l < 128) : b + l < 3352 ∧ place (b + l) = b + l := by
  unfold place
  split_ifs <;> omega
theorem place_late (a b : ℕ) (hb : 2304 ≤ a ∧ a ≤ 2560 ∧ b = a + 24) (l : ℕ) (h : l < 256) : a + l < 3352 ∧ place (a + l) = b + l := by
  unfold place
  split_ifs <;> omega
theorem place_query (l : ℕ) (h : l < 512) : 0 + l < 3352 ∧ place (0 + l) = 0 + turnsA l := by
  unfold place
  rw [Nat.zero_add, Nat.zero_add, if_pos h]
  omega
theorem place_gateA (l : ℕ) (h : l < 512) : 1280 + l < 3352 ∧ place (1280 + l) = 1304 + turnsA l := by
  unfold place
  rw [Nat.add_sub_cancel_left]
  split_ifs <;> omega
theorem place_sb (l : ℕ) (h : l < 512) : 1792 + l < 3352 ∧ place (1792 + l) = 1816 + turnsB l := by
  unfold place
  rw [Nat.add_sub_cancel_left]
  split_ifs <;> omega
theorem place_gateB (l : ℕ) (h : l < 512) : 2816 + l < 3352 ∧ place (2816 + l) = 2840 + turnsB l := by
  unfold place
  rw [Nat.add_sub_cancel_left]
  split_ifs <;> omega

end

/-- The fifteen outputs, by entry, from tokens, gains and weights. -/
structure Holds (x : FVec Ideal (M2 n 1024) .f32) (g : FVec Ideal (M1 1024) .f32) (w : FVec Ideal (M2 1024 3456) .bf16) (q s v : FVec Ideal (M1 64) .f32)
    (r0 : FVec Ideal (M2 n 512) .bf16) (r1 r2 r3 : FVec Ideal (M2 n 256) .f32) (r4 : FVec Ideal (M2 n 128) .bf16) (r5 : FVec Ideal (M2 n 256) .bf16)
    (r6 : FVec Ideal (M2 n 128) .bf16) (r7 : FVec Ideal (M2 n 256) .bf16) (r8 : FVec Ideal (M2 n 128) .f32) (r9 : FVec Ideal (M2 n 512) .f32)
    (r10 : FVec Ideal (M2 n 512) .bf16) (r11 : FVec Ideal (M2 n 512) .f32) (r12 r13 : FVec Ideal (M2 n 256) .bf16) (r14 : FVec Ideal (M2 n 512) .f32) : Prop where
  query : r0 = results .bf16 (fun L => oQuery L (gains q)) x g w
  cmp : r1 = results .f32 (fun L => oRaw 512 L) x g w
  slc : r2 = results .f32 (fun L => oPair 768 L (gains s)) x g w
  win : r3 = results .f32 (fun L => oPair 1024 L (gains v)) x g w
  slcK : r4 = results .bf16 (fun L => oHead 768 L (gains s)) x g w
  slcV : r5 = results .bf16 (fun L => oBeside 896 L) x g w
  winK : r6 = results .bf16 (fun L => oHead 1024 L (gains v)) x g w
  winV : r7 = results .bf16 (fun L => oBeside 1152 L) x g w
  share : r8 = results .f32 (fun L => oShare 3328 L) x g w
  gateA : r9 = results .f32 (fun L => oGate 1280 L) x g w
  sbQuery : r10 = results .bf16 (fun L => oScaled 1792 L) x g w
  sb : r11 = results .f32 (fun L => oRaw 2304 L) x g w
  sbK : r12 = results .bf16 (fun L => oRaw 2304 L) x g w
  sbV : r13 = results .bf16 (fun L => oRaw 2560 L) x g w
  gateB : r14 = results .f32 (fun L => oGate 2816 L) x g w

end Cert.Proof.PJ.Ref

end
-- ==== Proof.Proj.Parts.lean ====
/-
  The kernel's blocks as parts of the arguments, for any number of rows and grid points, and from them the fifteen arrays.
-/
module

public import proofs.«01_k».proof.Proof.Proj.Outs
public import proofs.«01_k».proof.Proof.Proj.Refs
public import proofs.«01_k».proof.Proof.Places

@[expose] public section

set_option maxRecDepth 16384

noncomputable section

namespace Cert.Proof.PJ

open Cert.Kernel2Ideal Cert.Kernel2Ideal.Gen
open Idealize.ShloMosaic
open Idealize.ShloMosaic.TcCoe
open Cert.Proof.PJ.Host (M0 M1 M2 results array_ext)
open Cert.Proof.PJ.Ref (Holds)

/-! ## What the host lays out for the call -/

/-- The norm's gains as a row. -/
theorem gainRow_apply (g : FVec Ideal S1024 .f32) (d : Fin 1024) : shapeCast S1x1024 g shapeCasts_S1024_S1x1024 (ix2 (0 : Fin 1) d) = g (ix1 d) := by
  refine congrArg g (Shape.reshapeEquiv_eq_of_rowMajor shapeCasts_S1024_S1x1024 ?_)
  rw [Shape.rowMajor_val_two, Shape.rowMajor_val_one]
  show d.val = 0 * 1024 + d.val
  omega

/-- A head's gains twice in a row. -/
def twice (g : FVec Ideal S64 .f32) : FVec Ideal S1x128 .f32 :=
  shapeCast S1x128 (shapeCast S128 (broadcastInDim S2x64 ![0, 1] bcast_S1x64_S2x64_0_1 (shapeCast S1x64 g shapeCasts_S64_S1x64)) shapeCasts_S2x64_S128) shapeCasts_S128_S1x128

theorem twice_apply (g : FVec Ideal S64 .f32) (l : Fin 128) : twice g (ix2 (0 : Fin 1) l) = gains g l.val := by
  pointwise [twice]
  rfl

theorem gains_mod (g : FVec Ideal S64 .f32) (n : ℕ) : gains g (n % 128) = gains g n := by
  unfold gains
  refine congrArg (fun k : Fin 64 => g (ix1 k)) (Fin.ext ?_)
  show n % 128 % 64 = n % 64
  omega

/-- The halves of the lanes, as the host computes them. -/
def halves : FVec Ideal S128x128 .bf16 :=
  truncf .bf16 (uitofp .f32 (cmpi .eq (broadcastInDim S128x128 ![0, 1] bcast_S128x1_S128x128_0_1 (broadcastInDim S128x1 ![0] bcast_S128_S128x1_0
      (cmpi .slt (iotaInDim S128 32 0) (broadcastInDim S128 ![] bcast_S_S128 (constantI S_ 32 64#32)))))
    (broadcastInDim S128x128 ![0, 1] bcast_S1x128_S128x128_0_1 (broadcastInDim S1x128 ![1] bcast_S128_S1x128_1
      (cmpi .slt (iotaInDim S128 32 0) (broadcastInDim S128 ![] bcast_S_S128 (constantI S_ 32 64#32))))))) bitsLt_bf16_f32

theorem halves_apply : IsHalves halves := by
  intro k l
  pointwise [halves]
  have hk := k.isLt
  have hl := l.isLt
  have hc : ∀ a : ℕ, a < 128 → IntOp.cmpi CmpIPredicate.slt (BitVec.ofNat 32 a) 64#32 = BitVec.ofBool (decide (a < 64)) := fun a ha =>
    congrArg BitVec.ofBool (Cert.Proof.KI.slt_ofNat a 64 (by omega) (by omega))
  rw [hc k.val hk, hc l.val hl]
  by_cases h : k.val < 64 <;> by_cases h' : l.val < 64 <;>
    simp only [decide_eq_true_iff, h, h', decide_true, decide_false, if_true, if_false, iff_self, iff_true, iff_false, true_iff, false_iff, not_true, not_false_iff]
  all_goals
    show (((IntOp.cmpi CmpIPredicate.eq (BitVec.ofBool _) (BitVec.ofBool _)).toNat : ℝ) : EReal) = _
    simp [IntOp.cmpi]

/-! ## The blocks -/

/-- Every token and weight is a real. -/
abbrev Reals {s : Shape} {f : FTy} (x : FVec Ideal s f) : Prop := ∀ i, ∃ r : ℝ, x i = (r : EReal)

/-- What the blocks of a grid point hold of the arguments; `token` is the token of a row of a block. -/
structure Blocks {T : Type} {n : ℕ} (token : T → Fin 256 → Fin n) (x : FVec Ideal (M2 n 1024) .f32) (g : FVec Ideal (M1 1024) .f32) (w : FVec Ideal (M2 1024 3456) .bf16)
    (q s v : FVec Ideal (M1 64) .f32) (b0 : T → Vec Ideal S256x1024 .f32) (b1 : T → Vec Ideal S1x1024 .f32) (b2 : T → Vec Ideal S1024x3456 .bf16)
    (b3 b4 b5 : T → Vec Ideal S1x128 .f32) (b6 : T → Vec Ideal S128x128 .bf16) : Prop where
  all : ∀ r, ∃ t i, token t i = r
  tokens : ∀ t i d, b0 t (ix2 i d) = x (ix2 (token t i) d)
  gain : ∀ t (d : Fin 1024), b1 t (ix2 (0 : Fin 1) d) = g (ix1 d)
  weights : ∀ t, b2 t = w
  query : ∀ t (l : Fin 128), lanes (b3 t) l.val = gains q l.val
  slc : ∀ t (l : Fin 128), lanes (b4 t) l.val = gains s l.val
  win : ∀ t (l : Fin 128), lanes (b5 t) l.val = gains v l.val
  halves : ∀ t, IsHalves (b6 t)

namespace Blocks

variable {T : Type} {n : ℕ} {token : T → Fin 256 → Fin n} {x : FVec Ideal (M2 n 1024) .f32} {g : FVec Ideal (M1 1024) .f32} {w : FVec Ideal (M2 1024 3456) .bf16}
  {q s v : FVec Ideal (M1 64) .f32} {b0 : T → Vec Ideal S256x1024 .f32} {b1 : T → Vec Ideal S1x1024 .f32} {b2 : T → Vec Ideal S1024x3456 .bf16}
  {b3 b4 b5 : T → Vec Ideal S1x128 .f32} {b6 : T → Vec Ideal S128x128 .bf16} (B : Blocks token x g w q s v b0 b1 b2 b3 b4 b5 b6)

include B

/-- A row of a grid point's block has its token's products. -/
theorem row_eq (t : T) (i : Fin 256) : row (b0 t) (b1 t) (b2 t) i = proj (fun d => x (ix2 (token t i) d)) (fun d => g (ix1 d)) w := by
  unfold row
  rw [B.weights]
  exact congrArg₂ (fun a b => proj a b w) (funext fun d => B.tokens t i d) (funext fun d => B.gain t d)

/-- The products of a block's row are reals where the arguments are. -/
theorem row_real (hx : Reals x) (hg : Reals g) (hw : Reals w) (t : T) (i : Fin 256) (k : ℕ) : ∃ r : ℝ, row (b0 t) (b1 t) (b2 t) i k = (r : EReal) := by
  rw [B.row_eq]
  exact proj_real _ _ _ (fun _ => hx _) (fun _ => hg _) (fun _ => hw _) k

/-- An array of which every grid point wrote its 256 tokens' rows. -/
theorem array {k : ℕ} {f : FTy} (A : FVec Ideal (M2 n k) f) (o : (ℕ → EReal) → ℕ → EReal) (E : T → (M2 256 k).Idx → (M2 n k).Idx)
    (hE : ∀ t i y, E t (ix2 i y) = ix2 (token t i) y) (out : T → FVec Ideal (M2 256 k) f) (hb : ∀ t j, A (E t j) = out t j)
    (ho : ∀ t i (y : Fin k), out t (ix2 i y) = o (row (b0 t) (b1 t) (b2 t) i) y.val) : A = results f o x g w :=
  array_ext A _ token B.all E hE out hb fun t i y => (ho t i y).trans (by rw [B.row_eq]; rfl)

/-- The fifteen arrays, from their blocks. -/
theorem holds (hx : Reals x) (hg : Reals g) (hw : Reals w)
    (E512 : T → (M2 256 512).Idx → (M2 n 512).Idx) (h512 : ∀ t i y, E512 t (ix2 i y) = ix2 (token t i) y)
    (E256 : T → (M2 256 256).Idx → (M2 n 256).Idx) (h256 : ∀ t i y, E256 t (ix2 i y) = ix2 (token t i) y)
    (E128 : T → (M2 256 128).Idx → (M2 n 128).Idx) (h128 : ∀ t i y, E128 t (ix2 i y) = ix2 (token t i) y)
    {A7 : FVec Ideal (M2 n 512) .bf16} (h7 : ∀ t j, A7 (E512 t j) = out0_7 (b0 t) (b1 t) (b2 t) (b3 t) (b4 t) (b5 t) (b6 t) j)
    {A8 : FVec Ideal (M2 n 256) .f32} (h8 : ∀ t j, A8 (E256 t j) = out0_8 (b0 t) (b1 t) (b2 t) (b3 t) (b4 t) (b5 t) (b6 t) j)
    {A9 : FVec Ideal (M2 n 256) .f32} (h9 : ∀ t j, A9 (E256 t j) = out0_9 (b0 t) (b1 t) (b2 t) (b3 t) (b4 t) (b5 t) (b6 t) j)
    {A10 : FVec Ideal (M2 n 256) .f32} (h10 : ∀ t j, A10 (E256 t j) = out0_10 (b0 t) (b1 t) (b2 t) (b3 t) (b4 t) (b5 t) (b6 t) j)
    {A11 : FVec Ideal (M2 n 128) .bf16} (h11 : ∀ t j, A11 (E128 t j) = out0_11 (b0 t) (b1 t) (b2 t) (b3 t) (b4 t) (b5 t) (b6 t) j)
    {A12 : FVec Ideal (M2 n 256) .bf16} (h12 : ∀ t j, A12 (E256 t j) = out0_12 (b0 t) (b1 t) (b2 t) (b3 t) (b4 t) (b5 t) (b6 t) j)
    {A13 : FVec Ideal (M2 n 128) .bf16} (h13 : ∀ t j, A13 (E128 t j) = out0_13 (b0 t) (b1 t) (b2 t) (b3 t) (b4 t) (b5 t) (b6 t) j)
    {A14 : FVec Ideal (M2 n 256) .bf16} (h14 : ∀ t j, A14 (E256 t j) = out0_14 (b0 t) (b1 t) (b2 t) (b3 t) (b4 t) (b5 t) (b6 t) j)
    {A15 : FVec Ideal (M2 n 128) .f32} (h15 : ∀ t j, A15 (E128 t j) = out0_15 (b0 t) (b1 t) (b2 t) (b3 t) (b4 t) (b5 t) (b6 t) j)
    {A16 : FVec Ideal (M2 n 512) .f32} (h16 : ∀ t j, A16 (E512 t j) = out0_16 (b0 t) (b1 t) (b2 t) (b3 t) (b4 t) (b5 t) (b6 t) j)
    {A17 : FVec Ideal (M2 n 512) .bf16} (h17 : ∀ t j, A17 (E512 t j) = out0_17 (b0 t) (b1 t) (b2 t) (b3 t) (b4 t) (b5 t) (b6 t) j)
    {A18 : FVec Ideal (M2 n 512) .f32} (h18 : ∀ t j, A18 (E512 t j) = out0_18 (b0 t) (b1 t) (b2 t) (b3 t) (b4 t) (b5 t) (b6 t) j)
    {A19 : FVec Ideal (M2 n 256) .bf16} (h19 : ∀ t j, A19 (E256 t j) = out0_19 (b0 t) (b1 t) (b2 t) (b3 t) (b4 t) (b5 t) (b6 t) j)
    {A20 : FVec Ideal (M2 n 256) .bf16} (h20 : ∀ t j, A20 (E256 t j) = out0_20 (b0 t) (b1 t) (b2 t) (b3 t) (b4 t) (b5 t) (b6 t) j)
    {A21 : FVec Ideal (M2 n 512) .f32} (h21 : ∀ t j, A21 (E512 t j) = out0_21 (b0 t) (b1 t) (b2 t) (b3 t) (b4 t) (b5 t) (b6 t) j)
    : Holds x g w q s v A7 A8 A9 A10 A11 A12 A13 A14 A15 A16 A17 A18 A19 A20 A21 where
  query := B.array (f := .bf16) A7 _ E512 h512 _ h7 fun t i y => query_block (b0 t) (b1 t) (b2 t) (b3 t) (b4 t) (b5 t) (b6 t) (B.halves t) (B.row_real hx hg hw t) (gains q) (gains_mod _) (B.query t) i y
  cmp := B.array (f := .f32) A8 _ E256 h256 _ h8 fun t i y => cmp_block (b0 t) (b1 t) (b2 t) (b3 t) (b4 t) (b5 t) (b6 t) i y
  slc := B.array (f := .f32) A9 _ E256 h256 _ h9 fun t i y => slc_block (b0 t) (b1 t) (b2 t) (b3 t) (b4 t) (b5 t) (b6 t) (B.halves t) (B.row_real hx hg hw t) (gains s) (B.slc t) i y
  win := B.array (f := .f32) A10 _ E256 h256 _ h10 fun t i y => win_block (b0 t) (b1 t) (b2 t) (b3 t) (b4 t) (b5 t) (b6 t) (B.halves t) (B.row_real hx hg hw t) (gains v) (B.win t) i y
  slcK := B.array (f := .bf16) A11 _ E128 h128 _ h11 fun t i y => slcK_block (b0 t) (b1 t) (b2 t) (b3 t) (b4 t) (b5 t) (b6 t) (B.halves t) (B.row_real hx hg hw t) (gains s) (B.slc t) i y
  slcV := B.array (f := .bf16) A12 _ E256 h256 _ h12 fun t i y => slcV_block (b0 t) (b1 t) (b2 t) (b3 t) (b4 t) (b5 t) (b6 t) i y
  winK := B.array (f := .bf16) A13 _ E128 h128 _ h13 fun t i y => winK_block (b0 t) (b1 t) (b2 t) (b3 t) (b4 t) (b5 t) (b6 t) (B.halves t) (B.row_real hx hg hw t) (gains v) (B.win t) i y
  winV := B.array (f := .bf16) A14 _ E256 h256 _ h14 fun t i y => winV_block (b0 t) (b1 t) (b2 t) (b3 t) (b4 t) (b5 t) (b6 t) i y
  share := B.array (f := .f32) A15 _ E128 h128 _ h15 fun t i y => share_block (b0 t) (b1 t) (b2 t) (b3 t) (b4 t) (b5 t) (b6 t) i y
  gateA := B.array (f := .f32) A16 _ E512 h512 _ h16 fun t i y => gateA_block (b0 t) (b1 t) (b2 t) (b3 t) (b4 t) (b5 t) (b6 t) i y
  sbQuery := B.array (f := .bf16) A17 _ E512 h512 _ h17 fun t i y => sbQuery_block (b0 t) (b1 t) (b2 t) (b3 t) (b4 t) (b5 t) (b6 t) i y
  sb := B.array (f := .f32) A18 _ E512 h512 _ h18 fun t i y => sb_block (b0 t) (b1 t) (b2 t) (b3 t) (b4 t) (b5 t) (b6 t) i y
  sbK := B.array (f := .bf16) A19 _ E256 h256 _ h19 fun t i y => sbK_block (b0 t) (b1 t) (b2 t) (b3 t) (b4 t) (b5 t) (b6 t) i y
  sbV := B.array (f := .bf16) A20 _ E256 h256 _ h20 fun t i y => sbV_block (b0 t) (b1 t) (b2 t) (b3 t) (b4 t) (b5 t) (b6 t) i y
  gateB := B.array (f := .f32) A21 _ E512 h512 _ h21 fun t i y => gateB_block (b0 t) (b1 t) (b2 t) (b3 t) (b4 t) (b5 t) (b6 t) i y

end Blocks

end Cert.Proof.PJ

end
-- ==== Proof.Proj.Prompt.lean ====
/-
  The projection of the prompt's tokens: its blocks and arrays, its reference, and its claims.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Finite
public import proofs.«01_k».proof.Proof.Proj.Parts
public import Idealize.ShloMosaic.Lib.Pipeline.Value
public import Idealize.ShloMosaic.Lib.Pipeline.Covers
public import Idealize.ShloMosaic.Lib.StableHlo.Run
public import Idealize.ShloMosaic.Adequacy
public import Idealize.ShloMosaic.Init

@[expose] public section

set_option maxRecDepth 16384

noncomputable section

namespace Cert.Proof.PJ.Prompt

open Idealize.ShloMosaic Idealize.SL.Sem
open Idealize.ShloMosaic.TcCoe
open Cert.Proof.PJ.Host (M0 M1 M2 results laid laid_real)
open Cert.Proof.PJ.Ref (Holds Sides)

/-! ## The kernel -/

section

open Cert.Kernel2Ideal Cert.Kernel2Ideal.Gen Cert.Kernel2Ideal.Value

theorem index0 : ∀ t : Fin grid0.N, win0_0.index t = ![(grid0.coords t 0).val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index6 : ∀ t : Fin grid0.N, win0_6.index t = ![0, 0] := by decide +kernel
theorem index7 : ∀ t : Fin grid0.N, win0_7.index t = ![(grid0.coords t 0).val, 0] := by decide +kernel
theorem index8 : ∀ t : Fin grid0.N, win0_8.index t = ![(grid0.coords t 0).val, 0] := by decide +kernel
theorem index11 : ∀ t : Fin grid0.N, win0_11.index t = ![(grid0.coords t 0).val, 0] := by decide +kernel

variable (m : (ℓ : Loc nD τ sig) → Buf (Elt Ideal) ℓ) (c : Dev nD)

/-- The token of a row of a grid point's block. -/
abbrev token (t : Fin grid0.N) (i : Fin 256) : Fin 16384 :=
  ⟨256 * (grid0.coords t 0).val + i.val, by have h : (grid0.coords t 0).val < 64 := (grid0.coords t 0).isLt; have := i.isLt; omega⟩

/-- Every token is in one grid point's block. -/
theorem token_surj (r : Fin 16384) : ∃ t i, token t i = r := by
  have hr := r.isLt
  obtain ⟨t, ht⟩ := Pipeline.Grid.coords_surjective grid0 (fun a => match a with
    | ⟨0, _⟩ => (⟨r.val / 256, by show _ < 64; omega⟩ : Fin 64))
  have h0 : (grid0.coords t 0).val = r.val / 256 := by rw [ht]
  exact ⟨t, ⟨r.val % 256, Nat.mod_lt _ (by decide)⟩, Fin.ext (by
    show 256 * (grid0.coords t 0).val + r.val % 256 = r.val
    omega)⟩

/-! Where the blocks lie, by width. -/

theorem emb1024 (t : Fin grid0.N) (i : Fin 256) (y : Fin 1024) : (win0_0.blk t).view.emb (ix2 i y) = ix2 (token t i) y := by
  refine funext fun x => Fin.ext ?_
  fin_cases x <;> blk_simp [index0 t] <;> simp [ix2, index0 t]
  exact Nat.mul_comm _ _
theorem emb512 (t : Fin grid0.N) (i : Fin 256) (y : Fin 512) : (win0_7.blk t).view.emb (ix2 i y) = ix2 (token t i) y := by
  refine funext fun x => Fin.ext ?_
  fin_cases x <;> blk_simp [index7 t] <;> simp [ix2, index7 t]
  exact Nat.mul_comm _ _
theorem emb256 (t : Fin grid0.N) (i : Fin 256) (y : Fin 256) : (win0_8.blk t).view.emb (ix2 i y) = ix2 (token t i) y := by
  refine funext fun x => Fin.ext ?_
  fin_cases x <;> blk_simp [index8 t] <;> simp [ix2, index8 t]
  exact Nat.mul_comm _ _
theorem emb128 (t : Fin grid0.N) (i : Fin 256) (y : Fin 128) : (win0_11.blk t).view.emb (ix2 i y) = ix2 (token t i) y := by
  refine funext fun x => Fin.ext ?_
  fin_cases x <;> blk_simp [index11 t] <;> simp [ix2, index11 t]
  exact Nat.mul_comm _ _
theorem embGain (t : Fin grid0.N) (y : Fin 1024) : (win0_1.blk t).view.emb (ix2 (0 : Fin 1) y) = ix2 (0 : Fin 1) y := by
  refine funext fun x => Fin.ext ?_
  fin_cases x <;> blk_simp [index1 t] <;> simp [ix2, index1 t]
theorem embWeights (t : Fin grid0.N) (k : Fin 1024) (y : Fin 3456) : (win0_2.blk t).view.emb (ix2 k y) = ix2 k y := by
  refine funext fun x => Fin.ext ?_
  fin_cases x <;> blk_simp [index2 t] <;> simp [ix2, index2 t]
theorem embHead (t : Fin grid0.N) (y : Fin 128) : (win0_3.blk t).view.emb (ix2 (0 : Fin 1) y) = ix2 (0 : Fin 1) y := by
  refine funext fun x => Fin.ext ?_
  fin_cases x <;> blk_simp [index3 t] <;> simp [ix2, index3 t]
theorem embHalves (t : Fin grid0.N) (k y : Fin 128) : (win0_6.blk t).view.emb (ix2 k y) = ix2 k y := by
  refine funext fun x => Fin.ext ?_
  fin_cases x <;> blk_simp [index6 t] <;> simp [ix2, index6 t]

/-! What the host lays out before the call. -/

/-- The gains, the weights, the heads' gains and the halves' table as the call finds them. -/
theorem host : V m c main_v17 = shapeCast S1x1024 (m ((c.tc : Thread nD τ).loc main_arg1)) shapeCasts_S1024_S1x1024 ∧ V m c main_v6 = hostWeights (fun i => lit0 (S3352.rowMajor i)) (m ((c.tc : Thread nD τ).loc main_arg2))
    ∧ V m c main_v21 = twice (m ((c.tc : Thread nD τ).loc main_arg3)) ∧ V m c main_v25 = twice (m ((c.tc : Thread nD τ).loc main_arg4)) ∧ V m c main_v29 = twice (m ((c.tc : Thread nD τ).loc main_arg5)) ∧ V m c main_v16 = halves := by
  unfold V hostWeights picked twice halves
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  generalize (fun i => lit0 (S3352.rowMajor i) : S3352.Idx → BitVec 32) = p
  refine ⟨?_, ?_, ?_, ?_, ?_, ?_⟩ <;> after_results_simp <;> rfl

/-- The weights stand by place. -/
theorem V_weights : V m c main_v6 = laid (m ((c.tc : Thread nD τ).loc main_arg2)) :=
  (host m c).2.1.trans (hostWeights_eq _ listed (m ((c.tc : Thread nD τ).loc main_arg2)))

set_option maxHeartbeats 4000000 in
/-- The blocks are the arguments' parts. -/
theorem blocks : Blocks (T := Fin grid0.N) (n := 16384) token (m ((c.tc : Thread nD τ).loc main_arg0)) (m ((c.tc : Thread nD τ).loc main_arg1)) (laid (m ((c.tc : Thread nD τ).loc main_arg2)))
    (m ((c.tc : Thread nD τ).loc main_arg3)) (m ((c.tc : Thread nD τ).loc main_arg4)) (m ((c.tc : Thread nD τ).loc main_arg5))
    (iblk m c 0) (iblk m c 1) (iblk m c 2) (iblk m c 3) (iblk m c 4) (iblk m c 5) (iblk m c 6) where
  all := token_surj
  tokens t i d := congrArg (m ((c.tc : Thread nD τ).loc main_arg0)) (emb1024 t i d)
  gain t d := (congrArg (V m c main_v17) (embGain t d)).trans ((congrFun (host m c).1 _).trans (gainRow_apply (m ((c.tc : Thread nD τ).loc main_arg1)) d))
  weights t := funext fun j => (congrArg (iblk m c 2 t) (eq_ix2 (n0 := 1024) (n1 := 3456) j)).trans
    ((congrArg (V m c main_v6) (embWeights t (j 0) (j 1))).trans ((congrArg (V m c main_v6) (eq_ix2 (n0 := 1024) (n1 := 3456) j).symm).trans (congrFun (V_weights m c) j)))
  query t l := (lanes_lane _ l).symm.trans ((congrArg (V m c main_v21) (embHead t l)).trans ((congrFun (host m c).2.2.1 _).trans (twice_apply (m ((c.tc : Thread nD τ).loc main_arg3)) l)))
  slc t l := (lanes_lane _ l).symm.trans ((congrArg (V m c main_v25) (embHead t l)).trans ((congrFun (host m c).2.2.2.1 _).trans (twice_apply (m ((c.tc : Thread nD τ).loc main_arg4)) l)))
  win t l := (lanes_lane _ l).symm.trans ((congrArg (V m c main_v29) (embHead t l)).trans ((congrFun (host m c).2.2.2.2.1 _).trans (twice_apply (m ((c.tc : Thread nD τ).loc main_arg5)) l)))
  halves t k l := (congrArg (V m c main_v16) (embHalves t k l)).trans ((congrFun (host m c).2.2.2.2.2 _).trans (halves_apply k l))

set_option maxHeartbeats 4000000 in
/-- On real arguments the call's arrays hold the outputs. -/
theorem kernel_holds (hx : Reals (f := .f32) (s := M2 16384 1024) (m ((c.tc : Thread nD τ).loc main_arg0))) (hg : Reals (f := .f32) (s := M1 1024) (m ((c.tc : Thread nD τ).loc main_arg1)))
    (hw : Reals (f := .f32) (s := M2 1024 3352) (m ((c.tc : Thread nD τ).loc main_arg2))) :
    Holds (n := 16384) (m ((c.tc : Thread nD τ).loc main_arg0)) (m ((c.tc : Thread nD τ).loc main_arg1)) (laid (m ((c.tc : Thread nD τ).loc main_arg2)))
      (m ((c.tc : Thread nD τ).loc main_arg3)) (m ((c.tc : Thread nD τ).loc main_arg4)) (m ((c.tc : Thread nD τ).loc main_arg5))
      ((dats m 0 c).arrAt 7 cfg0.N) ((dats m 0 c).arrAt 8 cfg0.N) ((dats m 0 c).arrAt 9 cfg0.N) ((dats m 0 c).arrAt 10 cfg0.N) ((dats m 0 c).arrAt 11 cfg0.N) ((dats m 0 c).arrAt 12 cfg0.N) ((dats m 0 c).arrAt 13 cfg0.N) ((dats m 0 c).arrAt 14 cfg0.N) ((dats m 0 c).arrAt 15 cfg0.N) ((dats m 0 c).arrAt 16 cfg0.N) ((dats m 0 c).arrAt 17 cfg0.N) ((dats m 0 c).arrAt 18 cfg0.N) ((dats m 0 c).arrAt 19 cfg0.N) ((dats m 0 c).arrAt 20 cfg0.N) ((dats m 0 c).arrAt 21 cfg0.N) :=
  (blocks m c).holds hx hg (laid_real _ hw) (fun t => (win0_7.blk t).view.emb) emb512 (fun t => (win0_8.blk t).view.emb) emb256 (fun t => (win0_11.blk t).view.emb) emb128
    (fun t j => (congrFun (blocks7 m c t (flush0_7 t)) j).trans (congrFun (flushed7 m c t) j))
    (fun t j => (congrFun (blocks8 m c t (flush0_8 t)) j).trans (congrFun (flushed8 m c t) j))
    (fun t j => (congrFun (blocks9 m c t (flush0_9 t)) j).trans (congrFun (flushed9 m c t) j))
    (fun t j => (congrFun (blocks10 m c t (flush0_10 t)) j).trans (congrFun (flushed10 m c t) j))
    (fun t j => (congrFun (blocks11 m c t (flush0_11 t)) j).trans (congrFun (flushed11 m c t) j))
    (fun t j => (congrFun (blocks12 m c t (flush0_12 t)) j).trans (congrFun (flushed12 m c t) j))
    (fun t j => (congrFun (blocks13 m c t (flush0_13 t)) j).trans (congrFun (flushed13 m c t) j))
    (fun t j => (congrFun (blocks14 m c t (flush0_14 t)) j).trans (congrFun (flushed14 m c t) j))
    (fun t j => (congrFun (blocks15 m c t (flush0_15 t)) j).trans (congrFun (flushed15 m c t) j))
    (fun t j => (congrFun (blocks16 m c t (flush0_16 t)) j).trans (congrFun (flushed16 m c t) j))
    (fun t j => (congrFun (blocks17 m c t (flush0_17 t)) j).trans (congrFun (flushed17 m c t) j))
    (fun t j => (congrFun (blocks18 m c t (flush0_18 t)) j).trans (congrFun (flushed18 m c t) j))
    (fun t j => (congrFun (blocks19 m c t (flush0_19 t)) j).trans (congrFun (flushed19 m c t) j))
    (fun t j => (congrFun (blocks20 m c t (flush0_20 t)) j).trans (congrFun (flushed20 m c t) j))
    (fun t j => (congrFun (blocks21 m c t (flush0_21 t)) j).trans (congrFun (flushed21 m c t) j))

end

/-! ## The reference -/

section

open Cert.Reference2Ideal Cert.Reference2Ideal.Gen

/-- The shapes' conditions. -/
theorem sides : Sides 16384 := by
  constructor <;> first | decide | assumption

/-- The reference's results hold the outputs, and its arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      Holds (n := 16384) (m ((c.tc : Thread nD τ).loc main_arg0)) (m ((c.tc : Thread nD τ).loc main_arg1)) (laid (m ((c.tc : Thread nD τ).loc main_arg2)))
        (m ((c.tc : Thread nD τ).loc main_arg3)) (m ((c.tc : Thread nD τ).loc main_arg4)) (m ((c.tc : Thread nD τ).loc main_arg5))
        (r.2.mem ((c.tc : Thread nD τ).loc main_v88)) (r.2.mem ((c.tc : Thread nD τ).loc main_v89)) (r.2.mem ((c.tc : Thread nD τ).loc main_v90)) (r.2.mem ((c.tc : Thread nD τ).loc main_v91)) (r.2.mem ((c.tc : Thread nD τ).loc main_v92)) (r.2.mem ((c.tc : Thread nD τ).loc main_v96)) (r.2.mem ((c.tc : Thread nD τ).loc main_v97)) (r.2.mem ((c.tc : Thread nD τ).loc main_v101)) (r.2.mem ((c.tc : Thread nD τ).loc main_v107)) (r.2.mem ((c.tc : Thread nD τ).loc main_v108)) (r.2.mem ((c.tc : Thread nD τ).loc main_v111)) (r.2.mem ((c.tc : Thread nD τ).loc main_v112)) (r.2.mem ((c.tc : Thread nD τ).loc main_v113)) (r.2.mem ((c.tc : Thread nD τ).loc main_v114)) (r.2.mem ((c.tc : Thread nD τ).loc main_v115))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  refine (θ_run (defs (F := Ideal)) _ _).mono (fun r h c => ?_) (Cert.Reference2Ideal.Value.run (F := Ideal) m ρ)
  obtain ⟨h0, h1, h2, h3, h4, h5, h6, h7, h8, h9, h10, h11, h12, h13, h14, ha⟩ := h c
  exact ⟨⟨h0.trans (Ref.query_eq sides (Ref.cutA sides _ _ _ (by decide) Ref.place_query slices_S16384x3352_S16384x512_0_0) _),
    h1.trans (Ref.rawPair_eq rfl rfl (Ref.cut sides _ _ _ (by decide) (Ref.place_early 512 (by decide)) slices_S16384x3352_S16384x128_0_512) (Ref.cut sides _ _ _ (by decide) (Ref.place_early 640 (by decide)) slices_S16384x3352_S16384x128_0_640) _),
    h2.trans (by
      unfold Cert.Reference2Ideal.Value.res_main_v90
      exact Ref.pair_eq sides rfl rfl (Ref.cut sides _ _ _ (by decide) (Ref.place_early 768 (by decide)) slices_S16384x3352_S16384x128_0_768) (Ref.cut sides _ _ _ (by decide) (Ref.place_early 896 (by decide)) slices_S16384x3352_S16384x128_0_896) _),
    h3.trans (by
      unfold Cert.Reference2Ideal.Value.res_main_v91
      exact Ref.pair_eq sides rfl rfl (Ref.cut sides _ _ _ (by decide) (Ref.place_early 1024 (by decide)) slices_S16384x3352_S16384x128_0_1024) (Ref.cut sides _ _ _ (by decide) (Ref.place_early 1152 (by decide)) slices_S16384x3352_S16384x128_0_1152) _),
    h4.trans (Ref.head_eq sides rfl (Ref.cut sides _ _ _ (by decide) (Ref.place_early 768 (by decide)) slices_S16384x3352_S16384x128_0_768) _),
    h5.trans (Ref.beside_eq sides (Ref.cut sides _ _ _ (by decide) (Ref.place_early 896 (by decide)) slices_S16384x3352_S16384x128_0_896)),
    h6.trans (Ref.head_eq sides rfl (Ref.cut sides _ _ _ (by decide) (Ref.place_early 1024 (by decide)) slices_S16384x3352_S16384x128_0_1024) _),
    h7.trans (Ref.beside_eq sides (Ref.cut sides _ _ _ (by decide) (Ref.place_early 1152 (by decide)) slices_S16384x3352_S16384x128_0_1152)),
    h8.trans (Ref.share_eq sides (Ref.cutShare sides _ _ _)),
    h9.trans (Ref.gate_eq sides (Ref.cutA sides _ _ _ (by decide) Ref.place_gateA slices_S16384x3352_S16384x512_0_1304)),
    h10.trans (Ref.scaled_eq sides (Ref.cutB sides _ _ _ (by decide) Ref.place_sb slices_S16384x3352_S16384x512_0_1816)),
    h11.trans (Ref.rawPair_eq rfl rfl (Ref.cut sides _ _ _ (by decide) (Ref.place_late 2304 2328 (by decide)) slices_S16384x3352_S16384x256_0_2328) (Ref.cut sides _ _ _ (by decide) (Ref.place_late 2560 2584 (by decide)) slices_S16384x3352_S16384x256_0_2584) _),
    h12.trans (Ref.raw_eq sides (Ref.cut sides _ _ _ (by decide) (Ref.place_late 2304 2328 (by decide)) slices_S16384x3352_S16384x256_0_2328)),
    h13.trans (Ref.raw_eq sides (Ref.cut sides _ _ _ (by decide) (Ref.place_late 2560 2584 (by decide)) slices_S16384x3352_S16384x256_0_2584)),
    h14.trans (Ref.gate_eq sides (Ref.cutB sides _ _ _ (by decide) Ref.place_gateB slices_S16384x3352_S16384x512_0_2840))⟩, ha⟩

end

/-! ## The claims -/

/-- The precondition's side conditions. -/
instance preFacts : Cert.Pre_finite_tokens_and_weights.Facts where
  bcast_S_S16384x1024 := by decide
  reducesTo_S16384x1024_S_d0_1 := by decide
  h_S_ := by decide
  bcast_S_S1024 := by decide
  reducesTo_S1024_S_d0 := by decide
  bcast_S_S1024x3352 := by decide
  reducesTo_S1024x3352_S_d0_1 := by decide

instance : Subsingleton Cert.Pre_finite_tokens_and_weights.S_.Idx := ⟨fun a b => funext fun d => d.elim0⟩

/-- Under the precondition the tokens, the norm's gains and the weights are reals. -/
theorem real_of_pre (x : FVec Ideal (M2 16384 1024) .f32) (g : FVec Ideal (M1 1024) .f32) (w : FVec Ideal (M2 1024 3352) .f32) (q s v : FVec Ideal (M1 64) .f32)
    (h : Cert.Pre_finite_tokens_and_weights.fn (F := Ideal) x g w q s v = (fun _ => 1#1)) : Reals x ∧ Reals g ∧ Reals w := by
  obtain ⟨hxg, hw⟩ := IntOp.andi_eq_one.1 (congrFun h (fun d => d.elim0))
  obtain ⟨hx, hg⟩ := IntOp.andi_eq_one.1 hxg
  exact ⟨fun i => Pre.real_of_abs _ (Host.reduce_andi_all _ _ _ _ _ hx i), fun i => Pre.real_of_abs _ (Host.reduce_andi_all _ _ _ _ _ hg i),
    fun i => Pre.real_of_abs _ (Host.reduce_andi_all _ _ _ _ _ hw i)⟩

/-- The projection of the prompt's tokens runs, its arguments end unchanged and its counters at zero. -/
theorem frame_kernel : Cert.quiescent_Kernel2 (hKernel2 := Cert.Kernel2.Gen.facts) :=
  fun m ρ _ => Cert.Kernel2.Gen.frame m ρ

/-- The idealized projection likewise. -/
theorem frame_kernelIdeal : Cert.quiescent_Kernel2Ideal (hKernel2Ideal := Cert.Kernel2Ideal.Gen.facts) :=
  fun m ρ _ => Cert.Kernel2Ideal.Gen.frame m ρ

/-- The reference likewise; it declares no semaphore. -/
theorem frame_referenceIdeal : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩) (run m ρ)

set_option maxHeartbeats 4000000 in
/-- On finite tokens, gains and weights every result of the idealized projection is the reference's. -/
theorem algebraic : Cert.algebraic_Kernel2Ideal_Reference2Ideal_pre_finite_tokens_and_weights
    (hKernel2Ideal := Cert.Kernel2Ideal.Gen.facts) (hReference2Ideal := Cert.Reference2Ideal.Gen.facts)
    (hPre_finite_tokens_and_weights := preFacts) := by
  intro m g m' g' hpre hag
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N, fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 19 Cert.Kernel2Ideal.cfg0.N, fun c => (Cert.Kernel2Ideal.Gen.dats m 0 c).arrAt 20 Cert.Kernel2Ideal.cfg0.N, fun c => (Cert.Kernel2Ideal.Gen.dats m 0 c).arrAt 21 Cert.Kernel2Ideal.cfg0.N,
    Cert.Kernel2Ideal.Value.run_blocks m g, ?_⟩
  refine (θ_run Cert.Reference2Ideal.defs _ _).mono (fun r h c => ?_) (run m' g')
  obtain ⟨e0, e1, e2, e3, e4, e5⟩ := hag c
  obtain ⟨hx, hg, hw⟩ := real_of_pre _ _ _ _ _ _ (hpre c)
  have k := kernel_holds m c hx hg hw
  obtain ⟨r, ha⟩ := h c
  rw [e0, e1, e2, e3, e4, e5] at r
  exact ⟨r.query.trans k.query.symm, r.cmp.trans k.cmp.symm, r.slc.trans k.slc.symm, r.win.trans k.win.symm, r.slcK.trans k.slcK.symm, r.slcV.trans k.slcV.symm, r.winK.trans k.winK.symm, r.winV.trans k.winV.symm, r.share.trans k.share.symm, r.gateA.trans k.gateA.symm, r.sbQuery.trans k.sbQuery.symm, r.sb.trans k.sb.symm, r.sbK.trans k.sbK.symm, r.sbV.trans k.sbV.symm, r.gateB.trans k.gateB.symm, ha⟩

end Cert.Proof.PJ.Prompt

end
-- ==== Proof.Proj.Sample.lean ====
/-
  The projection of the sample's tokens: its blocks and arrays, its reference, and its claims.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Finite
public import proofs.«01_k».proof.Proof.Proj.Parts
public import Idealize.ShloMosaic.Lib.Pipeline.Value
public import Idealize.ShloMosaic.Lib.Pipeline.Covers
public import Idealize.ShloMosaic.Lib.StableHlo.Run
public import Idealize.ShloMosaic.Adequacy
public import Idealize.ShloMosaic.Init

@[expose] public section

set_option maxRecDepth 16384

noncomputable section

namespace Cert.Proof.PJ.Sample

open Idealize.ShloMosaic Idealize.SL.Sem
open Idealize.ShloMosaic.TcCoe
open Cert.Proof.PJ.Host (M0 M1 M2 results laid laid_real)
open Cert.Proof.PJ.Ref (Holds Sides)

/-! ## The kernel -/

section

open Cert.Kernel5Ideal Cert.Kernel5Ideal.Gen Cert.Kernel5Ideal.Value

theorem index0 : ∀ t : Fin grid0.N, win0_0.index t = ![(grid0.coords t 0).val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index6 : ∀ t : Fin grid0.N, win0_6.index t = ![0, 0] := by decide +kernel
theorem index7 : ∀ t : Fin grid0.N, win0_7.index t = ![(grid0.coords t 0).val, 0] := by decide +kernel
theorem index8 : ∀ t : Fin grid0.N, win0_8.index t = ![(grid0.coords t 0).val, 0] := by decide +kernel
theorem index11 : ∀ t : Fin grid0.N, win0_11.index t = ![(grid0.coords t 0).val, 0] := by decide +kernel

variable (m : (ℓ : Loc nD τ sig) → Buf (Elt Ideal) ℓ) (c : Dev nD)

/-- The token of a row of a grid point's block. -/
abbrev token (t : Fin grid0.N) (i : Fin 256) : Fin 512 :=
  ⟨256 * (grid0.coords t 0).val + i.val, by have h : (grid0.coords t 0).val < 2 := (grid0.coords t 0).isLt; have := i.isLt; omega⟩

/-- Every token is in one grid point's block. -/
theorem token_surj (r : Fin 512) : ∃ t i, token t i = r := by
  have hr := r.isLt
  obtain ⟨t, ht⟩ := Pipeline.Grid.coords_surjective grid0 (fun a => match a with
    | ⟨0, _⟩ => (⟨r.val / 256, by show _ < 2; omega⟩ : Fin 2))
  have h0 : (grid0.coords t 0).val = r.val / 256 := by rw [ht]
  exact ⟨t, ⟨r.val % 256, Nat.mod_lt _ (by decide)⟩, Fin.ext (by
    show 256 * (grid0.coords t 0).val + r.val % 256 = r.val
    omega)⟩

/-! Where the blocks lie, by width. -/

theorem emb1024 (t : Fin grid0.N) (i : Fin 256) (y : Fin 1024) : (win0_0.blk t).view.emb (ix2 i y) = ix2 (token t i) y := by
  refine funext fun x => Fin.ext ?_
  fin_cases x <;> blk_simp [index0 t] <;> simp [ix2, index0 t]
  exact Nat.mul_comm _ _
theorem emb512 (t : Fin grid0.N) (i : Fin 256) (y : Fin 512) : (win0_7.blk t).view.emb (ix2 i y) = ix2 (token t i) y := by
  refine funext fun x => Fin.ext ?_
  fin_cases x <;> blk_simp [index7 t] <;> simp [ix2, index7 t]
  exact Nat.mul_comm _ _
theorem emb256 (t : Fin grid0.N) (i : Fin 256) (y : Fin 256) : (win0_8.blk t).view.emb (ix2 i y) = ix2 (token t i) y := by
  refine funext fun x => Fin.ext ?_
  fin_cases x <;> blk_simp [index8 t] <;> simp [ix2, index8 t]
  exact Nat.mul_comm _ _
theorem emb128 (t : Fin grid0.N) (i : Fin 256) (y : Fin 128) : (win0_11.blk t).view.emb (ix2 i y) = ix2 (token t i) y := by
  refine funext fun x => Fin.ext ?_
  fin_cases x <;> blk_simp [index11 t] <;> simp [ix2, index11 t]
  exact Nat.mul_comm _ _
theorem embGain (t : Fin grid0.N) (y : Fin 1024) : (win0_1.blk t).view.emb (ix2 (0 : Fin 1) y) = ix2 (0 : Fin 1) y := by
  refine funext fun x => Fin.ext ?_
  fin_cases x <;> blk_simp [index1 t] <;> simp [ix2, index1 t]
theorem embWeights (t : Fin grid0.N) (k : Fin 1024) (y : Fin 3456) : (win0_2.blk t).view.emb (ix2 k y) = ix2 k y := by
  refine funext fun x => Fin.ext ?_
  fin_cases x <;> blk_simp [index2 t] <;> simp [ix2, index2 t]
theorem embHead (t : Fin grid0.N) (y : Fin 128) : (win0_3.blk t).view.emb (ix2 (0 : Fin 1) y) = ix2 (0 : Fin 1) y := by
  refine funext fun x => Fin.ext ?_
  fin_cases x <;> blk_simp [index3 t] <;> simp [ix2, index3 t]
theorem embHalves (t : Fin grid0.N) (k y : Fin 128) : (win0_6.blk t).view.emb (ix2 k y) = ix2 k y := by
  refine funext fun x => Fin.ext ?_
  fin_cases x <;> blk_simp [index6 t] <;> simp [ix2, index6 t]

/-! What the host lays out before the call. -/

/-- The list of columns is the prompt's. -/
theorem listed5 (i : S3352.Idx) : lit0 (S3352.rowMajor i) = BitVec.ofNat 32 (Host.place (i 0).val) := listed i

/-- The gains, the weights, the heads' gains and the halves' table as the call finds them. -/
theorem host : V m c main_v17 = shapeCast S1x1024 (m ((c.tc : Thread nD τ).loc main_arg1)) shapeCasts_S1024_S1x1024 ∧ V m c main_v6 = hostWeights (fun i => lit0 (S3352.rowMajor i)) (m ((c.tc : Thread nD τ).loc main_arg2))
    ∧ V m c main_v21 = twice (m ((c.tc : Thread nD τ).loc main_arg3)) ∧ V m c main_v25 = twice (m ((c.tc : Thread nD τ).loc main_arg4)) ∧ V m c main_v29 = twice (m ((c.tc : Thread nD τ).loc main_arg5)) ∧ V m c main_v16 = halves := by
  unfold V hostWeights picked twice halves
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  generalize (fun i => lit0 (S3352.rowMajor i) : S3352.Idx → BitVec 32) = p
  refine ⟨?_, ?_, ?_, ?_, ?_, ?_⟩ <;> after_results_simp <;> rfl

/-- The weights stand by place. -/
theorem V_weights : V m c main_v6 = laid (m ((c.tc : Thread nD τ).loc main_arg2)) :=
  (host m c).2.1.trans (hostWeights_eq _ listed5 (m ((c.tc : Thread nD τ).loc main_arg2)))

set_option maxHeartbeats 4000000 in
/-- The blocks are the arguments' parts. -/
theorem blocks : Blocks (T := Fin grid0.N) (n := 512) token (m ((c.tc : Thread nD τ).loc main_arg0)) (m ((c.tc : Thread nD τ).loc main_arg1)) (laid (m ((c.tc : Thread nD τ).loc main_arg2)))
    (m ((c.tc : Thread nD τ).loc main_arg3)) (m ((c.tc : Thread nD τ).loc main_arg4)) (m ((c.tc : Thread nD τ).loc main_arg5))
    (iblk m c 0) (iblk m c 1) (iblk m c 2) (iblk m c 3) (iblk m c 4) (iblk m c 5) (iblk m c 6) where
  all := token_surj
  tokens t i d := congrArg (m ((c.tc : Thread nD τ).loc main_arg0)) (emb1024 t i d)
  gain t d := (congrArg (V m c main_v17) (embGain t d)).trans ((congrFun (host m c).1 _).trans (gainRow_apply (m ((c.tc : Thread nD τ).loc main_arg1)) d))
  weights t := funext fun j => (congrArg (iblk m c 2 t) (eq_ix2 (n0 := 1024) (n1 := 3456) j)).trans
    ((congrArg (V m c main_v6) (embWeights t (j 0) (j 1))).trans ((congrArg (V m c main_v6) (eq_ix2 (n0 := 1024) (n1 := 3456) j).symm).trans (congrFun (V_weights m c) j)))
  query t l := (lanes_lane _ l).symm.trans ((congrArg (V m c main_v21) (embHead t l)).trans ((congrFun (host m c).2.2.1 _).trans (twice_apply (m ((c.tc : Thread nD τ).loc main_arg3)) l)))
  slc t l := (lanes_lane _ l).symm.trans ((congrArg (V m c main_v25) (embHead t l)).trans ((congrFun (host m c).2.2.2.1 _).trans (twice_apply (m ((c.tc : Thread nD τ).loc main_arg4)) l)))
  win t l := (lanes_lane _ l).symm.trans ((congrArg (V m c main_v29) (embHead t l)).trans ((congrFun (host m c).2.2.2.2.1 _).trans (twice_apply (m ((c.tc : Thread nD τ).loc main_arg5)) l)))
  halves t k l := (congrArg (V m c main_v16) (embHalves t k l)).trans ((congrFun (host m c).2.2.2.2.2 _).trans (halves_apply k l))

set_option maxHeartbeats 4000000 in
/-- On real arguments the call's arrays hold the outputs. -/
theorem kernel_holds (hx : Reals (f := .f32) (s := M2 512 1024) (m ((c.tc : Thread nD τ).loc main_arg0))) (hg : Reals (f := .f32) (s := M1 1024) (m ((c.tc : Thread nD τ).loc main_arg1)))
    (hw : Reals (f := .f32) (s := M2 1024 3352) (m ((c.tc : Thread nD τ).loc main_arg2))) :
    Holds (n := 512) (m ((c.tc : Thread nD τ).loc main_arg0)) (m ((c.tc : Thread nD τ).loc main_arg1)) (laid (m ((c.tc : Thread nD τ).loc main_arg2)))
      (m ((c.tc : Thread nD τ).loc main_arg3)) (m ((c.tc : Thread nD τ).loc main_arg4)) (m ((c.tc : Thread nD τ).loc main_arg5))
      ((dats m 0 c).arrAt 7 cfg0.N) ((dats m 0 c).arrAt 8 cfg0.N) ((dats m 0 c).arrAt 9 cfg0.N) ((dats m 0 c).arrAt 10 cfg0.N) ((dats m 0 c).arrAt 11 cfg0.N) ((dats m 0 c).arrAt 12 cfg0.N) ((dats m 0 c).arrAt 13 cfg0.N) ((dats m 0 c).arrAt 14 cfg0.N) ((dats m 0 c).arrAt 15 cfg0.N) ((dats m 0 c).arrAt 16 cfg0.N) ((dats m 0 c).arrAt 17 cfg0.N) ((dats m 0 c).arrAt 18 cfg0.N) ((dats m 0 c).arrAt 19 cfg0.N) ((dats m 0 c).arrAt 20 cfg0.N) ((dats m 0 c).arrAt 21 cfg0.N) :=
  (blocks m c).holds hx hg (laid_real _ hw) (fun t => (win0_7.blk t).view.emb) emb512 (fun t => (win0_8.blk t).view.emb) emb256 (fun t => (win0_11.blk t).view.emb) emb128
    (fun t j => (congrFun (blocks7 m c t (flush0_7 t)) j).trans (congrFun (flushed7 m c t) j))
    (fun t j => (congrFun (blocks8 m c t (flush0_8 t)) j).trans (congrFun (flushed8 m c t) j))
    (fun t j => (congrFun (blocks9 m c t (flush0_9 t)) j).trans (congrFun (flushed9 m c t) j))
    (fun t j => (congrFun (blocks10 m c t (flush0_10 t)) j).trans (congrFun (flushed10 m c t) j))
    (fun t j => (congrFun (blocks11 m c t (flush0_11 t)) j).trans (congrFun (flushed11 m c t) j))
    (fun t j => (congrFun (blocks12 m c t (flush0_12 t)) j).trans (congrFun (flushed12 m c t) j))
    (fun t j => (congrFun (blocks13 m c t (flush0_13 t)) j).trans (congrFun (flushed13 m c t) j))
    (fun t j => (congrFun (blocks14 m c t (flush0_14 t)) j).trans (congrFun (flushed14 m c t) j))
    (fun t j => (congrFun (blocks15 m c t (flush0_15 t)) j).trans (congrFun (flushed15 m c t) j))
    (fun t j => (congrFun (blocks16 m c t (flush0_16 t)) j).trans (congrFun (flushed16 m c t) j))
    (fun t j => (congrFun (blocks17 m c t (flush0_17 t)) j).trans (congrFun (flushed17 m c t) j))
    (fun t j => (congrFun (blocks18 m c t (flush0_18 t)) j).trans (congrFun (flushed18 m c t) j))
    (fun t j => (congrFun (blocks19 m c t (flush0_19 t)) j).trans (congrFun (flushed19 m c t) j))
    (fun t j => (congrFun (blocks20 m c t (flush0_20 t)) j).trans (congrFun (flushed20 m c t) j))
    (fun t j => (congrFun (blocks21 m c t (flush0_21 t)) j).trans (congrFun (flushed21 m c t) j))

end

/-! ## The reference -/

section

open Cert.Reference5Ideal Cert.Reference5Ideal.Gen

/-- The shapes' conditions. -/
theorem sides : Sides 512 := by
  constructor <;> first | decide | assumption

/-- The reference's results hold the outputs, and its arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      Holds (n := 512) (m ((c.tc : Thread nD τ).loc main_arg0)) (m ((c.tc : Thread nD τ).loc main_arg1)) (laid (m ((c.tc : Thread nD τ).loc main_arg2)))
        (m ((c.tc : Thread nD τ).loc main_arg3)) (m ((c.tc : Thread nD τ).loc main_arg4)) (m ((c.tc : Thread nD τ).loc main_arg5))
        (r.2.mem ((c.tc : Thread nD τ).loc main_v88)) (r.2.mem ((c.tc : Thread nD τ).loc main_v89)) (r.2.mem ((c.tc : Thread nD τ).loc main_v90)) (r.2.mem ((c.tc : Thread nD τ).loc main_v91)) (r.2.mem ((c.tc : Thread nD τ).loc main_v92)) (r.2.mem ((c.tc : Thread nD τ).loc main_v96)) (r.2.mem ((c.tc : Thread nD τ).loc main_v97)) (r.2.mem ((c.tc : Thread nD τ).loc main_v101)) (r.2.mem ((c.tc : Thread nD τ).loc main_v107)) (r.2.mem ((c.tc : Thread nD τ).loc main_v108)) (r.2.mem ((c.tc : Thread nD τ).loc main_v111)) (r.2.mem ((c.tc : Thread nD τ).loc main_v112)) (r.2.mem ((c.tc : Thread nD τ).loc main_v113)) (r.2.mem ((c.tc : Thread nD τ).loc main_v114)) (r.2.mem ((c.tc : Thread nD τ).loc main_v115))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  refine (θ_run (defs (F := Ideal)) _ _).mono (fun r h c => ?_) (Cert.Reference5Ideal.Value.run (F := Ideal) m ρ)
  obtain ⟨h0, h1, h2, h3, h4, h5, h6, h7, h8, h9, h10, h11, h12, h13, h14, ha⟩ := h c
  exact ⟨⟨h0.trans (Ref.query_eq sides (Ref.cutA sides _ _ _ (by decide) Ref.place_query slices_S512x3352_S512x512_0_0) _),
    h1.trans (Ref.rawPair_eq rfl rfl (Ref.cut sides _ _ _ (by decide) (Ref.place_early 512 (by decide)) slices_S512x3352_S512x128_0_512) (Ref.cut sides _ _ _ (by decide) (Ref.place_early 640 (by decide)) slices_S512x3352_S512x128_0_640) _),
    h2.trans (by
      unfold Cert.Reference5Ideal.Value.res_main_v90
      exact Ref.pair_eq sides rfl rfl (Ref.cut sides _ _ _ (by decide) (Ref.place_early 768 (by decide)) slices_S512x3352_S512x128_0_768) (Ref.cut sides _ _ _ (by decide) (Ref.place_early 896 (by decide)) slices_S512x3352_S512x128_0_896) _),
    h3.trans (by
      unfold Cert.Reference5Ideal.Value.res_main_v91
      exact Ref.pair_eq sides rfl rfl (Ref.cut sides _ _ _ (by decide) (Ref.place_early 1024 (by decide)) slices_S512x3352_S512x128_0_1024) (Ref.cut sides _ _ _ (by decide) (Ref.place_early 1152 (by decide)) slices_S512x3352_S512x128_0_1152) _),
    h4.trans (Ref.head_eq sides rfl (Ref.cut sides _ _ _ (by decide) (Ref.place_early 768 (by decide)) slices_S512x3352_S512x128_0_768) _),
    h5.trans (Ref.beside_eq sides (Ref.cut sides _ _ _ (by decide) (Ref.place_early 896 (by decide)) slices_S512x3352_S512x128_0_896)),
    h6.trans (Ref.head_eq sides rfl (Ref.cut sides _ _ _ (by decide) (Ref.place_early 1024 (by decide)) slices_S512x3352_S512x128_0_1024) _),
    h7.trans (Ref.beside_eq sides (Ref.cut sides _ _ _ (by decide) (Ref.place_early 1152 (by decide)) slices_S512x3352_S512x128_0_1152)),
    h8.trans (Ref.share_eq sides (Ref.cutShare sides _ _ _)),
    h9.trans (Ref.gate_eq sides (Ref.cutA sides _ _ _ (by decide) Ref.place_gateA slices_S512x3352_S512x512_0_1304)),
    h10.trans (Ref.scaled_eq sides (Ref.cutB sides _ _ _ (by decide) Ref.place_sb slices_S512x3352_S512x512_0_1816)),
    h11.trans (Ref.rawPair_eq rfl rfl (Ref.cut sides _ _ _ (by decide) (Ref.place_late 2304 2328 (by decide)) slices_S512x3352_S512x256_0_2328) (Ref.cut sides _ _ _ (by decide) (Ref.place_late 2560 2584 (by decide)) slices_S512x3352_S512x256_0_2584) _),
    h12.trans (Ref.raw_eq sides (Ref.cut sides _ _ _ (by decide) (Ref.place_late 2304 2328 (by decide)) slices_S512x3352_S512x256_0_2328)),
    h13.trans (Ref.raw_eq sides (Ref.cut sides _ _ _ (by decide) (Ref.place_late 2560 2584 (by decide)) slices_S512x3352_S512x256_0_2584)),
    h14.trans (Ref.gate_eq sides (Ref.cutB sides _ _ _ (by decide) Ref.place_gateB slices_S512x3352_S512x512_0_2840))⟩, ha⟩

end

/-! ## The claims -/

/-- The precondition's side conditions. -/
instance preFacts : Cert.Pre_finite_sample_tokens_and_weights.Facts where
  bcast_S_S512x1024 := by decide
  reducesTo_S512x1024_S_d0_1 := by decide
  h_S_ := by decide
  bcast_S_S1024 := by decide
  reducesTo_S1024_S_d0 := by decide
  bcast_S_S1024x3352 := by decide
  reducesTo_S1024x3352_S_d0_1 := by decide

instance : Subsingleton Cert.Pre_finite_sample_tokens_and_weights.S_.Idx := ⟨fun a b => funext fun d => d.elim0⟩

/-- Under the precondition the tokens, the norm's gains and the weights are reals. -/
theorem real_of_pre (x : FVec Ideal (M2 512 1024) .f32) (g : FVec Ideal (M1 1024) .f32) (w : FVec Ideal (M2 1024 3352) .f32) (q s v : FVec Ideal (M1 64) .f32)
    (h : Cert.Pre_finite_sample_tokens_and_weights.fn (F := Ideal) x g w q s v = (fun _ => 1#1)) : Reals x ∧ Reals g ∧ Reals w := by
  obtain ⟨hxg, hw⟩ := IntOp.andi_eq_one.1 (congrFun h (fun d => d.elim0))
  obtain ⟨hx, hg⟩ := IntOp.andi_eq_one.1 hxg
  exact ⟨fun i => Pre.real_of_abs _ (Host.reduce_andi_all _ _ _ _ _ hx i), fun i => Pre.real_of_abs _ (Host.reduce_andi_all _ _ _ _ _ hg i),
    fun i => Pre.real_of_abs _ (Host.reduce_andi_all _ _ _ _ _ hw i)⟩

/-- The projection of the sample's tokens runs, its arguments end unchanged and its counters at zero. -/
theorem frame_kernel : Cert.quiescent_Kernel5 (hKernel5 := Cert.Kernel5.Gen.facts) :=
  fun m ρ _ => Cert.Kernel5.Gen.frame m ρ

/-- The idealized projection likewise. -/
theorem frame_kernelIdeal : Cert.quiescent_Kernel5Ideal (hKernel5Ideal := Cert.Kernel5Ideal.Gen.facts) :=
  fun m ρ _ => Cert.Kernel5Ideal.Gen.frame m ρ

/-- The reference likewise; it declares no semaphore. -/
theorem frame_referenceIdeal : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩) (run m ρ)

set_option maxHeartbeats 4000000 in
/-- On finite tokens, gains and weights every result of the idealized projection is the reference's. -/
theorem algebraic : Cert.algebraic_Kernel5Ideal_Reference5Ideal_pre_finite_sample_tokens_and_weights
    (hKernel5Ideal := Cert.Kernel5Ideal.Gen.facts) (hReference5Ideal := Cert.Reference5Ideal.Gen.facts)
    (hPre_finite_sample_tokens_and_weights := preFacts) := by
  intro m g m' g' hpre hag
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N, fun c => (Cert.Kernel5Ideal.Gen.dats m 0 c).arrAt 9 Cert.Kernel5Ideal.cfg0.N, fun c => (Cert.Kernel5Ideal.Gen.dats m 0 c).arrAt 10 Cert.Kernel5Ideal.cfg0.N, fun c => (Cert.Kernel5Ideal.Gen.dats m 0 c).arrAt 11 Cert.Kernel5Ideal.cfg0.N, fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N, fun c => (Cert.Kernel5Ideal.Gen.dats m 0 c).arrAt 15 Cert.Kernel5Ideal.cfg0.N, fun c => (Cert.Kernel5Ideal.Gen.dats m 0 c).arrAt 16 Cert.Kernel5Ideal.cfg0.N, fun c => (Cert.Kernel5Ideal.Gen.dats m 0 c).arrAt 17 Cert.Kernel5Ideal.cfg0.N, fun c => (Cert.Kernel5Ideal.Gen.dats m 0 c).arrAt 18 Cert.Kernel5Ideal.cfg0.N, fun c => (Cert.Kernel5Ideal.Gen.dats m 0 c).arrAt 19 Cert.Kernel5Ideal.cfg0.N, fun c => (Cert.Kernel5Ideal.Gen.dats m 0 c).arrAt 20 Cert.Kernel5Ideal.cfg0.N, fun c => (Cert.Kernel5Ideal.Gen.dats m 0 c).arrAt 21 Cert.Kernel5Ideal.cfg0.N,
    Cert.Kernel5Ideal.Value.run_blocks m g, ?_⟩
  refine (θ_run Cert.Reference5Ideal.defs _ _).mono (fun r h c => ?_) (run m' g')
  obtain ⟨e0, e1, e2, e3, e4, e5⟩ := hag c
  obtain ⟨hx, hg, hw⟩ := real_of_pre _ _ _ _ _ _ (hpre c)
  have k := kernel_holds m c hx hg hw
  obtain ⟨r, ha⟩ := h c
  rw [e0, e1, e2, e3, e4, e5] at r
  exact ⟨r.query.trans k.query.symm, r.cmp.trans k.cmp.symm, r.slc.trans k.slc.symm, r.win.trans k.win.symm, r.slcK.trans k.slcK.symm, r.slcV.trans k.slcV.symm, r.winK.trans k.winK.symm, r.winV.trans k.winV.symm, r.share.trans k.share.symm, r.gateA.trans k.gateA.symm, r.sbQuery.trans k.sbQuery.symm, r.sb.trans k.sb.symm, r.sbK.trans k.sbK.symm, r.sbV.trans k.sbV.symm, r.gateB.trans k.gateB.symm, ha⟩

end Cert.Proof.PJ.Sample

end
-- ==== Proof.Out.Spec.lean ====
/-
  The output projection at an entry, and the reference's operations for any number `n` of rows.
-/
module

public import proofs.«01_k».proof.Proof.Proj.Tower

@[expose] public section

set_option maxRecDepth 16384

noncomputable section

namespace Cert.Proof.OP

open Idealize.ShloMosaic
open Idealize.ShloMosaic.TcCoe
open Cert.Proof.PJ.Host (M0 M1 M2 side_apply array_ext)

/-- A token's entry beside its two gated outputs through a column of the weights. -/
def entry (x : EReal) (a ga b gb : Fin 512 → EReal) (w : Fin 1024 → EReal) : EReal :=
  x + ((∑ k : Fin 512, a k * ga k * w (Fin.castAdd 512 k)) + ∑ k : Fin 512, b k * gb k * w (Fin.natAdd 512 k))

/-- Equal parts make equal entries. -/
theorem entry_congr {x x' : EReal} {a a' ga ga' b b' gb gb' : Fin 512 → EReal} {w w' : Fin 1024 → EReal} (hx : x = x') (ha : a = a') (hga : ga = ga') (hb : b = b') (hgb : gb = gb') (hw : w = w') :
    entry x a ga b gb w = entry x' a' ga' b' gb' w' := by
  rw [hx, ha, hga, hb, hgb, hw]

variable {n : ℕ}

/-- The array of the entries. -/
def results (x : FVec Ideal (M2 n 1024) .f32) (a ga b gb : FVec Ideal (M2 n 512) .f32) (w : FVec Ideal (M2 1024 1024) .bf16) : FVec Ideal (M2 n 1024) .f32 :=
  fun j => entry (x j) (fun k => a (ix2 (j 0 : Fin n) k)) (fun k => ga (ix2 (j 0 : Fin n) k)) (fun k => b (ix2 (j 0 : Fin n) k)) (fun k => gb (ix2 (j 0 : Fin n) k))
    (fun k => w (ix2 k (j 1 : Fin 1024)))

/-- The dimensions of the product of `n` rows with the weights. -/
def rowsDot (wf : DotDims.WF (M2 n 1024) (M2 1024 1024) (M2 n 1024) [1] [0] [0] [1] [] []) : DotDims (M2 n 1024) (M2 1024 1024) (M2 n 1024) where
  lhsContracting := [1]
  rhsContracting := [0]
  lhsNonContracting := [0]
  rhsNonContracting := [1]
  lhsBatch := []
  rhsBatch := []
  wf := wf

/-- The reference: the two gated outputs side by side, through the weights, beside the tokens. The product's sum over
    1024 columns is the two halves' sums. -/
theorem reference_eq (hn : n ≠ 1) (wf) (h : Shape.Concatenates [M2 n 512, M2 n 512] (M2 n 1024) 1) (hlt) (x : FVec Ideal (M2 n 1024) .f32) (a ga b gb : FVec Ideal (M2 n 512) .f32)
    (w : FVec Ideal (M2 1024 1024) .bf16) :
    addf x (Host.dotGeneral (rowsDot wf) none (concatenate (M2 n 1024) 1 [⟨M2 n 512, mulf a ga⟩, ⟨M2 n 512, mulf b gb⟩] h) (extf .f32 w hlt)) = results x a ga b gb w := by
  have entries : ∀ (i : Fin n) (y : Fin 1024), addf x (Host.dotGeneral (rowsDot wf) none (concatenate (M2 n 1024) 1 [⟨M2 n 512, mulf a ga⟩, ⟨M2 n 512, mulf b gb⟩] h) (extf .f32 w hlt)) (ix2 i y)
      = results x a ga b gb w (ix2 i y) := fun i y => by
    have e : Host.dotGeneral (rowsDot wf) none (concatenate (M2 n 1024) 1 [⟨M2 n 512, mulf a ga⟩, ⟨M2 n 512, mulf b gb⟩] h) (extf .f32 w hlt) (ix2 i y)
        = ∑ k : Fin (512 + 512), concatenate (M2 n 1024) 1 [⟨M2 n 512, mulf a ga⟩, ⟨M2 n 512, mulf b gb⟩] h (ix2 i (k : Fin 1024)) * w (ix2 (k : Fin 1024) y) := by
      generalize concatenate (M2 n 1024) 1 [⟨M2 n 512, mulf a ga⟩, ⟨M2 n 512, mulf b gb⟩] h = C
      pointwise [rowsDot]
      refine Finset.sum_congr rfl fun d _ => congrArg₂ (· * ·) (congrArg C ?_) rfl
      exact funext fun a => Fin.ext (by fin_cases a <;> rfl)
    refine congrArg (x (ix2 i y) + ·) (e.trans ?_)
    rw [Fin.sum_univ_add]
    refine congrArg₂ (· + ·) (Finset.sum_congr rfl fun k _ => congrArg (· * w (ix2 (Fin.castAdd 512 k : Fin 1024) y)) ?_)
      (Finset.sum_congr rfl fun k _ => congrArg (· * w (ix2 (Fin.natAdd 512 k : Fin 1024) y)) ?_)
    · exact (side_apply (c := 512) (d := 512) (e := 1024) rfl h (mulf a ga) (mulf b gb) i (Fin.castAdd 512 k)).trans (dif_pos k.isLt)
    · refine (side_apply (c := 512) (d := 512) (e := 1024) rfl h (mulf a ga) (mulf b gb) i (Fin.natAdd 512 k)).trans ((dif_neg (Nat.not_lt.2 (Nat.le_add_right 512 k.val))).trans ?_)
      exact congrArg (mulf b gb) (congrArg (ix2 i) (Fin.ext (Nat.add_sub_cancel_left 512 k.val)))
  funext j
  rw [eq_ix2 (n0 := n) (n1 := 1024) j]
  exact entries (j 0) (j 1)

end Cert.Proof.OP

end
-- ==== Proof.Out.Blocks.lean ====
/-
  The block a grid point of the output projection leaves, at an entry.
-/
module

public import proofs.«01_k».proof.Proof.Gen.Kernel3Ideal.Value
public import proofs.«01_k».proof.Proof.Out.Spec
public import Idealize.ShloMosaic.Lib.Pipeline.Value
public import Idealize.ShloMosaic.Lib.Pipeline.ValueKit.Tiles

@[expose] public section

set_option maxRecDepth 16384

noncomputable section

namespace Cert.Proof.OP

open Cert.Kernel3Ideal Cert.Kernel3Ideal.Gen
open Idealize.ShloMosaic
open Idealize.ShloMosaic.TcCoe

/-- The stored vector at an entry. -/
theorem pay_apply (a ga b gb : Vec Ideal S256x512 .f32) (x : Vec Ideal S256x1024 .f32) (w0 w1 : Vec Ideal S512x1024 .bf16) (i : Fin 256) (j : Fin 1024) :
    k0_pay1 (F := Ideal) a ga b gb x w0 w1 (ix2 i j)
      = x (ix2 i j) + (∑ k : Fin 512, a (ix2 i k) * ga (ix2 i k) * w0 (ix2 k j)) + ∑ k : Fin 512, b (ix2 i k) * gb (ix2 i k) * w1 (ix2 k j) := by
  unfold k0_pay1
  pointwise

/-- The block is what the entries of its rows say. -/
theorem block_apply (x : Vec Ideal S256x1024 .f32) (a ga b gb : Vec Ideal S256x512 .f32) (w : Vec Ideal S1024x1024 .bf16) (i : Fin 256) (j : Fin 1024) :
    out0_6 (F := Ideal) x a ga b gb w (ix2 i j) = entry (x (ix2 i j)) (fun k => a (ix2 i k)) (fun k => ga (ix2 i k)) (fun k => b (ix2 i k)) (fun k => gb (ix2 i k)) (fun k => w (ix2 k j)) := by
  have h0 : ∀ k : Fin 512, View.ld w r0_2 (ix2 k j) = w (ix2 (Fin.castAdd 512 k : Fin 1024) j) := fun k =>
    View.ld_unit_apply_of w _ _ _ _ _ fun b => by fin_cases b <;> simp [ix2]
  have h1 : ∀ k : Fin 512, View.ld w r0_3 (ix2 k j) = w (ix2 (Fin.natAdd 512 k : Fin 1024) j) := fun k =>
    View.ld_unit_apply_of w _ _ _ _ _ fun b => by fin_cases b <;> simp [ix2, Nat.add_comm]
  have e : out0_6 (F := Ideal) x a ga b gb w = k0_pay1 a ga b gb x (View.ld w r0_2) (View.ld w r0_3) := by
    unfold out0_6
    rw [View.ld_unit_lit inb_S256x1024_S256x1024_0_0 x (by decide), View.ld_unit_lit inb_S256x512_S256x512_0_0 a (by decide), View.ld_unit_lit inb_S256x512_S256x512_0_0 ga (by decide),
      View.ld_unit_lit inb_S256x512_S256x512_0_0 b (by decide), View.ld_unit_lit inb_S256x512_S256x512_0_0 gb (by decide)]
    exact View.canon_cons_unit_lit (S := S256x1024) (Val := Elt Ideal) (e := .f32) inb_S256x1024_S256x1024_0_0 _ _ (by decide)
  rw [e, pay_apply]
  simp only [h0, h1]
  exact add_assoc _ _ _

end Cert.Proof.OP

end
-- ==== Proof.Out.Final.lean ====
/-
  The output projection's claims, for the prompt's rows and for the sample's.
-/
module

public import proofs.«01_k».proof.Defs
public import proofs.«01_k».proof.Proof.Gen.Kernel3.Frame
public import proofs.«01_k».proof.Proof.Gen.Kernel4.Frame
public import proofs.«01_k».proof.Proof.Gen.Kernel4Ideal.Value
public import proofs.«01_k».proof.Proof.Gen.Reference3Ideal.Run
public import proofs.«01_k».proof.Proof.Gen.Reference4Ideal.Run
public import proofs.«01_k».proof.Proof.Out.Blocks
public import proofs.«01_k».proof.Proof.Places
public import Idealize.ShloMosaic.Lib.Pipeline.Covers
public import Idealize.ShloMosaic.Lib.StableHlo.Run
public import Idealize.ShloMosaic.Adequacy
public import Idealize.ShloMosaic.Init

@[expose] public section

set_option maxRecDepth 16384

noncomputable section

namespace Cert.Proof.OP

open Idealize.ShloMosaic Idealize.SL.Sem
open Idealize.ShloMosaic.TcCoe
open Cert.Proof.PJ.Host (M0 M1 M2 array_ext)

/-! ## The prompt's rows -/

namespace Prompt

open Cert.Kernel3Ideal Cert.Kernel3Ideal.Gen Cert.Kernel3Ideal.Value

theorem index0 : ∀ t : Fin grid0.N, win0_0.index t = ![(grid0.coords t 0).val, 0] := by decide +kernel
theorem index1 : ∀ t : Fin grid0.N, win0_1.index t = ![(grid0.coords t 0).val, 0] := by decide +kernel
theorem index5 : ∀ t : Fin grid0.N, win0_5.index t = ![0, 0] := by decide +kernel

variable (m : (ℓ : Loc nD τ sig) → Buf (Elt Ideal) ℓ) (c : Dev nD)

/-- The token of a row of a grid point's block. -/
abbrev token (t : Fin grid0.N) (i : Fin 256) : Fin 16384 :=
  ⟨256 * (grid0.coords t 0).val + i.val, by have h : (grid0.coords t 0).val < 64 := (grid0.coords t 0).isLt; have := i.isLt; omega⟩

/-- Every row is of one grid point's block. -/
theorem token_surj (r : Fin 16384) : ∃ t i, token t i = r := by
  have hr := r.isLt
  obtain ⟨t, ht⟩ := Pipeline.Grid.coords_surjective grid0 (fun a => match a with
    | ⟨0, _⟩ => (⟨r.val / 256, by show _ < 64; omega⟩ : Fin 64))
  have h0 : (grid0.coords t 0).val = r.val / 256 := by rw [ht]
  exact ⟨t, ⟨r.val % 256, Nat.mod_lt _ (by decide)⟩, Fin.ext (by
    show 256 * (grid0.coords t 0).val + r.val % 256 = r.val
    omega)⟩

/-- Where a block of the tokens lies, also one of the result. -/
theorem emb_wide (t : Fin grid0.N) (i : Fin 256) (d : Fin 1024) : (win0_0.blk t).view.emb (ix2 i d) = ix2 (token t i) d := by
  refine funext fun x => Fin.ext ?_
  fin_cases x <;> blk_simp [index0 t] <;> simp [ix2, index0 t]
  exact Nat.mul_comm _ _

/-- Where a block of an attention's output or of its gates lies. -/
theorem emb_half (t : Fin grid0.N) (i : Fin 256) (d : Fin 512) : (win0_1.blk t).view.emb (ix2 i d) = ix2 (token t i) d := by
  refine funext fun x => Fin.ext ?_
  fin_cases x <;> blk_simp [index1 t] <;> simp [ix2, index1 t]
  exact Nat.mul_comm _ _

/-- The weights are in one block. -/
theorem emb_weights (t : Fin grid0.N) (k d : Fin 1024) : (win0_5.blk t).view.emb (ix2 k d) = ix2 k d := by
  refine funext fun x => Fin.ext ?_
  fin_cases x <;> blk_simp [index5 t] <;> simp [ix2, index5 t]

/-- A block's entries are those of its tokens. -/
theorem block_entry (t : Fin grid0.N) (i : Fin 256) (y : Fin 1024) :
    out0_6 (F := Ideal) (iblk m c 0 t) (iblk m c 1 t) (iblk m c 2 t) (iblk m c 3 t) (iblk m c 4 t) (iblk m c 5 t) (ix2 i y)
      = results (n := 16384) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (ix2 (token t i) y) := by
  refine (block_apply _ _ _ _ _ _ i y).trans ?_
  have h0 := congrArg (m ((c.tc : Thread nD τ).loc main_arg0)) (emb_wide t i y)
  have h1 := funext fun k => congrArg (m ((c.tc : Thread nD τ).loc main_arg1)) (emb_half t i k)
  have h2 := funext fun k => congrArg (m ((c.tc : Thread nD τ).loc main_arg2)) (emb_half t i k)
  have h3 := funext fun k => congrArg (m ((c.tc : Thread nD τ).loc main_arg3)) (emb_half t i k)
  have h4 := funext fun k => congrArg (m ((c.tc : Thread nD τ).loc main_arg4)) (emb_half t i k)
  have h5 := funext fun k => congrArg (m ((c.tc : Thread nD τ).loc main_arg5)) (emb_weights t k y)
  exact entry_congr h0 h1 h2 h3 h4 h5

/-- The call's array. -/
theorem arr6 : (dats m 0 c).arrAt 6 cfg0.N = results (n := 16384) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) :=
  array_ext (n := 16384) (k := 1024) (α := EReal) _ _ token token_surj (fun t => (win0_6.blk t).view.emb) emb_wide
    _ (fun t j => congrFun (blocks6 m c t (flush0_6 t)) j) (fun t i y => (congrFun (flushed6 m c t) _).trans (block_entry m c t i y))

/-- The output projection runs, its arguments end unchanged and its counters at zero. -/
theorem frame_kernel : Cert.quiescent_Kernel3 (hKernel3 := Cert.Kernel3.Gen.facts) :=
  fun m ρ _ => Cert.Kernel3.Gen.frame m ρ

/-- The idealized call likewise. -/
theorem frame_kernelIdeal : Cert.quiescent_Kernel3Ideal (hKernel3Ideal := Cert.Kernel3Ideal.Gen.facts) :=
  fun m ρ _ => Cert.Kernel3Ideal.Gen.frame m ρ

/-- The reference likewise; it declares no semaphore. -/
theorem frame_referenceIdeal : Cert.quiescent_Reference3Ideal (hReference3Ideal := Cert.Reference3Ideal.Gen.facts) := by
  intro m ρ _
  exact (θ_run Cert.Reference3Ideal.defs _ _).mono (fun r h => ⟨fun c => (h c).2, sem_eq_zero_of_no_sems (by decide) r.2⟩) (Cert.Reference3Ideal.Value.run m ρ)

/-- The idealized call's result is the reference's. -/
theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨e0, e1, e2, e3, e4, e5⟩ := hag c
  exact ⟨(h c).1.trans ((reference_eq (n := 16384) (by decide) _ _ _ _ _ _ _ _ _).trans (by rw [e0, e1, e2, e3, e4, e5]; exact (arr6 m c).symm)), (h c).2⟩

end Prompt

/-! ## The sample's rows -/

namespace Sample

open Cert.Kernel4Ideal Cert.Kernel4Ideal.Gen Cert.Kernel4Ideal.Value

theorem index0 : ∀ t : Fin grid0.N, win0_0.index t = ![(grid0.coords t 0).val, 0] := by decide +kernel
theorem index1 : ∀ t : Fin grid0.N, win0_1.index t = ![(grid0.coords t 0).val, 0] := by decide +kernel
theorem index5 : ∀ t : Fin grid0.N, win0_5.index t = ![0, 0] := by decide +kernel

variable (m : (ℓ : Loc nD τ sig) → Buf (Elt Ideal) ℓ) (c : Dev nD)

/-- The token of a row of a grid point's block. -/
abbrev token (t : Fin grid0.N) (i : Fin 256) : Fin 512 :=
  ⟨256 * (grid0.coords t 0).val + i.val, by have h : (grid0.coords t 0).val < 2 := (grid0.coords t 0).isLt; have := i.isLt; omega⟩

/-- Every row is of one grid point's block. -/
theorem token_surj (r : Fin 512) : ∃ t i, token t i = r := by
  have hr := r.isLt
  obtain ⟨t, ht⟩ := Pipeline.Grid.coords_surjective grid0 (fun a => match a with
    | ⟨0, _⟩ => (⟨r.val / 256, by show _ < 2; omega⟩ : Fin 2))
  have h0 : (grid0.coords t 0).val = r.val / 256 := by rw [ht]
  exact ⟨t, ⟨r.val % 256, Nat.mod_lt _ (by decide)⟩, Fin.ext (by
    show 256 * (grid0.coords t 0).val + r.val % 256 = r.val
    omega)⟩

/-- Where a block of the tokens lies, also one of the result. -/
theorem emb_wide (t : Fin grid0.N) (i : Fin 256) (d : Fin 1024) : (win0_0.blk t).view.emb (ix2 i d) = ix2 (token t i) d := by
  refine funext fun x => Fin.ext ?_
  fin_cases x <;> blk_simp [index0 t] <;> simp [ix2, index0 t]
  exact Nat.mul_comm _ _

/-- Where a block of an attention's output or of its gates lies. -/
theorem emb_half (t : Fin grid0.N) (i : Fin 256) (d : Fin 512) : (win0_1.blk t).view.emb (ix2 i d) = ix2 (token t i) d := by
  refine funext fun x => Fin.ext ?_
  fin_cases x <;> blk_simp [index1 t] <;> simp [ix2, index1 t]
  exact Nat.mul_comm _ _

/-- The weights are in one block. -/
theorem emb_weights (t : Fin grid0.N) (k d : Fin 1024) : (win0_5.blk t).view.emb (ix2 k d) = ix2 k d := by
  refine funext fun x => Fin.ext ?_
  fin_cases x <;> blk_simp [index5 t] <;> simp [ix2, index5 t]

/-- A block's entries are those of its tokens. -/
theorem block_entry (t : Fin grid0.N) (i : Fin 256) (y : Fin 1024) :
    out0_6 (F := Ideal) (iblk m c 0 t) (iblk m c 1 t) (iblk m c 2 t) (iblk m c 3 t) (iblk m c 4 t) (iblk m c 5 t) (ix2 i y)
      = results (n := 512) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (ix2 (token t i) y) := by
  refine (block_apply _ _ _ _ _ _ i y).trans ?_
  have h0 := congrArg (m ((c.tc : Thread nD τ).loc main_arg0)) (emb_wide t i y)
  have h1 := funext fun k => congrArg (m ((c.tc : Thread nD τ).loc main_arg1)) (emb_half t i k)
  have h2 := funext fun k => congrArg (m ((c.tc : Thread nD τ).loc main_arg2)) (emb_half t i k)
  have h3 := funext fun k => congrArg (m ((c.tc : Thread nD τ).loc main_arg3)) (emb_half t i k)
  have h4 := funext fun k => congrArg (m ((c.tc : Thread nD τ).loc main_arg4)) (emb_half t i k)
  have h5 := funext fun k => congrArg (m ((c.tc : Thread nD τ).loc main_arg5)) (emb_weights t k y)
  exact entry_congr h0 h1 h2 h3 h4 h5

/-- The call's array. -/
theorem arr6 : (dats m 0 c).arrAt 6 cfg0.N = results (n := 512) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) :=
  array_ext (n := 512) (k := 1024) (α := EReal) _ _ token token_surj (fun t => (win0_6.blk t).view.emb) emb_wide
    _ (fun t j => congrFun (blocks6 m c t (flush0_6 t)) j) (fun t i y => (congrFun (flushed6 m c t) _).trans (block_entry m c t i y))

/-- The output projection runs, its arguments end unchanged and its counters at zero. -/
theorem frame_kernel : Cert.quiescent_Kernel4 (hKernel4 := Cert.Kernel4.Gen.facts) :=
  fun m ρ _ => Cert.Kernel4.Gen.frame m ρ

/-- The idealized call likewise. -/
theorem frame_kernelIdeal : Cert.quiescent_Kernel4Ideal (hKernel4Ideal := Cert.Kernel4Ideal.Gen.facts) :=
  fun m ρ _ => Cert.Kernel4Ideal.Gen.frame m ρ

/-- The reference likewise; it declares no semaphore. -/
theorem frame_referenceIdeal : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩) (Cert.Reference4Ideal.Value.run m ρ)

/-- The idealized call's result is the reference's. -/
theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => (Cert.Kernel4Ideal.Gen.dats m 0 c).arrAt 6 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨e0, e1, e2, e3, e4, e5⟩ := hag c
  exact ⟨(h c).1.trans ((reference_eq (n := 512) (by decide) _ _ _ _ _ _ _ _ _).trans (by rw [e0, e1, e2, e3, e4, e5]; exact (arr6 m c).symm)), (h c).2⟩

end Sample

end Cert.Proof.OP

end
-- ==== Proof.lean ====
/-
  The proof of `Cert.Claim`: for each kernel the frames of the kernel, of its idealization and of the reference, the named
  constant, and the equality of the idealization's results and the reference's. The work is in the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Bits.Launch
public import proofs.«01_k».proof.Proof.Launch
public import proofs.«01_k».proof.Proof.Equal
public import proofs.«01_k».proof.Proof.Finite
public import proofs.«01_k».proof.Proof.Proj.Prompt
public import proofs.«01_k».proof.Proof.Proj.Sample
public import proofs.«01_k».proof.Proof.Out.Final
public import Idealize.ShloMosaic.Adequacy
public import Idealize.ShloMosaic.Init

@[expose] public section

noncomputable section

namespace Cert.Proof

open Idealize.ShloMosaic Idealize.SL.Sem

/-- The kernel runs, its arguments end unchanged and its counters at zero. -/
theorem frame_kernel : Cert.quiescent_Kernel (hKernel := Cert.Kernel.Gen.facts) :=
  fun m ρ _ => Cert.Proof.KB.frame m ρ

/-- The idealized kernel likewise. -/
theorem frame_kernelIdeal : Cert.quiescent_KernelIdeal (hKernelIdeal := Cert.KernelIdeal.Gen.facts) :=
  fun m ρ _ => Cert.Proof.KI.frame m ρ

/-- The reference likewise; it declares no semaphore. -/
theorem frame_referenceIdeal : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The one named constant is what the idealization prints in its place. -/
theorem preserves : Cert.preserves_Kernel_KernelIdeal := IdealRules.named_const.statement _ _ _ _ _ rfl

/-- On finite queries and keys the idealized kernel's result is the reference's. -/
theorem algebraic : Cert.algebraic_KernelIdeal_ReferenceIdeal_pre_finite_queries_and_keys
    (hKernelIdeal := Cert.KernelIdeal.Gen.facts) (hReferenceIdeal := Cert.ReferenceIdeal.Gen.facts)
    (hPre_finite_queries_and_keys := Cert.Proof.Pre.preFacts) := by
  intro m g m' g' hpre hag
  refine ⟨fun c => (Cert.Proof.KI.dats m 0 c).arrAt 4 (Cert.KernelIdeal.cfg0 (F := Ideal)).N, Cert.Proof.KI.run_blocks m g, ?_⟩
  refine (θ_run Cert.ReferenceIdeal.defs _ _).mono (fun r h c => ⟨(h c).1.trans ?_, (h c).2⟩)
    (Cert.ReferenceIdeal.Value.run (F := Ideal) m' g')
  obtain ⟨h0, h1, h2⟩ := hag c
  obtain ⟨hq, hk⟩ := Cert.Proof.Pre.real_of_pre _ _ _ (hpre c)
  refine (Cert.Proof.RI.result_eq m' c).trans ?_
  refine Eq.trans ?_ (Cert.Proof.KI.results_eq m c hq hk).symm
  rw [h0, h1, h2]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Proof.Pre.preFacts, Cert.Proof.PJ.Prompt.preFacts, Cert.Proof.PJ.Sample.preFacts,
    frame_kernel, frame_kernelIdeal, fun m ρ _ => frame_kernelIdeal m ρ trivial,
    frame_referenceIdeal, fun m ρ _ => frame_referenceIdeal m ρ trivial,
    PJ.Prompt.frame_kernel, PJ.Prompt.frame_kernelIdeal, fun m ρ _ => PJ.Prompt.frame_kernelIdeal m ρ trivial,
    PJ.Prompt.frame_referenceIdeal, fun m ρ _ => PJ.Prompt.frame_referenceIdeal m ρ trivial,
    OP.Prompt.frame_kernel, OP.Prompt.frame_kernelIdeal, OP.Prompt.frame_referenceIdeal, OP.Sample.frame_kernel, OP.Sample.frame_kernelIdeal, OP.Sample.frame_referenceIdeal,
    PJ.Sample.frame_kernel, PJ.Sample.frame_kernelIdeal, fun m ρ _ => PJ.Sample.frame_kernelIdeal m ρ trivial,
    PJ.Sample.frame_referenceIdeal, fun m ρ _ => PJ.Sample.frame_referenceIdeal m ρ trivial,
    preserves, algebraic, trivial, PJ.Prompt.algebraic, trivial, OP.Prompt.algebraic, trivial, OP.Sample.algebraic, trivial, PJ.Sample.algebraic⟩

end Cert.Proof

end
